-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_in [hPre_finite_in : Cert.Pre_finite_in.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_in.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_in [hPre_finite_in : Cert.Pre_finite_in.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_in.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite_in [hKernel2Ideal : Cert.Kernel2Ideal.Facts] [hPre_finite_in : Cert.Pre_finite_in.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_in m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite_in [hReference2Ideal : Cert.Reference2Ideal.Facts] [hPre_finite_in : Cert.Pre_finite_in.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_in m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite_in [hKernel2Ideal : Cert.Kernel2Ideal.Facts] [hReference2Ideal : Cert.Reference2Ideal.Facts] [hPre_finite_in : Cert.Pre_finite_in.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_in m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)) (v4 : (c : Dev Cert.Kernel2Ideal.nD) → Buf (Elt Ideal) ((c.tc : Thread Cert.Kernel2Ideal.nD Cert.Kernel2Ideal.τ).loc Cert.Kernel2Ideal.main_v0_4)) (v5 : (c : Dev Cert.Kernel2Ideal.nD) → Buf (Elt Ideal) ((c.tc : Thread Cert.Kernel2Ideal.nD Cert.Kernel2Ideal.τ).loc Cert.Kernel2Ideal.main_v0_5)) (v6 : (c : Dev Cert.Kernel2Ideal.nD) → Buf (Elt Ideal) ((c.tc : Thread Cert.Kernel2Ideal.nD Cert.Kernel2Ideal.τ).loc Cert.Kernel2Ideal.main_v0_6)) (v7 : (c : Dev Cert.Kernel2Ideal.nD) → Buf (Elt Ideal) ((c.tc : Thread Cert.Kernel2Ideal.nD Cert.Kernel2Ideal.τ).loc Cert.Kernel2Ideal.main_v0_7)) (v8 : (c : Dev Cert.Kernel2Ideal.nD) → Buf (Elt Ideal) ((c.tc : Thread Cert.Kernel2Ideal.nD Cert.Kernel2Ideal.τ).loc Cert.Kernel2Ideal.main_v0_8)) (v9 : (c : Dev Cert.Kernel2Ideal.nD) → Buf (Elt Ideal) ((c.tc : Thread Cert.Kernel2Ideal.nD Cert.Kernel2Ideal.τ).loc Cert.Kernel2Ideal.main_v0_9)) (v10 : (c : Dev Cert.Kernel2Ideal.nD) → Buf (Elt Ideal) ((c.tc : Thread Cert.Kernel2Ideal.nD Cert.Kernel2Ideal.τ).loc Cert.Kernel2Ideal.main_v0_10)) (v11 : (c : Dev Cert.Kernel2Ideal.nD) → Buf (Elt Ideal) ((c.tc : Thread Cert.Kernel2Ideal.nD Cert.Kernel2Ideal.τ).loc Cert.Kernel2Ideal.main_v0_11)) (v12 : (c : Dev Cert.Kernel2Ideal.nD) → Buf (Elt Ideal) ((c.tc : Thread Cert.Kernel2Ideal.nD Cert.Kernel2Ideal.τ).loc Cert.Kernel2Ideal.main_v0_12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_v0_4) = v4 c
          ∧ r.2.mem ((c.tc : Thread Cert.Kernel2Ideal.nD Cert.Kernel2Ideal.τ).loc Cert.Kernel2Ideal.main_v0_5) = v5 c
          ∧ r.2.mem ((c.tc : Thread Cert.Kernel2Ideal.nD Cert.Kernel2Ideal.τ).loc Cert.Kernel2Ideal.main_v0_6) = v6 c
          ∧ r.2.mem ((c.tc : Thread Cert.Kernel2Ideal.nD Cert.Kernel2Ideal.τ).loc Cert.Kernel2Ideal.main_v0_7) = v7 c
          ∧ r.2.mem ((c.tc : Thread Cert.Kernel2Ideal.nD Cert.Kernel2Ideal.τ).loc Cert.Kernel2Ideal.main_v0_8) = v8 c
          ∧ r.2.mem ((c.tc : Thread Cert.Kernel2Ideal.nD Cert.Kernel2Ideal.τ).loc Cert.Kernel2Ideal.main_v0_9) = v9 c
          ∧ r.2.mem ((c.tc : Thread Cert.Kernel2Ideal.nD Cert.Kernel2Ideal.τ).loc Cert.Kernel2Ideal.main_v0_10) = v10 c
          ∧ r.2.mem ((c.tc : Thread Cert.Kernel2Ideal.nD Cert.Kernel2Ideal.τ).loc Cert.Kernel2Ideal.main_v0_11) = v11 c
          ∧ r.2.mem ((c.tc : Thread Cert.Kernel2Ideal.nD Cert.Kernel2Ideal.τ).loc Cert.Kernel2Ideal.main_v0_12) = v12 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v188) = v0 c
          ∧ r.2.mem ((c.tc : Thread Cert.Reference2Ideal.nD Cert.Reference2Ideal.τ).loc Cert.Reference2Ideal.main_v189) = v1 c
          ∧ r.2.mem ((c.tc : Thread Cert.Reference2Ideal.nD Cert.Reference2Ideal.τ).loc Cert.Reference2Ideal.main_v190) = v2 c
          ∧ r.2.mem ((c.tc : Thread Cert.Reference2Ideal.nD Cert.Reference2Ideal.τ).loc Cert.Reference2Ideal.main_v191) = v3 c
          ∧ r.2.mem ((c.tc : Thread Cert.Reference2Ideal.nD Cert.Reference2Ideal.τ).loc Cert.Reference2Ideal.main_v192) = v4 c
          ∧ r.2.mem ((c.tc : Thread Cert.Reference2Ideal.nD Cert.Reference2Ideal.τ).loc Cert.Reference2Ideal.main_v193) = v5 c
          ∧ r.2.mem ((c.tc : Thread Cert.Reference2Ideal.nD Cert.Reference2Ideal.τ).loc Cert.Reference2Ideal.main_v194) = v6 c
          ∧ r.2.mem ((c.tc : Thread Cert.Reference2Ideal.nD Cert.Reference2Ideal.τ).loc Cert.Reference2Ideal.main_v195) = v7 c
          ∧ r.2.mem ((c.tc : Thread Cert.Reference2Ideal.nD Cert.Reference2Ideal.τ).loc Cert.Reference2Ideal.main_v196) = v8 c
          ∧ r.2.mem ((c.tc : Thread Cert.Reference2Ideal.nD Cert.Reference2Ideal.τ).loc Cert.Reference2Ideal.main_v197) = v9 c
          ∧ r.2.mem ((c.tc : Thread Cert.Reference2Ideal.nD Cert.Reference2Ideal.τ).loc Cert.Reference2Ideal.main_v198) = v10 c
          ∧ r.2.mem ((c.tc : Thread Cert.Reference2Ideal.nD Cert.Reference2Ideal.τ).loc Cert.Reference2Ideal.main_v199) = v11 c
          ∧ r.2.mem ((c.tc : Thread Cert.Reference2Ideal.nD Cert.Reference2Ideal.τ).loc Cert.Reference2Ideal.main_v200) = v12 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v70) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v72) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_qk : Cert.Pre_finite_qk.Facts) (hPre_finite_in : Cert.Pre_finite_in.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Kernel2Ideal_pre_finite_in (hKernel2Ideal := hKernel2Ideal) (hPre_finite_in := hPre_finite_in)
    ∧ quiescent_Reference2Ideal (hReference2Ideal := hReference2Ideal)
    ∧ quiescent_Reference2Ideal_pre_finite_in (hReference2Ideal := hReference2Ideal) (hPre_finite_in := hPre_finite_in)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal_pre_finite_in (hKernel2Ideal := hKernel2Ideal) (hReference2Ideal := hReference2Ideal) (hPre_finite_in := hPre_finite_in)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_in.lean ====
abbrev S4x8448x1024 : Shape := ⟨3, ![4, 8448, 1024]⟩
abbrev S8x1x3072 : Shape := ⟨3, ![8, 1, 3072]⟩
abbrev S1x1024 : Shape := ⟨2, ![1, 1024]⟩
abbrev S1024x8448 : Shape := ⟨2, ![1024, 8448]⟩
abbrev S8448x128 : Shape := ⟨2, ![8448, 128]⟩
abbrev S1x128 : Shape := ⟨2, ![1, 128]⟩
abbrev S_ : Shape := ⟨0, ![]⟩

class Facts : Prop where
  bcast_S_S4x8448x1024 : S_.BroadcastsInDim S4x8448x1024 (![] : Fin 0 → Fin S4x8448x1024.rank)
  reducesTo_S4x8448x1024_S_d0_1_2 : S4x8448x1024.ReducesTo [0, 1, 2] S_
  h_S_ : 0 < S_.numel
  bcast_S_S8x1x3072 : S_.BroadcastsInDim S8x1x3072 (![] : Fin 0 → Fin S8x1x3072.rank)
  reducesTo_S8x1x3072_S_d0_1_2 : S8x1x3072.ReducesTo [0, 1, 2] S_
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S1024x8448 : S_.BroadcastsInDim S1024x8448 (![] : Fin 0 → Fin S1024x8448.rank)
  reducesTo_S1024x8448_S_d0_1 : S1024x8448.ReducesTo [0, 1] S_

variable [Facts]

def fn_part1 {F : FTy → Type} [FloatOps F] (main_v13 : IVec S_ 1) (main_v15 : FVec F S1024x8448 .f32) (main_v16 : FVec F S1024x8448 .f32) : IVec S_ 1 :=
  let main_v17 : IVec S1024x8448 1 := cmpf .olt main_v15 main_v16
  let main_c_5 : IVec S_ 1 := constantI S_ 1 1#1
  let main_v18 : IVec S_ 1 := (fun x v => Host.reduce IntOp.andi x v reducesTo_S1024x8448_S_d0_1 h_S_) main_v17 main_c_5
  let main_v19 : IVec S_ 1 := andi main_v13 main_v18
  main_v19

def fn {F : FTy → Type} [FloatOps F] (main_arg0 : FVec F S4x8448x1024 .f32) (main_arg1 : FVec F S8x1x3072 .f32) (main_arg2 : FVec F S1x1024 .f32) (main_arg3 : FVec F S1024x8448 .bf16) (main_arg4 : FVec F S8448x128 .f32) (main_arg5 : FVec F S8448x128 .f32) (main_arg6 : FVec F S1x128 .f32) (main_arg7 : FVec F S1x128 .f32) : IVec S_ 1 :=
  let main_v0 : FVec F S4x8448x1024 .f32 := Host.absf main_arg0
  let main_cst : FVec F S_ .f32 := constant S_ .f32 0x7F800000#32
  let main_v1 : FVec F S4x8448x1024 .f32 := broadcastInDim S4x8448x1024 ![] bcast_S_S4x8448x1024 main_cst
  let main_v2 : IVec S4x8448x1024 1 := cmpf .olt main_v0 main_v1
  let main_c : IVec S_ 1 := constantI S_ 1 1#1
  let main_v3 : IVec S_ 1 := (fun x v => Host.reduce IntOp.andi x v reducesTo_S4x8448x1024_S_d0_1_2 h_S_) main_v2 main_c
  let main_v4 : FVec F S8x1x3072 .f32 := Host.absf main_arg1
  let main_cst_0 : FVec F S_ .f32 := constant S_ .f32 0x7F800000#32
  let main_v5 : FVec F S8x1x3072 .f32 := broadcastInDim S8x1x3072 ![] bcast_S_S8x1x3072 main_cst_0
  let main_v6 : IVec S8x1x3072 1 := cmpf .olt main_v4 main_v5
  let main_c_1 : IVec S_ 1 := constantI S_ 1 1#1
  let main_v7 : IVec S_ 1 := (fun x v => Host.reduce IntOp.andi x v reducesTo_S8x1x3072_S_d0_1_2 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x8448 .f32 := (extf .f32 · bitsLt_bf16_f32) main_arg3
  let main_v15 : FVec F S1024x8448 .f32 := Host.absf main_v14
  let main_cst_4 : FVec F S_ .f32 := constant S_ .f32 0x7F800000#32
  let main_v16 : FVec F S1024x8448 .f32 := broadcastInDim S1024x8448 ![] bcast_S_S1024x8448 main_cst_4
  fn_part1 (F := F) main_v13 main_v15 main_v16
-- ==== Pre_finite_qk.lean ====
abbrev S4x8448x512 : Shape := ⟨3, ![4, 8448, 512]⟩
abbrev S4x8448x128 : Shape := ⟨3, ![4, 8448, 128]⟩
abbrev S_ : Shape := ⟨0, ![]⟩

class Facts : Prop where
  bitsLt_bf16_f32 : FTy.bits .bf16 < FTy.bits .f32
  bcast_S_S4x8448x512 : S_.BroadcastsInDim S4x8448x512 (![] : Fin 0 → Fin S4x8448x512.rank)
  reducesTo_S4x8448x512_S_d0_1_2 : S4x8448x512.ReducesTo [0, 1, 2] S_
  h_S_ : 0 < S_.numel
  bcast_S_S4x8448x128 : S_.BroadcastsInDim S4x8448x128 (![] : Fin 0 → Fin S4x8448x128.rank)
  reducesTo_S4x8448x128_S_d0_1_2 : S4x8448x128.ReducesTo [0, 1, 2] S_

variable [Facts]

def fn {F : FTy → Type} [FloatOps F] (main_arg0 : FVec F S4x8448x512 .bf16) (main_arg1 : FVec F S4x8448x128 .bf16) (main_arg2 : FVec F S4x8448x128 .bf16) (main_arg3 : FVec F S4x8448x512 .bf16) : IVec S_ 1 :=
  let main_v0 : FVec F S4x8448x512 .f32 := (extf .f32 · bitsLt_bf16_f32) main_arg0
  let main_v1 : FVec F S4x8448x512 .f32 := Host.absf main_v0
  let main_cst : FVec F S_ .f32 := constant S_ .f32 0x7F800000#32
  let main_v2 : FVec F S4x8448x512 .f32 := broadcastInDim S4x8448x512 ![] bcast_S_S4x8448x512 main_cst
  let main_v3 : IVec S4x8448x512 1 := cmpf .olt main_v1 main_v2
  let main_c : IVec S_ 1 := constantI S_ 1 1#1
  let main_v4 : IVec S_ 1 := (fun x v => Host.reduce IntOp.andi x v reducesTo_S4x8448x512_S_d0_1_2 h_S_) main_v3 main_c
  let main_v5 : FVec F S4x8448x128 .f32 := (extf .f32 · bitsLt_bf16_f32) main_arg1
  let main_v6 : FVec F S4x8448x128 .f32 := Host.absf main_v5
  let main_cst_0 : FVec F S_ .f32 := constant S_ .f32 0x7F800000#32
  let main_v7 : FVec F S4x8448x128 .f32 := broadcastInDim S4x8448x128 ![] bcast_S_S4x8448x128 main_cst_0
  let main_v8 : IVec S4x8448x128 1 := cmpf .olt main_v6 main_v7
  let main_c_1 : IVec S_ 1 := constantI S_ 1 1#1
  let main_v9 : IVec S_ 1 := (fun x v => Host.reduce IntOp.andi x v reducesTo_S4x8448x128_S_d0_1_2 h_S_) main_v8 main_c_1
  let main_v10 : IVec S_ 1 := andi main_v4 main_v9
  main_v10
-- ==== Kernel.lean ====
abbrev S4x8448x512 : Shape := ⟨3, ![4, 8448, 512]⟩
abbrev S4x8448x128 : Shape := ⟨3, ![4, 8448, 128]⟩
abbrev S1x256x512 : Shape := ⟨3, ![1, 256, 512]⟩
abbrev S1x8448x128 : Shape := ⟨3, ![1, 8448, 128]⟩
abbrev S512x1 : Shape := ⟨2, ![512, 1]⟩
abbrev S512x128 : Shape := ⟨2, ![512, 128]⟩
abbrev S1x128 : Shape := ⟨2, ![1, 128]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩

abbrev nBuf : Space → Nat
  | .hbm => 5
  | .vmem => 13
  | .smem => 0
  | _ => 0

abbrev bufTy : (tb : Table) → Fin (tcTables nBuf tb) → BufTy
  | .hbm, ⟨0, _⟩ => ⟨S4x8448x512, .bf16⟩
  | .hbm, ⟨1, _⟩ => ⟨S4x8448x128, .bf16⟩
  | .hbm, ⟨2, _⟩ => ⟨S4x8448x128, .bf16⟩
  | .hbm, ⟨3, _⟩ => ⟨S4x8448x512, .bf16⟩
  | .hbm, ⟨4, _⟩ => ⟨S4x8448x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x8448x128, .bf16⟩
  | .local _ .vmem, ⟨3, _⟩ => ⟨S1x8448x128, .bf16⟩
  | .local _ .vmem, ⟨4, _⟩ => ⟨S1x8448x128, .bf16⟩
  | .local _ .vmem, ⟨5, _⟩ => ⟨S1x8448x128, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S512x1, .f32⟩
  | .local _ .vmem, ⟨11, _⟩ => ⟨S512x1, .f32⟩
  | .local _ .vmem, ⟨12, _⟩ => ⟨S512x128, .f32⟩
  | _, _ => ⟨S4x8448x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 33], ![false, false]⟩

@[reducible] def k0_t1_loop (i : grid0.Coords) : Scf.Loop 32 :=
  let arg1 : BitVec 32 := BitVec.ofNat 32 (i 1).val
  let c256_i32 : BitVec 32 := 256#32
  let v0 : BitVec 32 := Scalar.muli arg1 c256_i32
  let c8192_i32 : BitVec 32 := 8192#32
  let v1 : BitVec 1 := Scalar.cmpi .sge v0 c8192_i32
  let c32_i32 : BitVec 32 := 32#32
  let c0_i32 : BitVec 32 := 0#32
  let v2 : BitVec 32 := Scalar.select v1 c32_i32 c0_i32
  let c33_i32 : BitVec 32 := 33#32
  let v46 : BitVec 32 := Scalar.subi c33_i32 v2
  let c1_i32_18 : BitVec 32 := 1#32
  let v48 : BitVec 32 := Scalar.divsi v46 c1_i32_18
  let v49 : BitVec 32 := Scalar.muli v48 c1_i32_18
  let v50 : BitVec 32 := Scalar.addi v2 v49
  let c1_i32_19 : BitVec 32 := 1#32
  ⟨v2, v50, c1_i32_19⟩
def k0_mult1 (i : grid0.Coords) (k0_t1 : Fin (k0_t1_loop i).trips) : BitVec 32 :=
  let arg1 : BitVec 32 := BitVec.ofNat 32 (i 1).val
  let c256_i32 : BitVec 32 := 256#32
  let v0 : BitVec 32 := Scalar.muli arg1 c256_i32
  let c8192_i32 : BitVec 32 := 8192#32
  let v1 : BitVec 1 := Scalar.cmpi .sge v0 c8192_i32
  let c32_i32 : BitVec 32 := 32#32
  let c0_i32 : BitVec 32 := 0#32
  let v2 : BitVec 32 := Scalar.select v1 c32_i32 c0_i32
  let c1_i32_19 : BitVec 32 := 1#32
  let arg10 : BitVec 32 := Scf.iv v2 c1_i32_19 k0_t1
  let c256_i32_112 : BitVec 32 := 256#32
  let v200 : BitVec 32 := Scalar.muli arg10 c256_i32_112
  v200
def k0_off1 (i : grid0.Coords) (k0_t1 : Fin (k0_t1_loop i).trips) : Fin 3 → Nat :=
  let c0_113 : Index := 0#32
  let arg1 : BitVec 32 := BitVec.ofNat 32 (i 1).val
  let c256_i32 : BitVec 32 := 256#32
  let v0 : BitVec 32 := Scalar.muli arg1 c256_i32
  let c8192_i32 : BitVec 32 := 8192#32
  let v1 : BitVec 1 := Scalar.cmpi .sge v0 c8192_i32
  let c32_i32 : BitVec 32 := 32#32
  let c0_i32 : BitVec 32 := 0#32
  let v2 : BitVec 32 := Scalar.select v1 c32_i32 c0_i32
  let c1_i32_19 : BitVec 32 := 1#32
  let arg10 : BitVec 32 := Scf.iv v2 c1_i32_19 k0_t1
  let c256_i32_112 : BitVec 32 := 256#32
  let v200 : BitVec 32 := Scalar.muli arg10 c256_i32_112
  let v201 : BitVec 32 := v200
  let v202 : Index := Scalar.indexCast v201
  let c0_114 : Index := 0#32
  ![0, v202.toNat, 0]
@[reducible] def k0_t2_loop (i : grid0.Coords) : Scf.Loop 32 :=
  let arg1 : BitVec 32 := BitVec.ofNat 32 (i 1).val
  let c256_i32 : BitVec 32 := 256#32
  let v0 : BitVec 32 := Scalar.muli arg1 c256_i32
  let c8192_i32 : BitVec 32 := 8192#32
  let v1 : BitVec 1 := Scalar.cmpi .sge v0 c8192_i32
  let c32_i32 : BitVec 32 := 32#32
  let c0_i32 : BitVec 32 := 0#32
  let v2 : BitVec 32 := Scalar.select v1 c32_i32 c0_i32
  let c33_i32 : BitVec 32 := 33#32
  let v46 : BitVec 32 := Scalar.subi c33_i32 v2
  let c1_i32_18 : BitVec 32 := 1#32
  let v48 : BitVec 32 := Scalar.divsi v46 c1_i32_18
  let v49 : BitVec 32 := Scalar.muli v48 c1_i32_18
  let v50 : BitVec 32 := Scalar.addi v2 v49
  let v47 : BitVec 32 := Scalar.addi v2 v46
  let c1_i32_20 : BitVec 32 := 1#32
  ⟨v50, v47, c1_i32_20⟩
def k0_mult2 (i : grid0.Coords) (k0_t2 : Fin (k0_t2_loop i).trips) : BitVec 32 :=
  let arg1 : BitVec 32 := BitVec.ofNat 32 (i 1).val
  let c256_i32 : BitVec 32 := 256#32
  let v0 : BitVec 32 := Scalar.muli arg1 c256_i32
  let c8192_i32 : BitVec 32 := 8192#32
  let v1 : BitVec 1 := Scalar.cmpi .sge v0 c8192_i32
  let c32_i32 : BitVec 32 := 32#32
  let c0_i32 : BitVec 32 := 0#32
  let v2 : BitVec 32 := Scalar.select v1 c32_i32 c0_i32
  let c33_i32 : BitVec 32 := 33#32
  let v46 : BitVec 32 := Scalar.subi c33_i32 v2
  let c1_i32_18 : BitVec 32 := 1#32
  let v48 : BitVec 32 := Scalar.divsi v46 c1_i32_18
  let v49 : BitVec 32 := Scalar.muli v48 c1_i32_18
  let v50 : BitVec 32 := Scalar.addi v2 v49
  let c1_i32_20 : BitVec 32 := 1#32
  let arg10 : BitVec 32 := Scf.iv v50 c1_i32_20 k0_t2
  let c256_i32_112 : BitVec 32 := 256#32
  let v200 : BitVec 32 := Scalar.muli arg10 c256_i32_112
  v200
def k0_off2 (i : grid0.Coords) (k0_t2 : Fin (k0_t2_loop i).trips) : Fin 3 → Nat :=
  let c0_113 : Index := 0#32
  let arg1 : BitVec 32 := BitVec.ofNat 32 (i 1).val
  let c256_i32 : BitVec 32 := 256#32
  let v0 : BitVec 32 := Scalar.muli arg1 c256_i32
  let c8192_i32 : BitVec 32 := 8192#32
  let v1 : BitVec 1 := Scalar.cmpi .sge v0 c8192_i32
  let c32_i32 : BitVec 32 := 32#32
  let c0_i32 : BitVec 32 := 0#32
  let v2 : BitVec 32 := Scalar.select v1 c32_i32 c0_i32
  let c33_i32 : BitVec 32 := 33#32
  let v46 : BitVec 32 := Scalar.subi c33_i32 v2
  let c1_i32_18 : BitVec 32 := 1#32
  let v48 : BitVec 32 := Scalar.divsi v46 c1_i32_18
  let v49 : BitVec 32 := Scalar.muli v48 c1_i32_18
  let v50 : BitVec 32 := Scalar.addi v2 v49
  let c1_i32_20 : BitVec 32 := 1#32
  let arg10 : BitVec 32 := Scf.iv v50 c1_i32_20 k0_t2
  let c256_i32_112 : BitVec 32 := 256#32
  let v200 : BitVec 32 := Scalar.muli arg10 c256_i32_112
  let v201 : BitVec 32 := v200
  let v202 : Index := Scalar.indexCast v201
  let c0_114 : Index := 0#32
  ![0, v202.toNat, 0]
@[reducible] def k0_t3_loop (i : grid0.Coords) : Scf.Loop 32 :=
  let arg1 : BitVec 32 := BitVec.ofNat 32 (i 1).val
  let c256_i32 : BitVec 32 := 256#32
  let v0 : BitVec 32 := Scalar.muli arg1 c256_i32
  let c8192_i32 : BitVec 32 := 8192#32
  let v1 : BitVec 1 := Scalar.cmpi .sge v0 c8192_i32
  let c32_i32 : BitVec 32 := 32#32
  let c0_i32 : BitVec 32 := 0#32
  let v2 : BitVec 32 := Scalar.select v1 c32_i32 c0_i32
  let c33_i32_44 : BitVec 32 := 33#32
  let v90 : BitVec 32 := Scalar.subi c33_i32_44 v2
  let c1_i32_45 : BitVec 32 := 1#32
  let v92 : BitVec 32 := Scalar.divsi v90 c1_i32_45
  let v93 : BitVec 32 := Scalar.muli v92 c1_i32_45
  let v94 : BitVec 32 := Scalar.addi v2 v93
  let c1_i32_46 : BitVec 32 := 1#32
  ⟨v2, v94, c1_i32_46⟩
def k0_mult3 (i : grid0.Coords) (k0_t3 : Fin (k0_t3_loop i).trips) : BitVec 32 :=
  let arg1 : BitVec 32 := BitVec.ofNat 32 (i 1).val
  let c256_i32 : BitVec 32 := 256#32
  let v0 : BitVec 32 := Scalar.muli arg1 c256_i32
  let c8192_i32 : BitVec 32 := 8192#32
  let v1 : BitVec 1 := Scalar.cmpi .sge v0 c8192_i32
  let c32_i32 : BitVec 32 := 32#32
  let c0_i32 : BitVec 32 := 0#32
  let v2 : BitVec 32 := Scalar.select v1 c32_i32 c0_i32
  let c1_i32_46 : BitVec 32 := 1#32
  let arg10 : BitVec 32 := Scf.iv v2 c1_i32_46 k0_t3
  let c256_i32_112 : BitVec 32 := 256#32
  let v200 : BitVec 32 := Scalar.muli arg10 c256_i32_112
  v200
def k0_off3 (i : grid0.Coords) (k0_t3 : Fin (k0_t3_loop i).trips) : Fin 3 → Nat :=
  let c0_113 : Index := 0#32
  let arg1 : BitVec 32 := BitVec.ofNat 32 (i 1).val
  let c256_i32 : BitVec 32 := 256#32
  let v0 : BitVec 32 := Scalar.muli arg1 c256_i32
  let c8192_i32 : BitVec 32 := 8192#32
  let v1 : BitVec 1 := Scalar.cmpi .sge v0 c8192_i32
  let c32_i32 : BitVec 32 := 32#32
  let c0_i32 : BitVec 32 := 0#32
  let v2 : BitVec 32 := Scalar.select v1 c32_i32 c0_i32
  let c1_i32_46 : BitVec 32 := 1#32
  let arg10 : BitVec 32 := Scf.iv v2 c1_i32_46 k0_t3
  let c256_i32_112 : BitVec 32 := 256#32
  let v200 : BitVec 32 := Scalar.muli arg10 c256_i32_112
  let v201 : BitVec 32 := v200
  let v202 : Index := Scalar.indexCast v201
  let c0_114 : Index := 0#32
  ![0, v202.toNat, 0]
@[reducible] def k0_t4_loop (i : grid0.Coords) : Scf.Loop 32 :=
  let arg1 : BitVec 32 := BitVec.ofNat 32 (i 1).val
  let c256_i32 : BitVec 32 := 256#32
  let v0 : BitVec 32 := Scalar.muli arg1 c256_i32
  let c8192_i32 : BitVec 32 := 8192#32
  let v1 : BitVec 1 := Scalar.cmpi .sge v0 c8192_i32
  let c32_i32 : BitVec 32 := 32#32
  let c0_i32 : BitVec 32 := 0#32
  let v2 : BitVec 32 := Scalar.select v1 c32_i32 c0_i32
  let c33_i32_44 : BitVec 32 := 33#32
  let v90 : BitVec 32 := Scalar.subi c33_i32_44 v2
  let c1_i32_45 : BitVec 32 := 1#32
  let v92 : BitVec 32 := Scalar.divsi v90 c1_i32_45
  let v93 : BitVec 32 := Scalar.muli v92 c1_i32_45
  let v94 : BitVec 32 := Scalar.addi v2 v93
  let v91 : BitVec 32 := Scalar.addi v2 v90
  let c1_i32_47 : BitVec 32 := 1#32
  ⟨v94, v91, c1_i32_47⟩
def k0_mult4 (i : grid0.Coords) (k0_t4 : Fin (k0_t4_loop i).trips) : BitVec 32 :=
  let arg1 : BitVec 32 := BitVec.ofNat 32 (i 1).val
  let c256_i32 : BitVec 32 := 256#32
  let v0 : BitVec 32 := Scalar.muli arg1 c256_i32
  let c8192_i32 : BitVec 32 := 8192#32
  let v1 : BitVec 1 := Scalar.cmpi .sge v0 c8192_i32
  let c32_i32 : BitVec 32 := 32#32
  let c0_i32 : BitVec 32 := 0#32
  let v2 : BitVec 32 := Scalar.select v1 c32_i32 c0_i32
  let c33_i32_44 : BitVec 32 := 33#32
  let v90 : BitVec 32 := Scalar.subi c33_i32_44 v2
  let c1_i32_45 : BitVec 32 := 1#32
  let v92 : BitVec 32 := Scalar.divsi v90 c1_i32_45
  let v93 : BitVec 32 := Scalar.muli v92 c1_i32_45
  let v94 : BitVec 32 := Scalar.addi v2 v93
  let c1_i32_47 : BitVec 32 := 1#32
  let arg10 : BitVec 32 := Scf.iv v94 c1_i32_47 k0_t4
  let c256_i32_112 : BitVec 32 := 256#32
  let v200 : BitVec 32 := Scalar.muli arg10 c256_i32_112
  v200
def k0_off4 (i : grid0.Coords) (k0_t4 : Fin (k0_t4_loop i).trips) : Fin 3 → Nat :=
  let c0_113 : Index := 0#32
  let arg1 : BitVec 32 := BitVec.ofNat 32 (i 1).val
  let c256_i32 : BitVec 32 := 256#32
  let v0 : BitVec 32 := Scalar.muli arg1 c256_i32
  let c8192_i32 : BitVec 32 := 8192#32
  let v1 : BitVec 1 := Scalar.cmpi .sge v0 c8192_i32
  let c32_i32 : BitVec 32 := 32#32
  let c0_i32 : BitVec 32 := 0#32
  let v2 : BitVec 32 := Scalar.select v1 c32_i32 c0_i32
  let c33_i32_44 : BitVec 32 := 33#32
  let v90 : BitVec 32 := Scalar.subi c33_i32_44 v2
  let c1_i32_45 : BitVec 32 := 1#32
  let v92 : BitVec 32 := Scalar.divsi v90 c1_i32_45
  let v93 : BitVec 32 := Scalar.muli v92 c1_i32_45
  let v94 : BitVec 32 := Scalar.addi v2 v93
  let c1_i32_47 : BitVec 32 := 1#32
  let arg10 : BitVec 32 := Scf.iv v94 c1_i32_47 k0_t4
  let c256_i32_112 : BitVec 32 := 256#32
  let v200 : BitVec 32 := Scalar.muli arg10 c256_i32_112
  let v201 : BitVec 32 := v200
  let v202 : Index := Scalar.indexCast v201
  let c0_114 : Index := 0#32
  ![0, v202.toNat, 0]
@[reducible] def k0_t5_loop (i : grid0.Coords) : Scf.Loop 32 :=
  let arg1 : BitVec 32 := BitVec.ofNat 32 (i 1).val
  let c256_i32 : BitVec 32 := 256#32
  let v0 : BitVec 32 := Scalar.muli arg1 c256_i32
  let c8192_i32 : BitVec 32 := 8192#32
  let v1 : BitVec 1 := Scalar.cmpi .sge v0 c8192_i32
  let c32_i32 : BitVec 32 := 32#32
  let c0_i32 : BitVec 32 := 0#32
  let v2 : BitVec 32 := Scalar.select v1 c32_i32 c0_i32
  let c33_i32_71 : BitVec 32 := 33#32
  let v134 : BitVec 32 := Scalar.subi c33_i32_71 v2
  let c1_i32_72 : BitVec 32 := 1#32
  let v136 : BitVec 32 := Scalar.divsi v134 c1_i32_72
  let v137 : BitVec 32 := Scalar.muli v136 c1_i32_72
  let v138 : BitVec 32 := Scalar.addi v2 v137
  let c1_i32_73 : BitVec 32 := 1#32
  ⟨v2, v138, c1_i32_73⟩
def k0_mult5 (i : grid0.Coords) (k0_t5 : Fin (k0_t5_loop i).trips) : BitVec 32 :=
  let arg1 : BitVec 32 := BitVec.ofNat 32 (i 1).val
  let c256_i32 : BitVec 32 := 256#32
  let v0 : BitVec 32 := Scalar.muli arg1 c256_i32
  let c8192_i32 : BitVec 32 := 8192#32
  let v1 : BitVec 1 := Scalar.cmpi .sge v0 c8192_i32
  let c32_i32 : BitVec 32 := 32#32
  let c0_i32 : BitVec 32 := 0#32
  let v2 : BitVec 32 := Scalar.select v1 c32_i32 c0_i32
  let c1_i32_73 : BitVec 32 := 1#32
  let arg10 : BitVec 32 := Scf.iv v2 c1_i32_73 k0_t5
  let c256_i32_112 : BitVec 32 := 256#32
  let v200 : BitVec 32 := Scalar.muli arg10 c256_i32_112
  v200
def k0_off5 (i : grid0.Coords) (k0_t5 : Fin (k0_t5_loop i).trips) : Fin 3 → Nat :=
  let c0_113 : Index := 0#32
  let arg1 : BitVec 32 := BitVec.ofNat 32 (i 1).val
  let c256_i32 : BitVec 32 := 256#32
  let v0 : BitVec 32 := Scalar.muli arg1 c256_i32
  let c8192_i32 : BitVec 32 := 8192#32
  let v1 : BitVec 1 := Scalar.cmpi .sge v0 c8192_i32
  let c32_i32 : BitVec 32 := 32#32
  let c0_i32 : BitVec 32 := 0#32
  let v2 : BitVec 32 := Scalar.select v1 c32_i32 c0_i32
  let c1_i32_73 : BitVec 32 := 1#32
  let arg10 : BitVec 32 := Scf.iv v2 c1_i32_73 k0_t5
  let c256_i32_112 : BitVec 32 := 256#32
  let v200 : BitVec 32 := Scalar.muli arg10 c256_i32_112
  let v201 : BitVec 32 := v200
  let v202 : Index := Scalar.indexCast v201
  let c0_114 : Index := 0#32
  ![0, v202.toNat, 0]
@[reducible] def k0_t6_loop (i : grid0.Coords) : Scf.Loop 32 :=
  let arg1 : BitVec 32 := BitVec.ofNat 32 (i 1).val
  let c256_i32 : BitVec 32 := 256#32
  let v0 : BitVec 32 := Scalar.muli arg1 c256_i32
  let c8192_i32 : BitVec 32 := 8192#32
  let v1 : BitVec 1 := Scalar.cmpi .sge v0 c8192_i32
  let c32_i32 : BitVec 32 := 32#32
  let c0_i32 : BitVec 32 := 0#32
  let v2 : BitVec 32 := Scalar.select v1 c32_i32 c0_i32
  let c33_i32_71 : BitVec 32 := 33#32
  let v134 : BitVec 32 := Scalar.subi c33_i32_71 v2
  let c1_i32_72 : BitVec 32 := 1#32
  let v136 : BitVec 32 := Scalar.divsi v134 c1_i32_72
  let v137 : BitVec 32 := Scalar.muli v136 c1_i32_72
  let v138 : BitVec 32 := Scalar.addi v2 v137
  let v135 : BitVec 32 := Scalar.addi v2 v134
  let c1_i32_74 : BitVec 32 := 1#32
  ⟨v138, v135, c1_i32_74⟩
def k0_mult6 (i : grid0.Coords) (k0_t6 : Fin (k0_t6_loop i).trips) : BitVec 32 :=
  let arg1 : BitVec 32 := BitVec.ofNat 32 (i 1).val
  let c256_i32 : BitVec 32 := 256#32
  let v0 : BitVec 32 := Scalar.muli arg1 c256_i32
  let c8192_i32 : BitVec 32 := 8192#32
  let v1 : BitVec 1 := Scalar.cmpi .sge v0 c8192_i32
  let c32_i32 : BitVec 32 := 32#32
  let c0_i32 : BitVec 32 := 0#32
  let v2 : BitVec 32 := Scalar.select v1 c32_i32 c0_i32
  let c33_i32_71 : BitVec 32 := 33#32
  let v134 : BitVec 32 := Scalar.subi c33_i32_71 v2
  let c1_i32_72 : BitVec 32 := 1#32
  let v136 : BitVec 32 := Scalar.divsi v134 c1_i32_72
  let v137 : BitVec 32 := Scalar.muli v136 c1_i32_72
  let v138 : BitVec 32 := Scalar.addi v2 v137
  let c1_i32_74 : BitVec 32 := 1#32
  let arg10 : BitVec 32 := Scf.iv v138 c1_i32_74 k0_t6
  let c256_i32_112 : BitVec 32 := 256#32
  let v200 : BitVec 32 := Scalar.muli arg10 c256_i32_112
  v200
def k0_off6 (i : grid0.Coords) (k0_t6 : Fin (k0_t6_loop i).trips) : Fin 3 → Nat :=
  let c0_113 : Index := 0#32
  let arg1 : BitVec 32 := BitVec.ofNat 32 (i 1).val
  let c256_i32 : BitVec 32 := 256#32
  let v0 : BitVec 32 := Scalar.muli arg1 c256_i32
  let c8192_i32 : BitVec 32 := 8192#32
  let v1 : BitVec 1 := Scalar.cmpi .sge v0 c8192_i32
  let c32_i32 : BitVec 32 := 32#32
  let c0_i32 : BitVec 32 := 0#32
  let v2 : BitVec 32 := Scalar.select v1 c32_i32 c0_i32
  let c33_i32_71 : BitVec 32 := 33#32
  let v134 : BitVec 32 := Scalar.subi c33_i32_71 v2
  let c1_i32_72 : BitVec 32 := 1#32
  let v136 : BitVec 32 := Scalar.divsi v134 c1_i32_72
  let v137 : BitVec 32 := Scalar.muli v136 c1_i32_72
  let v138 : BitVec 32 := Scalar.addi v2 v137
  let c1_i32_74 : BitVec 32 := 1#32
  let arg10 : BitVec 32 := Scf.iv v138 c1_i32_74 k0_t6
  let c256_i32_112 : BitVec 32 := 256#32
  let v200 : BitVec 32 := Scalar.muli arg10 c256_i32_112
  let v201 : BitVec 32 := v200
  let v202 : Index := Scalar.indexCast v201
  let c0_114 : Index := 0#32
  ![0, v202.toNat, 0]
@[reducible] def k0_t7_loop (i : grid0.Coords) : Scf.Loop 32 :=
  let arg1 : BitVec 32 := BitVec.ofNat 32 (i 1).val
  let c256_i32 : BitVec 32 := 256#32
  let v0 : BitVec 32 := Scalar.muli arg1 c256_i32
  let c8192_i32 : BitVec 32 := 8192#32
  let v1 : BitVec 1 := Scalar.cmpi .sge v0 c8192_i32
  let c32_i32 : BitVec 32 := 32#32
  let c0_i32 : BitVec 32 := 0#32
  let v2 : BitVec 32 := Scalar.select v1 c32_i32 c0_i32
  let c33_i32_98 : BitVec 32 := 33#32
  let v178 : BitVec 32 := Scalar.subi c33_i32_98 v2
  let c1_i32_99 : BitVec 32 := 1#32
  let v180 : BitVec 32 := Scalar.divsi v178 c1_i32_99
  let v181 : BitVec 32 := Scalar.muli v180 c1_i32_99
  let v182 : BitVec 32 := Scalar.addi v2 v181
  let c1_i32_100 : BitVec 32 := 1#32
  ⟨v2, v182, c1_i32_100⟩
def k0_mult7 (i : grid0.Coords) (k0_t7 : Fin (k0_t7_loop i).trips) : BitVec 32 :=
  let arg1 : BitVec 32 := BitVec.ofNat 32 (i 1).val
  let c256_i32 : BitVec 32 := 256#32
  let v0 : BitVec 32 := Scalar.muli arg1 c256_i32
  let c8192_i32 : BitVec 32 := 8192#32
  let v1 : BitVec 1 := Scalar.cmpi .sge v0 c8192_i32
  let c32_i32 : BitVec 32 := 32#32
  let c0_i32 : BitVec 32 := 0#32
  let v2 : BitVec 32 := Scalar.select v1 c32_i32 c0_i32
  let c1_i32_100 : BitVec 32 := 1#32
  let arg10 : BitVec 32 := Scf.iv v2 c1_i32_100 k0_t7
  let c256_i32_112 : BitVec 32 := 256#32
  let v200 : BitVec 32 := Scalar.muli arg10 c256_i32_112
  v200
def k0_off7 (i : grid0.Coords) (k0_t7 : Fin (k0_t7_loop i).trips) : Fin 3 → Nat :=
  let c0_113 : Index := 0#32
  let arg1 : BitVec 32 := BitVec.ofNat 32 (i 1).val
  let c256_i32 : BitVec 32 := 256#32
  let v0 : BitVec 32 := Scalar.muli arg1 c256_i32
  let c8192_i32 : BitVec 32 := 8192#32
  let v1 : BitVec 1 := Scalar.cmpi .sge v0 c8192_i32
  let c32_i32 : BitVec 32 := 32#32
  let c0_i32 : BitVec 32 := 0#32
  let v2 : BitVec 32 := Scalar.select v1 c32_i32 c0_i32
  let c1_i32_100 : BitVec 32 := 1#32
  let arg10 : BitVec 32 := Scf.iv v2 c1_i32_100 k0_t7
  let c256_i32_112 : BitVec 32 := 256#32
  let v200 : BitVec 32 := Scalar.muli arg10 c256_i32_112
  let v201 : BitVec 32 := v200
  let v202 : Index := Scalar.indexCast v201
  let c0_114 : Index := 0#32
  ![0, v202.toNat, 0]
@[reducible] def k0_t8_loop (i : grid0.Coords) : Scf.Loop 32 :=
  let arg1 : BitVec 32 := BitVec.ofNat 32 (i 1).val
  let c256_i32 : BitVec 32 := 256#32
  let v0 : BitVec 32 := Scalar.muli arg1 c256_i32
  let c8192_i32 : BitVec 32 := 8192#32
  let v1 : BitVec 1 := Scalar.cmpi .sge v0 c8192_i32
  let c32_i32 : BitVec 32 := 32#32
  let c0_i32 : BitVec 32 := 0#32
  let v2 : BitVec 32 := Scalar.select v1 c32_i32 c0_i32
  let c33_i32_98 : BitVec 32 := 33#32
  let v178 : BitVec 32 := Scalar.subi c33_i32_98 v2
  let c1_i32_99 : BitVec 32 := 1#32
  let v180 : BitVec 32 := Scalar.divsi v178 c1_i32_99
  let v181 : BitVec 32 := Scalar.muli v180 c1_i32_99
  let v182 : BitVec 32 := Scalar.addi v2 v181
  let v179 : BitVec 32 := Scalar.addi v2 v178
  let c1_i32_101 : BitVec 32 := 1#32
  ⟨v182, v179, c1_i32_101⟩
def k0_mult8 (i : grid0.Coords) (k0_t8 : Fin (k0_t8_loop i).trips) : BitVec 32 :=
  let arg1 : BitVec 32 := BitVec.ofNat 32 (i 1).val
  let c256_i32 : BitVec 32 := 256#32
  let v0 : BitVec 32 := Scalar.muli arg1 c256_i32
  let c8192_i32 : BitVec 32 := 8192#32
  let v1 : BitVec 1 := Scalar.cmpi .sge v0 c8192_i32
  let c32_i32 : BitVec 32 := 32#32
  let c0_i32 : BitVec 32 := 0#32
  let v2 : BitVec 32 := Scalar.select v1 c32_i32 c0_i32
  let c33_i32_98 : BitVec 32 := 33#32
  let v178 : BitVec 32 := Scalar.subi c33_i32_98 v2
  let c1_i32_99 : BitVec 32 := 1#32
  let v180 : BitVec 32 := Scalar.divsi v178 c1_i32_99
  let v181 : BitVec 32 := Scalar.muli v180 c1_i32_99
  let v182 : BitVec 32 := Scalar.addi v2 v181
  let c1_i32_101 : BitVec 32 := 1#32
  let arg10 : BitVec 32 := Scf.iv v182 c1_i32_101 k0_t8
  let c256_i32_112 : BitVec 32 := 256#32
  let v200 : BitVec 32 := Scalar.muli arg10 c256_i32_112
  v200
def k0_off8 (i : grid0.Coords) (k0_t8 : Fin (k0_t8_loop i).trips) : Fin 3 → Nat :=
  let c0_113 : Index := 0#32
  let arg1 : BitVec 32 := BitVec.ofNat 32 (i 1).val
  let c256_i32 : BitVec 32 := 256#32
  let v0 : BitVec 32 := Scalar.muli arg1 c256_i32
  let c8192_i32 : BitVec 32 := 8192#32
  let v1 : BitVec 1 := Scalar.cmpi .sge v0 c8192_i32
  let c32_i32 : BitVec 32 := 32#32
  let c0_i32 : BitVec 32 := 0#32
  let v2 : BitVec 32 := Scalar.select v1 c32_i32 c0_i32
  let c33_i32_98 : BitVec 32 := 33#32
  let v178 : BitVec 32 := Scalar.subi c33_i32_98 v2
  let c1_i32_99 : BitVec 32 := 1#32
  let v180 : BitVec 32 := Scalar.divsi v178 c1_i32_99
  let v181 : BitVec 32 := Scalar.muli v180 c1_i32_99
  let v182 : BitVec 32 := Scalar.addi v2 v181
  let c1_i32_101 : BitVec 32 := 1#32
  let arg10 : BitVec 32 := Scf.iv v182 c1_i32_101 k0_t8
  let c256_i32_112 : BitVec 32 := 256#32
  let v200 : BitVec 32 := Scalar.muli arg10 c256_i32_112
  let v201 : BitVec 32 := v200
  let v202 : Index := Scalar.indexCast v201
  let c0_114 : Index := 0#32
  ![0, v202.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4x8448x512 : Shape := ⟨3, ![4, 8448, 512]⟩
abbrev S4x8448x128 : Shape := ⟨3, ![4, 8448, 128]⟩
abbrev S4x8448x4x2x2x32 : Shape := ⟨6, ![4, 8448, 4, 2, 2, 32]⟩
abbrev S4x8448x2x4x2x32 : Shape := ⟨6, ![4, 8448, 2, 4, 2, 32]⟩
abbrev S4x8448x2x4x64 : Shape := ⟨5, ![4, 8448, 2, 4, 64]⟩
abbrev S4x8448x2x2x32 : Shape := ⟨5, ![4, 8448, 2, 2, 32]⟩
abbrev S4x8448x2x64 : Shape := ⟨4, ![4, 8448, 2, 64]⟩
abbrev S4x8192x2x4x64 : Shape := ⟨5, ![4, 8192, 2, 4, 64]⟩
abbrev S4x2x8448x8192x4 : Shape := ⟨5, ![4, 2, 8448, 8192, 4]⟩
abbrev S4x2x4x8192x8448 : Shape := ⟨5, ![4, 2, 4, 8192, 8448]⟩
abbrev S_ : Shape := ⟨0, ![]⟩
abbrev S4x2x4x8192 : Shape := ⟨4, ![4, 2, 4, 8192]⟩
abbrev S4x2x4x8192x1 : Shape := ⟨5, ![4, 2, 4, 8192, 1]⟩
abbrev S4x2x64x4x8192 : Shape := ⟨5, ![4, 2, 64, 4, 8192]⟩
abbrev S4x256x2x4x64 : Shape := ⟨5, ![4, 256, 2, 4, 64]⟩
abbrev S4x256x2x64 : Shape := ⟨4, ![4, 256, 2, 64]⟩
abbrev S4x2x256x256x4 : Shape := ⟨5, ![4, 2, 256, 256, 4]⟩
abbrev S4x2x4x256x256 : Shape := ⟨5, ![4, 2, 4, 256, 256]⟩
abbrev S4x2x4x256 : Shape := ⟨4, ![4, 2, 4, 256]⟩
abbrev S4x2x4x256x1 : Shape := ⟨5, ![4, 2, 4, 256, 1]⟩
abbrev S4x2x64x4x256 : Shape := ⟨5, ![4, 2, 64, 4, 256]⟩
abbrev S4x8448x4x2x64 : Shape := ⟨5, ![4, 8448, 4, 2, 64]⟩

abbrev nBuf : Space → Nat
  | .hbm => 60
  | .vmem => 0
  | .smem => 0
  | _ => 0

abbrev bufTy : (tb : Table) → Fin (tcTables nBuf tb) → BufTy
  | .hbm, ⟨0, _⟩ => ⟨S4x8448x512, .bf16⟩
  | .hbm, ⟨1, _⟩ => ⟨S4x8448x128, .bf16⟩
  | .hbm, ⟨2, _⟩ => ⟨S4x8448x128, .bf16⟩
  | .hbm, ⟨3, _⟩ => ⟨S4x8448x512, .bf16⟩
  | .hbm, ⟨4, _⟩ => ⟨S4x8448x512, .f32⟩
  | .hbm, ⟨5, _⟩ => ⟨S4x8448x4x2x2x32, .f32⟩
  | .hbm, ⟨6, _⟩ => ⟨S4x8448x2x4x2x32, .f32⟩
  | .hbm, ⟨7, _⟩ => ⟨S4x8448x2x4x64, .f32⟩
  | .hbm, ⟨8, _⟩ => ⟨S4x8448x128, .f32⟩
  | .hbm, ⟨9, _⟩ => ⟨S4x8448x2x2x32, .f32⟩
  | .hbm, ⟨10, _⟩ => ⟨S4x8448x2x2x32, .f32⟩
  | .hbm, ⟨11, _⟩ => ⟨S4x8448x2x64, .f32⟩
  | .hbm, ⟨12, _⟩ => ⟨S4x8448x128, .f32⟩
  | .hbm, ⟨13, _⟩ => ⟨S4x8448x2x64, .f32⟩
  | .hbm, ⟨14, _⟩ => ⟨S4x8192x2x4x64, .f32⟩
  | .hbm, ⟨15, _⟩ => ⟨S4x2x8448x8192x4, .f32⟩
  | .hbm, ⟨16, _⟩ => ⟨S4x2x4x8192x8448, .f32⟩
  | .hbm, ⟨17, _⟩ => ⟨S_, .f32⟩
  | .hbm, ⟨18, _⟩ => ⟨S4x2x4x8192, .f32⟩
  | .hbm, ⟨19, _⟩ => ⟨S_, .f32⟩
  | .hbm, ⟨20, _⟩ => ⟨S4x2x4x8192, .f32⟩
  | .hbm, ⟨21, _⟩ => ⟨S4x2x4x8192, .f32⟩
  | .hbm, ⟨22, _⟩ => ⟨S4x2x4x8192x1, .f32⟩
  | .hbm, ⟨23, _⟩ => ⟨S4x2x4x8192x8448, .f32⟩
  | .hbm, ⟨24, _⟩ => ⟨S4x2x4x8192x8448, .f32⟩
  | .hbm, ⟨25, _⟩ => ⟨S4x2x4x8192x8448, .f32⟩
  | .hbm, ⟨26, _⟩ => ⟨S_, .f32⟩
  | .hbm, ⟨27, _⟩ => ⟨S4x2x4x8192, .f32⟩
  | .hbm, ⟨28, _⟩ => ⟨S4x2x4x8192x1, .f32⟩
  | .hbm, ⟨29, _⟩ => ⟨S4x2x4x8192x8448, .f32⟩
  | .hbm, ⟨30, _⟩ => ⟨S4x2x4x8192x8448, .f32⟩
  | .hbm, ⟨31, _⟩ => ⟨S4x2x64x4x8192, .f32⟩
  | .hbm, ⟨32, _⟩ => ⟨S4x8192x2x4x64, .f32⟩
  | .hbm, ⟨33, _⟩ => ⟨S4x256x2x4x64, .f32⟩
  | .hbm, ⟨34, _⟩ => ⟨S4x256x2x64, .f32⟩
  | .hbm, ⟨35, _⟩ => ⟨S4x256x2x64, .f32⟩
  | .hbm, ⟨36, _⟩ => ⟨S4x2x256x256x4, .f32⟩
  | .hbm, ⟨37, _⟩ => ⟨S4x2x4x256x256, .f32⟩
  | .hbm, ⟨38, _⟩ => ⟨S_, .f32⟩
  | .hbm, ⟨39, _⟩ => ⟨S4x2x4x256, .f32⟩
  | .hbm, ⟨40, _⟩ => ⟨S_, .f32⟩
  | .hbm, ⟨41, _⟩ => ⟨S4x2x4x256, .f32⟩
  | .hbm, ⟨42, _⟩ => ⟨S4x2x4x256, .f32⟩
  | .hbm, ⟨43, _⟩ => ⟨S4x2x4x256x1, .f32⟩
  | .hbm, ⟨44, _⟩ => ⟨S4x2x4x256x256, .f32⟩
  | .hbm, ⟨45, _⟩ => ⟨S4x2x4x256x256, .f32⟩
  | .hbm, ⟨46, _⟩ => ⟨S4x2x4x256x256, .f32⟩
  | .hbm, ⟨47, _⟩ => ⟨S_, .f32⟩
  | .hbm, ⟨48, _⟩ => ⟨S4x2x4x256, .f32⟩
  | .hbm, ⟨49, _⟩ => ⟨S4x2x4x256x1, .f32⟩
  | .hbm, ⟨50, _⟩ => ⟨S4x2x4x256x256, .f32⟩
  | .hbm, ⟨51, _⟩ => ⟨S4x2x4x256x256, .f32⟩
  | .hbm, ⟨52, _⟩ => ⟨S4x2x64x4x256, .f32⟩
  | .hbm, ⟨53, _⟩ => ⟨S4x256x2x4x64, .f32⟩
  | .hbm, ⟨54, _⟩ => ⟨S4x8448x2x4x64, .f32⟩
  | .hbm, ⟨55, _⟩ => ⟨S4x8448x4x2x64, .f32⟩
  | .hbm, ⟨56, _⟩ => ⟨S4x8448x512, .f32⟩
  | .hbm, ⟨57, _⟩ => ⟨S4x8448x512, .f32⟩
  | .hbm, ⟨58, _⟩ => ⟨S4x8448x512, .f32⟩
  | .hbm, ⟨59, _⟩ => ⟨S4x8448x512, .bf16⟩
  | _, _ => ⟨S4x8448x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_2 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_4 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩

abbrev nD : Nat := 1
abbrev τ : Topo := Topo.v7x

variable {F : FTy → Type} [FloatOps F]
-- ==== Kernel2.lean ====
abbrev S4x8448x1024 : Shape := ⟨3, ![4, 8448, 1024]⟩
abbrev S8x1x3072 : Shape := ⟨3, ![8, 1, 3072]⟩
abbrev S1x1024 : Shape := ⟨2, ![1, 1024]⟩
abbrev S1024x8448 : Shape := ⟨2, ![1024, 8448]⟩
abbrev S8448x128 : Shape := ⟨2, ![8448, 128]⟩
abbrev S1x128 : Shape := ⟨2, ![1, 128]⟩
abbrev S4x8448x512 : Shape := ⟨3, ![4, 8448, 512]⟩
abbrev S4x8448x128 : Shape := ⟨3, ![4, 8448, 128]⟩
abbrev S4x8448x3072 : Shape := ⟨3, ![4, 8448, 3072]⟩
abbrev S1x256x1024 : Shape := ⟨3, ![1, 256, 1024]⟩
abbrev S1x1x3072 : Shape := ⟨3, ![1, 1, 3072]⟩
abbrev S256x128 : Shape := ⟨2, ![256, 128]⟩
abbrev S1x256x512 : Shape := ⟨3, ![1, 256, 512]⟩
abbrev S1x256x128 : Shape := ⟨3, ![1, 256, 128]⟩
abbrev S1x256x3072 : Shape := ⟨3, ![1, 256, 3072]⟩
abbrev S256x1024 : Shape := ⟨2, ![256, 1024]⟩
abbrev S256 : Shape := ⟨1, ![256]⟩
abbrev S256x1 : Shape := ⟨2, ![256, 1]⟩
abbrev S1x3072 : Shape := ⟨2, ![1, 3072]⟩
abbrev S1024x512 : Shape := ⟨2, ![1024, 512]⟩
abbrev S256x512 : Shape := ⟨2, ![256, 512]⟩
abbrev S1024x128 : Shape := ⟨2, ![1024, 128]⟩
abbrev S1024x1024 : Shape := ⟨2, ![1024, 1024]⟩

abbrev nBuf : Space → Nat
  | .hbm => 21
  | .vmem => 38
  | .smem => 0
  | _ => 0

abbrev bufTy : (tb : Table) → Fin (tcTables nBuf tb) → BufTy
  | .hbm, ⟨0, _⟩ => ⟨S4x8448x1024, .f32⟩
  | .hbm, ⟨1, _⟩ => ⟨S8x1x3072, .f32⟩
  | .hbm, ⟨2, _⟩ => ⟨S1x1024, .f32⟩
  | .hbm, ⟨3, _⟩ => ⟨S1024x8448, .bf16⟩
  | .hbm, ⟨4, _⟩ => ⟨S8448x128, .f32⟩
  | .hbm, ⟨5, _⟩ => ⟨S8448x128, .f32⟩
  | .hbm, ⟨6, _⟩ => ⟨S1x128, .f32⟩
  | .hbm, ⟨7, _⟩ => ⟨S1x128, .f32⟩
  | .hbm, ⟨8, _⟩ => ⟨S4x8448x512, .bf16⟩
  | .hbm, ⟨9, _⟩ => ⟨S4x8448x512, .bf16⟩
  | .hbm, ⟨10, _⟩ => ⟨S4x8448x512, .bf16⟩
  | .hbm, ⟨11, _⟩ => ⟨S4x8448x512, .bf16⟩
  | .hbm, ⟨12, _⟩ => ⟨S4x8448x512, .bf16⟩
  | .hbm, ⟨13, _⟩ => ⟨S4x8448x512, .bf16⟩
  | .hbm, ⟨14, _⟩ => ⟨S4x8448x512, .bf16⟩
  | .hbm, ⟨15, _⟩ => ⟨S4x8448x512, .bf16⟩
  | .hbm, ⟨16, _⟩ => ⟨S4x8448x512, .bf16⟩
  | .hbm, ⟨17, _⟩ => ⟨S4x8448x128, .bf16⟩
  | .hbm, ⟨18, _⟩ => ⟨S4x8448x128, .bf16⟩
  | .hbm, ⟨19, _⟩ => ⟨S4x8448x512, .bf16⟩
  | .hbm, ⟨20, _⟩ => ⟨S4x8448x3072, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x1024, .f32⟩
  | .local _ .vmem, ⟨5, _⟩ => ⟨S1024x8448, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1x128, .f32⟩
  | .local _ .vmem, ⟨11, _⟩ => ⟨S1x128, .f32⟩
  | .local _ .vmem, ⟨12, _⟩ => ⟨S1x256x512, .bf16⟩
  | .local _ .vmem, ⟨13, _⟩ => ⟨S1x256x512, .bf16⟩
  | .local _ .vmem, ⟨14, _⟩ => ⟨S1x256x512, .bf16⟩
  | .local _ .vmem, ⟨15, _⟩ => ⟨S1x256x512, .bf16⟩
  | .local _ .vmem, ⟨16, _⟩ => ⟨S1x256x512, .bf16⟩
  | .local _ .vmem, ⟨17, _⟩ => ⟨S1x256x512, .bf16⟩
  | .local _ .vmem, ⟨18, _⟩ => ⟨S1x256x512, .bf16⟩
  | .local _ .vmem, ⟨19, _⟩ => ⟨S1x256x512, .bf16⟩
  | .local _ .vmem, ⟨20, _⟩ => ⟨S1x256x512, .bf16⟩
  | .local _ .vmem, ⟨21, _⟩ => ⟨S1x256x512, .bf16⟩
  | .local _ .vmem, ⟨22, _⟩ => ⟨S1x256x512, .bf16⟩
  | .local _ .vmem, ⟨23, _⟩ => ⟨S1x256x512, .bf16⟩
  | .local _ .vmem, ⟨24, _⟩ => ⟨S1x256x512, .bf16⟩
  | .local _ .vmem, ⟨25, _⟩ => ⟨S1x256x512, .bf16⟩
  | .local _ .vmem, ⟨26, _⟩ => ⟨S1x256x512, .bf16⟩
  | .local _ .vmem, ⟨27, _⟩ => ⟨S1x256x512, .bf16⟩
  | .local _ .vmem, ⟨28, _⟩ => ⟨S1x256x512, .bf16⟩
  | .local _ .vmem, ⟨29, _⟩ => ⟨S1x256x512, .bf16⟩
  | .local _ .vmem, ⟨30, _⟩ => ⟨S1x256x128, .bf16⟩
  | .local _ .vmem, ⟨31, _⟩ => ⟨S1x256x128, .bf16⟩
  | .local _ .vmem, ⟨32, _⟩ => ⟨S1x256x128, .bf16⟩
  | .local _ .vmem, ⟨33, _⟩ => ⟨S1x256x128, .bf16⟩
  | .local _ .vmem, ⟨34, _⟩ => ⟨S1x256x512, .bf16⟩
  | .local _ .vmem, ⟨35, _⟩ => ⟨S1x256x512, .bf16⟩
  | .local _ .vmem, ⟨36, _⟩ => ⟨S1x256x3072, .bf16⟩
  | .local _ .vmem, ⟨37, _⟩ => ⟨S1x256x3072, .bf16⟩
  | _, _ => ⟨S4x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev main_v0_8 : Ref sig .tc := ⟨.hbm, 16, rfl⟩
abbrev main_v0_9 : Ref sig .tc := ⟨.hbm, 17, rfl⟩
abbrev main_v0_10 : Ref sig .tc := ⟨.hbm, 18, rfl⟩
abbrev main_v0_11 : Ref sig .tc := ⟨.hbm, 19, rfl⟩
abbrev main_v0_12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37

abbrev nD : Nat := 1
abbrev τ : Topo := Topo.v7x

variable {F : FTy → Type} [FloatOps F]

abbrev grid0 : Pipeline.Grid := ⟨2, ![4, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg1 c32_i32
  let c4_i32 : BitVec 32 := 4#32
  let v1 : BitVec 32 := Scalar.select v0 arg0 c4_i32
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x8448 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x256x3072 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== Reference2Ideal.lean ====
abbrev S4x8448x1024 : Shape := ⟨3, ![4, 8448, 1024]⟩
abbrev S8x1x3072 : Shape := ⟨3, ![8, 1, 3072]⟩
abbrev S1x1024 : Shape := ⟨2, ![1, 1024]⟩
abbrev S1024x8448 : Shape := ⟨2, ![1024, 8448]⟩
abbrev S8448x128 : Shape := ⟨2, ![8448, 128]⟩
abbrev S1x128 : Shape := ⟨2, ![1, 128]⟩
abbrev S4x1x3072 : Shape := ⟨3, ![4, 1, 3072]⟩
abbrev S4x1x1024 : Shape := ⟨3, ![4, 1, 1024]⟩
abbrev S1x1x3072 : Shape := ⟨3, ![1, 1, 3072]⟩
abbrev S1x3072 : Shape := ⟨2, ![1, 3072]⟩
abbrev S4x8192x1024 : Shape := ⟨3, ![4, 8192, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x256x1024 : Shape := ⟨3, ![4, 256, 1024]⟩
abbrev S4x256 : Shape := ⟨2, ![4, 256]⟩
abbrev S4x256x1 : Shape := ⟨3, ![4, 256, 1]⟩
abbrev S4x8448x8448 : Shape := ⟨3, ![4, 8448, 8448]⟩
abbrev S4x8448x512 : Shape := ⟨3, ![4, 8448, 512]⟩
abbrev S4x8448x128 : Shape := ⟨3, ![4, 8448, 128]⟩
abbrev S4x8448x3072 : Shape := ⟨3, ![4, 8448, 3072]⟩
abbrev S4x8448x4x2x2x32 : Shape := ⟨6, ![4, 8448, 4, 2, 2, 32]⟩
abbrev S4x8448x4x2x64 : Shape := ⟨5, ![4, 8448, 4, 2, 64]⟩
abbrev S1x2x2x32 : Shape := ⟨4, ![1, 2, 2, 32]⟩
abbrev S2x64 : Shape := ⟨2, ![2, 64]⟩
abbrev S4x8448x4x2 : Shape := ⟨4, ![4, 8448, 4, 2]⟩
abbrev S4x8448x4x2x1 : Shape := ⟨5, ![4, 8448, 4, 2, 1]⟩
abbrev S1x1x1x2x64 : Shape := ⟨5, ![1, 1, 1, 2, 64]⟩
abbrev S4x8448x4x2x32 : Shape := ⟨5, ![4, 8448, 4, 2, 32]⟩
abbrev S8448x2x2x32 : Shape := ⟨4, ![8448, 2, 2, 32]⟩
abbrev S8448x1x2x2x32 : Shape := ⟨5, ![8448, 1, 2, 2, 32]⟩
abbrev S8448x1x2x1x32 : Shape := ⟨5, ![8448, 1, 2, 1, 32]⟩
abbrev S8448x1x2x32 : Shape := ⟨4, ![8448, 1, 2, 32]⟩
abbrev S1x8448x1x2x32 : Shape := ⟨5, ![1, 8448, 1, 2, 32]⟩
abbrev S4x8448x1x2x2x32 : Shape := ⟨6, ![4, 8448, 1, 2, 2, 32]⟩
abbrev S4x8448x1x2x64 : Shape := ⟨5, ![4, 8448, 1, 2, 64]⟩
abbrev S4x8448x1x2 : Shape := ⟨4, ![4, 8448, 1, 2]⟩
abbrev S4x8448x1x2x1 : Shape := ⟨5, ![4, 8448, 1, 2, 1]⟩
abbrev S4x8448x1x2x32 : Shape := ⟨5, ![4, 8448, 1, 2, 32]⟩

abbrev nBuf : Space → Nat
  | .hbm => 251
  | .vmem => 0
  | .smem => 0
  | _ => 0

abbrev hbmTy0_0 (i : Nat) : BufTy := match i % 128 with
  | 0 => ⟨S4x8448x1024, .f32⟩
  | 1 => ⟨S8x1x3072, .f32⟩
  | 2 => ⟨S1x1024, .f32⟩
  | 3 => ⟨S1024x8448, .bf16⟩
  | 4 => ⟨S8448x128, .f32⟩
  | 5 => ⟨S8448x128, .f32⟩
  | 6 => ⟨S1x128, .f32⟩
  | 7 => ⟨S1x128, .f32⟩
  | 8 => ⟨S4x1x3072, .f32⟩
  | 9 => ⟨S4x1x1024, .f32⟩
  | 10 => ⟨S4x1x1024, .f32⟩
  | 11 => ⟨S4x1x1024, .f32⟩
  | 12 => ⟨S1x1x3072, .f32⟩
  | 13 => ⟨S1x3072, .f32⟩
  | 14 => ⟨S1x1024, .f32⟩
  | 15 => ⟨S1x1024, .f32⟩
  | 16 => ⟨S1x1024, .f32⟩
  | 17 => ⟨S4x8192x1024, .f32⟩
  | 18 => ⟨S1024, .f32⟩
  | 19 => ⟨S4x8192x1024, .f32⟩
  | 20 => ⟨S_, .f32⟩
  | 21 => ⟨S4x8192, .f32⟩
  | 22 => ⟨S4x8192x1, .f32⟩
  | 23 => ⟨S_, .f32⟩
  | 24 => ⟨S4x8192x1, .f32⟩
  | 25 => ⟨S4x8192x1, .f32⟩
  | 26 => ⟨S_, .f32⟩
  | 27 => ⟨S4x8192x1, .f32⟩
  | 28 => ⟨S4x8192x1, .f32⟩
  | 29 => ⟨S4x8192x1, .f32⟩
  | 30 => ⟨S4x8192x1024, .f32⟩
  | 31 => ⟨S4x8192x1024, .f32⟩
  | 32 => ⟨S1x1x1024, .f32⟩
  | 33 => ⟨S4x8192x1024, .f32⟩
  | 34 => ⟨S4x8192x1024, .f32⟩
  | 35 => ⟨S_, .f32⟩
  | 36 => ⟨S4x1x1024, .f32⟩
  | 37 => ⟨S4x1x1024, .f32⟩
  | 38 => ⟨S4x8192x1024, .f32⟩
  | 39 => ⟨S4x8192x1024, .f32⟩
  | 40 => ⟨S4x8192x1024, .f32⟩
  | 41 => ⟨S4x8192x1024, .f32⟩
  | 42 => ⟨S4x256x1024, .f32⟩
  | 43 => ⟨S1024, .f32⟩
  | 44 => ⟨S4x256x1024, .f32⟩
  | 45 => ⟨S_, .f32⟩
  | 46 => ⟨S4x256, .f32⟩
  | 47 => ⟨S4x256x1, .f32⟩
  | 48 => ⟨S_, .f32⟩
  | 49 => ⟨S4x256x1, .f32⟩
  | 50 => ⟨S4x256x1, .f32⟩
  | 51 => ⟨S_, .f32⟩
  | 52 => ⟨S4x256x1, .f32⟩
  | 53 => ⟨S4x256x1, .f32⟩
  | 54 => ⟨S4x256x1, .f32⟩
  | 55 => ⟨S4x256x1024, .f32⟩
  | 56 => ⟨S4x256x1024, .f32⟩
  | 57 => ⟨S1x1x1024, .f32⟩
  | 58 => ⟨S4x256x1024, .f32⟩
  | 59 => ⟨S4x256x1024, .f32⟩
  | 60 => ⟨S_, .f32⟩
  | 61 => ⟨S1x1024, .f32⟩
  | 62 => ⟨S1x1024, .f32⟩
  | 63 => ⟨S1x1x1024, .f32⟩
  | 64 => ⟨S4x256x1024, .f32⟩
  | 65 => ⟨S4x256x1024, .f32⟩
  | 66 => ⟨S1x1x1024, .f32⟩
  | 67 => ⟨S4x256x1024, .f32⟩
  | 68 => ⟨S4x256x1024, .f32⟩
  | 69 => ⟨S4x8448x1024, .f32⟩
  | 70 => ⟨S1024x8448, .f32⟩
  | 71 => ⟨S4x8448x8448, .f32⟩
  | 72 => ⟨S4x8448x512, .f32⟩
  | 73 => ⟨S4x8448x512, .f32⟩
  | 74 => ⟨S4x8448x512, .f32⟩
  | 75 => ⟨S4x8448x512, .f32⟩
  | 76 => ⟨S4x8448x512, .f32⟩
  | 77 => ⟨S4x8448x512, .f32⟩
  | 78 => ⟨S4x8448x512, .f32⟩
  | 79 => ⟨S4x8448x512, .f32⟩
  | 80 => ⟨S4x8448x512, .f32⟩
  | 81 => ⟨S4x8448x128, .f32⟩
  | 82 => ⟨S4x8448x128, .f32⟩
  | 83 => ⟨S4x8448x512, .f32⟩
  | 84 => ⟨S4x8448x3072, .f32⟩
  | 85 => ⟨S4x8448x4x2x2x32, .f32⟩
  | 86 => ⟨S4x8448x4x2x2x32, .f32⟩
  | 87 => ⟨S4x8448x4x2x64, .f32⟩
  | 88 => ⟨S1x2x2x32, .f32⟩
  | 89 => ⟨S1x2x2x32, .f32⟩
  | 90 => ⟨S2x64, .f32⟩
  | 91 => ⟨S4x8448x4x2x64, .f32⟩
  | 92 => ⟨S_, .f32⟩
  | 93 => ⟨S4x8448x4x2, .f32⟩
  | 94 => ⟨S4x8448x4x2x1, .f32⟩
  | 95 => ⟨S_, .f32⟩
  | 96 => ⟨S4x8448x4x2x1, .f32⟩
  | 97 => ⟨S4x8448x4x2x1, .f32⟩
  | 98 => ⟨S_, .f32⟩
  | 99 => ⟨S4x8448x4x2x1, .f32⟩
  | 100 => ⟨S4x8448x4x2x1, .f32⟩
  | 101 => ⟨S4x8448x4x2x1, .f32⟩
  | 102 => ⟨S4x8448x4x2x64, .f32⟩
  | 103 => ⟨S4x8448x4x2x64, .f32⟩
  | 104 => ⟨S1x1x1x2x64, .f32⟩
  | 105 => ⟨S4x8448x4x2x64, .f32⟩
  | 106 => ⟨S4x8448x4x2x64, .f32⟩
  | 107 => ⟨S4x8448x4x2x32, .f32⟩
  | 108 => ⟨S4x8448x4x2x32, .f32⟩
  | 109 => ⟨S8448x2x2x32, .f32⟩
  | 110 => ⟨S8448x2x2x32, .f32⟩
  | 111 => ⟨S8448x1x2x2x32, .f32⟩
  | 112 => ⟨S8448x2x2x32, .f32⟩
  | 113 => ⟨S8448x2x2x32, .f32⟩
  | 114 => ⟨S8448x1x2x2x32, .f32⟩
  | 115 => ⟨S8448x1x2x1x32, .f32⟩
  | 116 => ⟨S8448x1x2x32, .f32⟩
  | 117 => ⟨S1x8448x1x2x32, .f32⟩
  | 118 => ⟨S4x8448x4x2x32, .f32⟩
  | 119 => ⟨S4x8448x4x2x32, .f32⟩
  | 120 => ⟨S8448x1x2x1x32, .f32⟩
  | 121 => ⟨S8448x1x2x32, .f32⟩
  | 122 => ⟨S1x8448x1x2x32, .f32⟩
  | 123 => ⟨S4x8448x4x2x32, .f32⟩
  | 124 => ⟨S4x8448x4x2x32, .f32⟩
  | 125 => ⟨S4x8448x4x2x32, .f32⟩
  | 126 => ⟨S8448x1x2x1x32, .f32⟩
  | 127 => ⟨S8448x1x2x32, .f32⟩
  | _ => ⟨S4x8448x1024, .f32⟩

abbrev hbmTy0_1 (i : Nat) : BufTy := match i % 128 with
  | 0 => ⟨S1x8448x1x2x32, .f32⟩
  | 1 => ⟨S4x8448x4x2x32, .f32⟩
  | 2 => ⟨S4x8448x4x2x32, .f32⟩
  | 3 => ⟨S8448x1x2x1x32, .f32⟩
  | 4 => ⟨S8448x1x2x32, .f32⟩
  | 5 => ⟨S1x8448x1x2x32, .f32⟩
  | 6 => ⟨S4x8448x4x2x32, .f32⟩
  | 7 => ⟨S4x8448x4x2x32, .f32⟩
  | 8 => ⟨S4x8448x4x2x32, .f32⟩
  | 9 => ⟨S4x8448x4x2x64, .f32⟩
  | 10 => ⟨S4x8448x4x2x2x32, .f32⟩
  | 11 => ⟨S4x8448x4x2x2x32, .f32⟩
  | 12 => ⟨S4x8448x512, .f32⟩
  | 13 => ⟨S_, .f32⟩
  | 14 => ⟨S4x8448x512, .f32⟩
  | 15 => ⟨S4x8448x512, .f32⟩
  | 16 => ⟨S4x8448x1x2x2x32, .f32⟩
  | 17 => ⟨S4x8448x1x2x2x32, .f32⟩
  | 18 => ⟨S4x8448x1x2x64, .f32⟩
  | 19 => ⟨S1x2x2x32, .f32⟩
  | 20 => ⟨S1x2x2x32, .f32⟩
  | 21 => ⟨S2x64, .f32⟩
  | 22 => ⟨S4x8448x1x2x64, .f32⟩
  | 23 => ⟨S_, .f32⟩
  | 24 => ⟨S4x8448x1x2, .f32⟩
  | 25 => ⟨S4x8448x1x2x1, .f32⟩
  | 26 => ⟨S_, .f32⟩
  | 27 => ⟨S4x8448x1x2x1, .f32⟩
  | 28 => ⟨S4x8448x1x2x1, .f32⟩
  | 29 => ⟨S_, .f32⟩
  | 30 => ⟨S4x8448x1x2x1, .f32⟩
  | 31 => ⟨S4x8448x1x2x1, .f32⟩
  | 32 => ⟨S4x8448x1x2x1, .f32⟩
  | 33 => ⟨S4x8448x1x2x64, .f32⟩
  | 34 => ⟨S4x8448x1x2x64, .f32⟩
  | 35 => ⟨S1x1x1x2x64, .f32⟩
  | 36 => ⟨S4x8448x1x2x64, .f32⟩
  | 37 => ⟨S4x8448x1x2x64, .f32⟩
  | 38 => ⟨S4x8448x1x2x32, .f32⟩
  | 39 => ⟨S4x8448x1x2x32, .f32⟩
  | 40 => ⟨S8448x2x2x32, .f32⟩
  | 41 => ⟨S8448x2x2x32, .f32⟩
  | 42 => ⟨S8448x1x2x2x32, .f32⟩
  | 43 => ⟨S8448x2x2x32, .f32⟩
  | 44 => ⟨S8448x2x2x32, .f32⟩
  | 45 => ⟨S8448x1x2x2x32, .f32⟩
  | 46 => ⟨S8448x1x2x1x32, .f32⟩
  | 47 => ⟨S8448x1x2x32, .f32⟩
  | 48 => ⟨S1x8448x1x2x32, .f32⟩
  | 49 => ⟨S4x8448x1x2x32, .f32⟩
  | 50 => ⟨S4x8448x1x2x32, .f32⟩
  | 51 => ⟨S8448x1x2x1x32, .f32⟩
  | 52 => ⟨S8448x1x2x32, .f32⟩
  | 53 => ⟨S1x8448x1x2x32, .f32⟩
  | 54 => ⟨S4x8448x1x2x32, .f32⟩
  | 55 => ⟨S4x8448x1x2x32, .f32⟩
  | 56 => ⟨S4x8448x1x2x32, .f32⟩
  | 57 => ⟨S8448x1x2x1x32, .f32⟩
  | 58 => ⟨S8448x1x2x32, .f32⟩
  | 59 => ⟨S1x8448x1x2x32, .f32⟩
  | 60 => ⟨S4x8448x1x2x32, .f32⟩
  | 61 => ⟨S4x8448x1x2x32, .f32⟩
  | 62 => ⟨S8448x1x2x1x32, .f32⟩
  | 63 => ⟨S8448x1x2x32, .f32⟩
  | 64 => ⟨S1x8448x1x2x32, .f32⟩
  | 65 => ⟨S4x8448x1x2x32, .f32⟩
  | 66 => ⟨S4x8448x1x2x32, .f32⟩
  | 67 => ⟨S4x8448x1x2x32, .f32⟩
  | 68 => ⟨S4x8448x1x2x64, .f32⟩
  | 69 => ⟨S4x8448x1x2x2x32, .f32⟩
  | 70 => ⟨S4x8448x1x2x2x32, .f32⟩
  | 71 => ⟨S4x8448x128, .f32⟩
  | 72 => ⟨S4x8448x512, .f32⟩
  | 73 => ⟨S4x8448x512, .f32⟩
  | 74 => ⟨S_, .f32⟩
  | 75 => ⟨S4x8448x512, .f32⟩
  | 76 => ⟨S4x8448x512, .f32⟩
  | 77 => ⟨S_, .f32⟩
  | 78 => ⟨S4x8448x512, .f32⟩
  | 79 => ⟨S4x8448x512, .f32⟩
  | 80 => ⟨S4x8448x512, .f32⟩
  | 81 => ⟨S_, .f32⟩
  | 82 => ⟨S4x8448x512, .f32⟩
  | 83 => ⟨S4x8448x512, .f32⟩
  | 84 => ⟨S4x8448x512, .f32⟩
  | 85 => ⟨S4x8448x512, .f32⟩
  | 86 => ⟨S_, .f32⟩
  | 87 => ⟨S4x8448x512, .f32⟩
  | 88 => ⟨S4x8448x512, .f32⟩
  | 89 => ⟨S_, .f32⟩
  | 90 => ⟨S4x8448x512, .f32⟩
  | 91 => ⟨S4x8448x512, .f32⟩
  | 92 => ⟨S4x8448x512, .f32⟩
  | 93 => ⟨S4x8448x512, .f32⟩
  | 94 => ⟨S4x8448x512, .f32⟩
  | 95 => ⟨S_, .f32⟩
  | 96 => ⟨S4x8448x512, .f32⟩
  | 97 => ⟨S4x8448x512, .f32⟩
  | 98 => ⟨S_, .f32⟩
  | 99 => ⟨S4x8448x512, .f32⟩
  | 100 => ⟨S4x8448x512, .f32⟩
  | 101 => ⟨S4x8448x512, .f32⟩
  | 102 => ⟨S4x8448x3072, .f32⟩
  | 103 => ⟨S4x8448x3072, .f32⟩
  | 104 => ⟨S_, .f32⟩
  | 105 => ⟨S4x8448x3072, .f32⟩
  | 106 => ⟨S4x8448x3072, .f32⟩
  | 107 => ⟨S_, .f32⟩
  | 108 => ⟨S4x8448x3072, .f32⟩
  | 109 => ⟨S4x8448x3072, .f32⟩
  | 110 => ⟨S4x8448x512, .bf16⟩
  | 111 => ⟨S4x8448x512, .bf16⟩
  | 112 => ⟨S4x8448x512, .bf16⟩
  | 113 => ⟨S4x8448x512, .bf16⟩
  | 114 => ⟨S4x8448x512, .bf16⟩
  | 115 => ⟨S4x8448x512, .bf16⟩
  | 116 => ⟨S4x8448x512, .bf16⟩
  | 117 => ⟨S4x8448x512, .bf16⟩
  | 118 => ⟨S4x8448x512, .bf16⟩
  | 119 => ⟨S4x8448x128, .bf16⟩
  | 120 => ⟨S4x8448x128, .bf16⟩
  | 121 => ⟨S4x8448x512, .bf16⟩
  | 122 => ⟨S4x8448x3072, .bf16⟩
  | _ => ⟨S4x8448x1024, .f32⟩

abbrev hbmTy (i : Nat) : BufTy := match i / 128 with
  | 0 => hbmTy0_0 i
  | 1 => hbmTy0_1 i
  | _ => ⟨S4x8448x1024, .f32⟩

abbrev bufTy : (tb : Table) → Fin (tcTables nBuf tb) → BufTy
  | .hbm, ⟨i, _⟩ => hbmTy i
  | _, _ => ⟨S4x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_cst_7 : Ref sig .tc := ⟨.hbm, 92, rfl⟩
abbrev main_v76 : Ref sig .tc := ⟨.hbm, 93, rfl⟩
abbrev main_v77 : Ref sig .tc := ⟨.hbm, 94, rfl⟩
abbrev main_cst_8 : Ref sig .tc := ⟨.hbm, 95, rfl⟩
abbrev main_v78 : Ref sig .tc := ⟨.hbm, 96, rfl⟩
abbrev main_v79 : Ref sig .tc := ⟨.hbm, 97, rfl⟩
abbrev main_cst_9 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_cst_10 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_cst_11 : Ref sig .tc := ⟨.hbm, 151, rfl⟩
abbrev main_v131 : Ref sig .tc := ⟨.hbm, 152, rfl⟩
abbrev main_v132 : Ref sig .tc := ⟨.hbm, 153, rfl⟩
abbrev main_cst_12 : Ref sig .tc := ⟨.hbm, 154, rfl⟩
abbrev main_v133 : Ref sig .tc := ⟨.hbm, 155, rfl⟩
abbrev main_v134 : Ref sig .tc := ⟨.hbm, 156, rfl⟩
abbrev main_cst_13 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_v170 : Ref sig .tc := ⟨.hbm, 193, rfl⟩
abbrev main_v171 : Ref sig .tc := ⟨.hbm, 194, rfl⟩
abbrev main_v172 : Ref sig .tc := ⟨.hbm, 195, rfl⟩
abbrev main_v173 : Ref sig .tc := ⟨.hbm, 196, rfl⟩
abbrev main_v174 : Ref sig .tc := ⟨.hbm, 197, rfl⟩
abbrev main_v175 : Ref sig .tc := ⟨.hbm, 198, rfl⟩
abbrev main_v176 : Ref sig .tc := ⟨.hbm, 199, rfl⟩
abbrev main_call0_v0 : Ref sig .tc := ⟨.hbm, 200, rfl⟩
abbrev main_call0_v1 : Ref sig .tc := ⟨.hbm, 201, rfl⟩
abbrev main_call0_cst : Ref sig .tc := ⟨.hbm, 202, rfl⟩
abbrev main_call0_v2 : Ref sig .tc := ⟨.hbm, 203, rfl⟩
abbrev main_call0_v3 : Ref sig .tc := ⟨.hbm, 204, rfl⟩
abbrev main_call0_cst_0 : Ref sig .tc := ⟨.hbm, 205, rfl⟩
abbrev main_call0_v4 : Ref sig .tc := ⟨.hbm, 206, rfl⟩
abbrev main_call0_v5 : Ref sig .tc := ⟨.hbm, 207, rfl⟩
abbrev main_v177 : Ref sig .tc := ⟨.hbm, 208, rfl⟩
abbrev main_cst_14 : Ref sig .tc := ⟨.hbm, 209, rfl⟩
abbrev main_v178 : Ref sig .tc := ⟨.hbm, 210, rfl⟩
abbrev main_v179 : Ref sig .tc := ⟨.hbm, 211, rfl⟩
abbrev main_call1_v0 : Ref sig .tc := ⟨.hbm, 212, rfl⟩
abbrev main_call1_v1 : Ref sig .tc := ⟨.hbm, 213, rfl⟩
abbrev main_call1_cst : Ref sig .tc := ⟨.hbm, 214, rfl⟩
abbrev main_call1_v2 : Ref sig .tc := ⟨.hbm, 215, rfl⟩
abbrev main_call1_v3 : Ref sig .tc := ⟨.hbm, 216, rfl⟩
abbrev main_call1_cst_0 : Ref sig .tc := ⟨.hbm, 217, rfl⟩
abbrev main_call1_v4 : Ref sig .tc := ⟨.hbm, 218, rfl⟩
abbrev main_call1_v5 : Ref sig .tc := ⟨.hbm, 219, rfl⟩
abbrev main_v180 : Ref sig .tc := ⟨.hbm, 220, rfl⟩
abbrev main_call2_v0 : Ref sig .tc := ⟨.hbm, 221, rfl⟩
abbrev main_call2_v1 : Ref sig .tc := ⟨.hbm, 222, rfl⟩
abbrev main_call2_cst : Ref sig .tc := ⟨.hbm, 223, rfl⟩
abbrev main_call2_v2 : Ref sig .tc := ⟨.hbm, 224, rfl⟩
abbrev main_call2_v3 : Ref sig .tc := ⟨.hbm, 225, rfl⟩
abbrev main_call2_cst_0 : Ref sig .tc := ⟨.hbm, 226, rfl⟩
abbrev main_call2_v4 : Ref sig .tc := ⟨.hbm, 227, rfl⟩
abbrev main_call2_v5 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_cst_15 : Ref sig .tc := ⟨.hbm, 232, rfl⟩
abbrev main_v184 : Ref sig .tc := ⟨.hbm, 233, rfl⟩
abbrev main_v185 : Ref sig .tc := ⟨.hbm, 234, rfl⟩
abbrev main_cst_16 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩

abbrev nD : Nat := 1
abbrev τ : Topo := Topo.v7x

variable {F : FTy → Type} [FloatOps F]
-- ==== Kernel3.lean ====
abbrev S4x8448x1024 : Shape := ⟨3, ![4, 8448, 1024]⟩
abbrev S8x1x3072 : Shape := ⟨3, ![8, 1, 3072]⟩
abbrev S2x4x8448x512 : Shape := ⟨4, ![2, 4, 8448, 512]⟩
abbrev S4x8448x512 : Shape := ⟨3, ![4, 8448, 512]⟩
abbrev S1x512 : Shape := ⟨2, ![1, 512]⟩
abbrev S4x8448x3072 : Shape := ⟨3, ![4, 8448, 3072]⟩
abbrev S512x1024 : Shape := ⟨2, ![512, 1024]⟩
abbrev S1024x1024 : Shape := ⟨2, ![1024, 1024]⟩
abbrev S1x1024 : Shape := ⟨2, ![1, 1024]⟩
abbrev S1x256x1024 : Shape := ⟨3, ![1, 256, 1024]⟩
abbrev S1x1x3072 : Shape := ⟨3, ![1, 1, 3072]⟩
abbrev S1x1x256x512 : Shape := ⟨4, ![1, 1, 256, 512]⟩
abbrev S1x256x512 : Shape := ⟨3, ![1, 256, 512]⟩
abbrev S1x256x3072 : Shape := ⟨3, ![1, 256, 3072]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S256x1024 : Shape := ⟨2, ![256, 1024]⟩
abbrev S1x3072 : Shape := ⟨2, ![1, 3072]⟩

abbrev nBuf : Space → Nat
  | .hbm => 14
  | .vmem => 24
  | .smem => 0
  | _ => 0

abbrev bufTy : (tb : Table) → Fin (tcTables nBuf tb) → BufTy
  | .hbm, ⟨0, _⟩ => ⟨S4x8448x1024, .f32⟩
  | .hbm, ⟨1, _⟩ => ⟨S8x1x3072, .f32⟩
  | .hbm, ⟨2, _⟩ => ⟨S2x4x8448x512, .f32⟩
  | .hbm, ⟨3, _⟩ => ⟨S4x8448x512, .bf16⟩
  | .hbm, ⟨4, _⟩ => ⟨S1x512, .f32⟩
  | .hbm, ⟨5, _⟩ => ⟨S4x8448x512, .bf16⟩
  | .hbm, ⟨6, _⟩ => ⟨S4x8448x512, .bf16⟩
  | .hbm, ⟨7, _⟩ => ⟨S4x8448x3072, .bf16⟩
  | .hbm, ⟨8, _⟩ => ⟨S512x1024, .bf16⟩
  | .hbm, ⟨9, _⟩ => ⟨S512x1024, .bf16⟩
  | .hbm, ⟨10, _⟩ => ⟨S512x1024, .bf16⟩
  | .hbm, ⟨11, _⟩ => ⟨S1024x1024, .bf16⟩
  | .hbm, ⟨12, _⟩ => ⟨S1x1024, .f32⟩
  | .hbm, ⟨13, _⟩ => ⟨S4x8448x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x1x256x512, .f32⟩
  | .local _ .vmem, ⟨5, _⟩ => ⟨S1x1x256x512, .f32⟩
  | .local _ .vmem, ⟨6, _⟩ => ⟨S1x1x256x512, .f32⟩
  | .local _ .vmem, ⟨7, _⟩ => ⟨S1x1x256x512, .f32⟩
  | .local _ .vmem, ⟨8, _⟩ => ⟨S1x256x512, .bf16⟩
  | .local _ .vmem, ⟨9, _⟩ => ⟨S1x256x512, .bf16⟩
  | .local _ .vmem, ⟨10, _⟩ => ⟨S1x512, .f32⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S1x256x512, .bf16⟩
  | .local _ .vmem, ⟨15, _⟩ => ⟨S1x256x3072, .bf16⟩
  | .local _ .vmem, ⟨16, _⟩ => ⟨S1x256x3072, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S1024x1024, .bf16⟩
  | .local _ .vmem, ⟨21, _⟩ => ⟨S1x1024, .f32⟩
  | .local _ .vmem, ⟨22, _⟩ => ⟨S1x256x1024, .f32⟩
  | .local _ .vmem, ⟨23, _⟩ => ⟨S1x256x1024, .f32⟩
  | _, _ => ⟨S4x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨2, ![4, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg1 c32_i32
  let c4_i32 : BitVec 32 := 4#32
  let v1 : BitVec 32 := Scalar.select v0 arg0 c4_i32
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference3Ideal.lean ====
abbrev S4x8448x1024 : Shape := ⟨3, ![4, 8448, 1024]⟩
abbrev S8x1x3072 : Shape := ⟨3, ![8, 1, 3072]⟩
abbrev S2x4x8448x512 : Shape := ⟨4, ![2, 4, 8448, 512]⟩
abbrev S4x8448x512 : Shape := ⟨3, ![4, 8448, 512]⟩
abbrev S1x512 : Shape := ⟨2, ![1, 512]⟩
abbrev S4x8448x3072 : Shape := ⟨3, ![4, 8448, 3072]⟩
abbrev S512x1024 : Shape := ⟨2, ![512, 1024]⟩
abbrev S1024x1024 : Shape := ⟨2, ![1024, 1024]⟩
abbrev S1x1024 : Shape := ⟨2, ![1, 1024]⟩
abbrev S4x1x3072 : Shape := ⟨3, ![4, 1, 3072]⟩
abbrev S4x1x1024 : Shape := ⟨3, ![4, 1, 1024]⟩
abbrev S1x1x3072 : Shape := ⟨3, ![1, 1, 3072]⟩
abbrev S1x3072 : Shape := ⟨2, ![1, 3072]⟩
abbrev S1x4x8448x512 : Shape := ⟨4, ![1, 4, 8448, 512]⟩
abbrev S4x8448x4x128 : Shape := ⟨4, ![4, 8448, 4, 128]⟩
abbrev S512 : Shape := ⟨1, ![512]⟩
abbrev S_ : Shape := ⟨0, ![]⟩
abbrev S4x8448x4 : Shape := ⟨3, ![4, 8448, 4]⟩
abbrev S4x8448x4x1 : Shape := ⟨4, ![4, 8448, 4, 1]⟩
abbrev S1x1x512 : Shape := ⟨3, ![1, 1, 512]⟩
abbrev S4x8192x1024 : Shape := ⟨3, ![4, 8192, 1024]⟩
abbrev S4x256x1024 : Shape := ⟨3, ![4, 256, 1024]⟩
abbrev S1x1x1024 : Shape := ⟨3, ![1, 1, 1024]⟩

abbrev nBuf : Space → Nat
  | .hbm => 89
  | .vmem => 0
  | .smem => 0
  | _ => 0

abbrev bufTy : (tb : Table) → Fin (tcTables nBuf tb) → BufTy
  | .hbm, ⟨0, _⟩ => ⟨S4x8448x1024, .f32⟩
  | .hbm, ⟨1, _⟩ => ⟨S8x1x3072, .f32⟩
  | .hbm, ⟨2, _⟩ => ⟨S2x4x8448x512, .f32⟩
  | .hbm, ⟨3, _⟩ => ⟨S4x8448x512, .bf16⟩
  | .hbm, ⟨4, _⟩ => ⟨S1x512, .f32⟩
  | .hbm, ⟨5, _⟩ => ⟨S4x8448x512, .bf16⟩
  | .hbm, ⟨6, _⟩ => ⟨S4x8448x512, .bf16⟩
  | .hbm, ⟨7, _⟩ => ⟨S4x8448x3072, .bf16⟩
  | .hbm, ⟨8, _⟩ => ⟨S512x1024, .bf16⟩
  | .hbm, ⟨9, _⟩ => ⟨S512x1024, .bf16⟩
  | .hbm, ⟨10, _⟩ => ⟨S512x1024, .bf16⟩
  | .hbm, ⟨11, _⟩ => ⟨S1024x1024, .bf16⟩
  | .hbm, ⟨12, _⟩ => ⟨S1x1024, .f32⟩
  | .hbm, ⟨13, _⟩ => ⟨S4x1x3072, .f32⟩
  | .hbm, ⟨14, _⟩ => ⟨S4x1x1024, .f32⟩
  | .hbm, ⟨15, _⟩ => ⟨S4x1x1024, .f32⟩
  | .hbm, ⟨16, _⟩ => ⟨S4x1x1024, .f32⟩
  | .hbm, ⟨17, _⟩ => ⟨S1x1x3072, .f32⟩
  | .hbm, ⟨18, _⟩ => ⟨S1x3072, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x4x8448x512, .f32⟩
  | .hbm, ⟨23, _⟩ => ⟨S4x8448x512, .f32⟩
  | .hbm, ⟨24, _⟩ => ⟨S1x4x8448x512, .f32⟩
  | .hbm, ⟨25, _⟩ => ⟨S4x8448x512, .f32⟩
  | .hbm, ⟨26, _⟩ => ⟨S4x8448x512, .f32⟩
  | .hbm, ⟨27, _⟩ => ⟨S4x8448x4x128, .f32⟩
  | .hbm, ⟨28, _⟩ => ⟨S512, .f32⟩
  | .hbm, ⟨29, _⟩ => ⟨S_, .f32⟩
  | .hbm, ⟨30, _⟩ => ⟨S4x8448x4, .f32⟩
  | .hbm, ⟨31, _⟩ => ⟨S4x8448x4x1, .f32⟩
  | .hbm, ⟨32, _⟩ => ⟨S_, .f32⟩
  | .hbm, ⟨33, _⟩ => ⟨S4x8448x4x1, .f32⟩
  | .hbm, ⟨34, _⟩ => ⟨S4x8448x4x1, .f32⟩
  | .hbm, ⟨35, _⟩ => ⟨S4x8448x4x128, .f32⟩
  | .hbm, ⟨36, _⟩ => ⟨S4x8448x4x128, .f32⟩
  | .hbm, ⟨37, _⟩ => ⟨S4x8448x4x128, .f32⟩
  | .hbm, ⟨38, _⟩ => ⟨S_, .f32⟩
  | .hbm, ⟨39, _⟩ => ⟨S4x8448x4, .f32⟩
  | .hbm, ⟨40, _⟩ => ⟨S4x8448x4x1, .f32⟩
  | .hbm, ⟨41, _⟩ => ⟨S_, .f32⟩
  | .hbm, ⟨42, _⟩ => ⟨S4x8448x4x1, .f32⟩
  | .hbm, ⟨43, _⟩ => ⟨S4x8448x4x1, .f32⟩
  | .hbm, ⟨44, _⟩ => ⟨S4x8448x4x128, .f32⟩
  | .hbm, ⟨45, _⟩ => ⟨S4x8448x4x128, .f32⟩
  | .hbm, ⟨46, _⟩ => ⟨S_, .f32⟩
  | .hbm, ⟨47, _⟩ => ⟨S4x8448x4x1, .f32⟩
  | .hbm, ⟨48, _⟩ => ⟨S4x8448x4x1, .f32⟩
  | .hbm, ⟨49, _⟩ => ⟨S4x8448x4x1, .f32⟩
  | .hbm, ⟨50, _⟩ => ⟨S4x8448x4x128, .f32⟩
  | .hbm, ⟨51, _⟩ => ⟨S4x8448x4x128, .f32⟩
  | .hbm, ⟨52, _⟩ => ⟨S4x8448x512, .f32⟩
  | .hbm, ⟨53, _⟩ => ⟨S1x1x512, .f32⟩
  | .hbm, ⟨54, _⟩ => ⟨S4x8448x512, .f32⟩
  | .hbm, ⟨55, _⟩ => ⟨S4x8448x512, .f32⟩
  | .hbm, ⟨56, _⟩ => ⟨S4x8448x512, .f32⟩
  | .hbm, ⟨57, _⟩ => ⟨S4x8448x512, .f32⟩
  | .hbm, ⟨58, _⟩ => ⟨S4x8448x512, .f32⟩
  | .hbm, ⟨59, _⟩ => ⟨S4x8448x512, .f32⟩
  | .hbm, ⟨60, _⟩ => ⟨S4x8448x3072, .f32⟩
  | .hbm, ⟨61, _⟩ => ⟨S512x1024, .f32⟩
  | .hbm, ⟨62, _⟩ => ⟨S512x1024, .f32⟩
  | .hbm, ⟨63, _⟩ => ⟨S512x1024, .f32⟩
  | .hbm, ⟨64, _⟩ => ⟨S1024x1024, .f32⟩
  | .hbm, ⟨65, _⟩ => ⟨S4x8448x1024, .f32⟩
  | .hbm, ⟨66, _⟩ => ⟨S4x8448x1024, .f32⟩
  | .hbm, ⟨67, _⟩ => ⟨S4x8448x1024, .f32⟩
  | .hbm, ⟨68, _⟩ => ⟨S4x8448x1024, .f32⟩
  | .hbm, ⟨69, _⟩ => ⟨S4x8448x1024, .f32⟩
  | .hbm, ⟨70, _⟩ => ⟨S4x8448x1024, .f32⟩
  | .hbm, ⟨71, _⟩ => ⟨S4x8448x1024, .f32⟩
  | .hbm, ⟨72, _⟩ => ⟨S4x8448x1024, .f32⟩
  | .hbm, ⟨73, _⟩ => ⟨S4x8448x1024, .f32⟩
  | .hbm, ⟨74, _⟩ => ⟨S4x8448x1024, .f32⟩
  | .hbm, ⟨75, _⟩ => ⟨S4x8448x1024, .f32⟩
  | .hbm, ⟨76, _⟩ => ⟨S4x8448x1024, .f32⟩
  | .hbm, ⟨77, _⟩ => ⟨S4x8192x1024, .f32⟩
  | .hbm, ⟨78, _⟩ => ⟨S4x8192x1024, .f32⟩
  | .hbm, ⟨79, _⟩ => ⟨S4x8192x1024, .f32⟩
  | .hbm, ⟨80, _⟩ => ⟨S4x8192x1024, .f32⟩
  | .hbm, ⟨81, _⟩ => ⟨S4x8192x1024, .f32⟩
  | .hbm, ⟨82, _⟩ => ⟨S4x256x1024, .f32⟩
  | .hbm, ⟨83, _⟩ => ⟨S4x256x1024, .f32⟩
  | .hbm, ⟨84, _⟩ => ⟨S1x1x1024, .f32⟩
  | .hbm, ⟨85, _⟩ => ⟨S4x256x1024, .f32⟩
  | .hbm, ⟨86, _⟩ => ⟨S4x256x1024, .f32⟩
  | .hbm, ⟨87, _⟩ => ⟨S4x256x1024, .f32⟩
  | .hbm, ⟨88, _⟩ => ⟨S4x8448x1024, .f32⟩
  | _, _ => ⟨S4x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_cst_0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_1 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩

abbrev nD : Nat := 1
abbrev τ : Topo := Topo.v7x

variable {F : FTy → Type} [FloatOps F]
-- ==== Kernel4.lean ====
abbrev S4x8448x1024 : Shape := ⟨3, ![4, 8448, 1024]⟩
abbrev S8x1x3072 : Shape := ⟨3, ![8, 1, 3072]⟩
abbrev S2x4x8448x512 : Shape := ⟨4, ![2, 4, 8448, 512]⟩
abbrev S4x8448x512 : Shape := ⟨3, ![4, 8448, 512]⟩
abbrev S1x512 : Shape := ⟨2, ![1, 512]⟩
abbrev S4x8448x3072 : Shape := ⟨3, ![4, 8448, 3072]⟩
abbrev S512x1024 : Shape := ⟨2, ![512, 1024]⟩
abbrev S1024x1024 : Shape := ⟨2, ![1024, 1024]⟩
abbrev S1x1024 : Shape := ⟨2, ![1, 1024]⟩
abbrev S4x8192x1024 : Shape := ⟨3, ![4, 8192, 1024]⟩
abbrev S1x256x1024 : Shape := ⟨3, ![1, 256, 1024]⟩
abbrev S1x1x3072 : Shape := ⟨3, ![1, 1, 3072]⟩
abbrev S1x1x256x512 : Shape := ⟨4, ![1, 1, 256, 512]⟩
abbrev S1x256x512 : Shape := ⟨3, ![1, 256, 512]⟩
abbrev S1x256x3072 : Shape := ⟨3, ![1, 256, 3072]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S256x1024 : Shape := ⟨2, ![256, 1024]⟩
abbrev S1x3072 : Shape := ⟨2, ![1, 3072]⟩

abbrev nBuf : Space → Nat
  | .hbm => 14
  | .vmem => 24
  | .smem => 0
  | _ => 0

abbrev bufTy : (tb : Table) → Fin (tcTables nBuf tb) → BufTy
  | .hbm, ⟨0, _⟩ => ⟨S4x8448x1024, .f32⟩
  | .hbm, ⟨1, _⟩ => ⟨S8x1x3072, .f32⟩
  | .hbm, ⟨2, _⟩ => ⟨S2x4x8448x512, .f32⟩
  | .hbm, ⟨3, _⟩ => ⟨S4x8448x512, .bf16⟩
  | .hbm, ⟨4, _⟩ => ⟨S1x512, .f32⟩
  | .hbm, ⟨5, _⟩ => ⟨S4x8448x512, .bf16⟩
  | .hbm, ⟨6, _⟩ => ⟨S4x8448x512, .bf16⟩
  | .hbm, ⟨7, _⟩ => ⟨S4x8448x3072, .bf16⟩
  | .hbm, ⟨8, _⟩ => ⟨S512x1024, .bf16⟩
  | .hbm, ⟨9, _⟩ => ⟨S512x1024, .bf16⟩
  | .hbm, ⟨10, _⟩ => ⟨S512x1024, .bf16⟩
  | .hbm, ⟨11, _⟩ => ⟨S1024x1024, .bf16⟩
  | .hbm, ⟨12, _⟩ => ⟨S1x1024, .f32⟩
  | .hbm, ⟨13, _⟩ => ⟨S4x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x1x256x512, .f32⟩
  | .local _ .vmem, ⟨5, _⟩ => ⟨S1x1x256x512, .f32⟩
  | .local _ .vmem, ⟨6, _⟩ => ⟨S1x1x256x512, .f32⟩
  | .local _ .vmem, ⟨7, _⟩ => ⟨S1x1x256x512, .f32⟩
  | .local _ .vmem, ⟨8, _⟩ => ⟨S1x256x512, .bf16⟩
  | .local _ .vmem, ⟨9, _⟩ => ⟨S1x256x512, .bf16⟩
  | .local _ .vmem, ⟨10, _⟩ => ⟨S1x512, .f32⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S1x256x512, .bf16⟩
  | .local _ .vmem, ⟨15, _⟩ => ⟨S1x256x3072, .bf16⟩
  | .local _ .vmem, ⟨16, _⟩ => ⟨S1x256x3072, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S1024x1024, .bf16⟩
  | .local _ .vmem, ⟨21, _⟩ => ⟨S1x1024, .f32⟩
  | .local _ .vmem, ⟨22, _⟩ => ⟨S1x256x1024, .f32⟩
  | .local _ .vmem, ⟨23, _⟩ => ⟨S1x256x1024, .f32⟩
  | _, _ => ⟨S4x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg1 c32_i32
  let c4_i32 : BitVec 32 := 4#32
  let v1 : BitVec 32 := Scalar.select v0 arg0 c4_i32
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference4Ideal.lean ====
abbrev S4x8448x1024 : Shape := ⟨3, ![4, 8448, 1024]⟩
abbrev S8x1x3072 : Shape := ⟨3, ![8, 1, 3072]⟩
abbrev S2x4x8448x512 : Shape := ⟨4, ![2, 4, 8448, 512]⟩
abbrev S4x8448x512 : Shape := ⟨3, ![4, 8448, 512]⟩
abbrev S1x512 : Shape := ⟨2, ![1, 512]⟩
abbrev S4x8448x3072 : Shape := ⟨3, ![4, 8448, 3072]⟩
abbrev S512x1024 : Shape := ⟨2, ![512, 1024]⟩
abbrev S1024x1024 : Shape := ⟨2, ![1024, 1024]⟩
abbrev S1x1024 : Shape := ⟨2, ![1, 1024]⟩
abbrev S4x1x3072 : Shape := ⟨3, ![4, 1, 3072]⟩
abbrev S4x1x1024 : Shape := ⟨3, ![4, 1, 1024]⟩
abbrev S1x4x8448x512 : Shape := ⟨4, ![1, 4, 8448, 512]⟩
abbrev S4x8448x4x128 : Shape := ⟨4, ![4, 8448, 4, 128]⟩
abbrev S512 : Shape := ⟨1, ![512]⟩
abbrev S_ : Shape := ⟨0, ![]⟩
abbrev S4x8448x4 : Shape := ⟨3, ![4, 8448, 4]⟩
abbrev S4x8448x4x1 : Shape := ⟨4, ![4, 8448, 4, 1]⟩
abbrev S1x1x512 : Shape := ⟨3, ![1, 1, 512]⟩
abbrev S4x8192x1024 : Shape := ⟨3, ![4, 8192, 1024]⟩
abbrev S1024 : Shape := ⟨1, ![1024]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 94
  | .vmem => 0
  | .smem => 0
  | _ => 0

abbrev bufTy : (tb : Table) → Fin (tcTables nBuf tb) → BufTy
  | .hbm, ⟨0, _⟩ => ⟨S4x8448x1024, .f32⟩
  | .hbm, ⟨1, _⟩ => ⟨S8x1x3072, .f32⟩
  | .hbm, ⟨2, _⟩ => ⟨S2x4x8448x512, .f32⟩
  | .hbm, ⟨3, _⟩ => ⟨S4x8448x512, .bf16⟩
  | .hbm, ⟨4, _⟩ => ⟨S1x512, .f32⟩
  | .hbm, ⟨5, _⟩ => ⟨S4x8448x512, .bf16⟩
  | .hbm, ⟨6, _⟩ => ⟨S4x8448x512, .bf16⟩
  | .hbm, ⟨7, _⟩ => ⟨S4x8448x3072, .bf16⟩
  | .hbm, ⟨8, _⟩ => ⟨S512x1024, .bf16⟩
  | .hbm, ⟨9, _⟩ => ⟨S512x1024, .bf16⟩
  | .hbm, ⟨10, _⟩ => ⟨S512x1024, .bf16⟩
  | .hbm, ⟨11, _⟩ => ⟨S1024x1024, .bf16⟩
  | .hbm, ⟨12, _⟩ => ⟨S1x1024, .f32⟩
  | .hbm, ⟨13, _⟩ => ⟨S4x1x3072, .f32⟩
  | .hbm, ⟨14, _⟩ => ⟨S4x1x1024, .f32⟩
  | .hbm, ⟨15, _⟩ => ⟨S4x1x1024, .f32⟩
  | .hbm, ⟨16, _⟩ => ⟨S4x1x1024, .f32⟩
  | .hbm, ⟨17, _⟩ => ⟨S1x4x8448x512, .f32⟩
  | .hbm, ⟨18, _⟩ => ⟨S4x8448x512, .f32⟩
  | .hbm, ⟨19, _⟩ => ⟨S1x4x8448x512, .f32⟩
  | .hbm, ⟨20, _⟩ => ⟨S4x8448x512, .f32⟩
  | .hbm, ⟨21, _⟩ => ⟨S4x8448x512, .f32⟩
  | .hbm, ⟨22, _⟩ => ⟨S4x8448x4x128, .f32⟩
  | .hbm, ⟨23, _⟩ => ⟨S512, .f32⟩
  | .hbm, ⟨24, _⟩ => ⟨S_, .f32⟩
  | .hbm, ⟨25, _⟩ => ⟨S4x8448x4, .f32⟩
  | .hbm, ⟨26, _⟩ => ⟨S4x8448x4x1, .f32⟩
  | .hbm, ⟨27, _⟩ => ⟨S_, .f32⟩
  | .hbm, ⟨28, _⟩ => ⟨S4x8448x4x1, .f32⟩
  | .hbm, ⟨29, _⟩ => ⟨S4x8448x4x1, .f32⟩
  | .hbm, ⟨30, _⟩ => ⟨S4x8448x4x128, .f32⟩
  | .hbm, ⟨31, _⟩ => ⟨S4x8448x4x128, .f32⟩
  | .hbm, ⟨32, _⟩ => ⟨S4x8448x4x128, .f32⟩
  | .hbm, ⟨33, _⟩ => ⟨S_, .f32⟩
  | .hbm, ⟨34, _⟩ => ⟨S4x8448x4, .f32⟩
  | .hbm, ⟨35, _⟩ => ⟨S4x8448x4x1, .f32⟩
  | .hbm, ⟨36, _⟩ => ⟨S_, .f32⟩
  | .hbm, ⟨37, _⟩ => ⟨S4x8448x4x1, .f32⟩
  | .hbm, ⟨38, _⟩ => ⟨S4x8448x4x1, .f32⟩
  | .hbm, ⟨39, _⟩ => ⟨S4x8448x4x128, .f32⟩
  | .hbm, ⟨40, _⟩ => ⟨S4x8448x4x128, .f32⟩
  | .hbm, ⟨41, _⟩ => ⟨S_, .f32⟩
  | .hbm, ⟨42, _⟩ => ⟨S4x8448x4x1, .f32⟩
  | .hbm, ⟨43, _⟩ => ⟨S4x8448x4x1, .f32⟩
  | .hbm, ⟨44, _⟩ => ⟨S4x8448x4x1, .f32⟩
  | .hbm, ⟨45, _⟩ => ⟨S4x8448x4x128, .f32⟩
  | .hbm, ⟨46, _⟩ => ⟨S4x8448x4x128, .f32⟩
  | .hbm, ⟨47, _⟩ => ⟨S4x8448x512, .f32⟩
  | .hbm, ⟨48, _⟩ => ⟨S1x1x512, .f32⟩
  | .hbm, ⟨49, _⟩ => ⟨S4x8448x512, .f32⟩
  | .hbm, ⟨50, _⟩ => ⟨S4x8448x512, .f32⟩
  | .hbm, ⟨51, _⟩ => ⟨S4x8448x512, .f32⟩
  | .hbm, ⟨52, _⟩ => ⟨S4x8448x512, .f32⟩
  | .hbm, ⟨53, _⟩ => ⟨S4x8448x512, .f32⟩
  | .hbm, ⟨54, _⟩ => ⟨S4x8448x512, .f32⟩
  | .hbm, ⟨55, _⟩ => ⟨S4x8448x3072, .f32⟩
  | .hbm, ⟨56, _⟩ => ⟨S512x1024, .f32⟩
  | .hbm, ⟨57, _⟩ => ⟨S512x1024, .f32⟩
  | .hbm, ⟨58, _⟩ => ⟨S512x1024, .f32⟩
  | .hbm, ⟨59, _⟩ => ⟨S1024x1024, .f32⟩
  | .hbm, ⟨60, _⟩ => ⟨S4x8448x1024, .f32⟩
  | .hbm, ⟨61, _⟩ => ⟨S4x8448x1024, .f32⟩
  | .hbm, ⟨62, _⟩ => ⟨S4x8448x1024, .f32⟩
  | .hbm, ⟨63, _⟩ => ⟨S4x8448x1024, .f32⟩
  | .hbm, ⟨64, _⟩ => ⟨S4x8448x1024, .f32⟩
  | .hbm, ⟨65, _⟩ => ⟨S4x8448x1024, .f32⟩
  | .hbm, ⟨66, _⟩ => ⟨S4x8448x1024, .f32⟩
  | .hbm, ⟨67, _⟩ => ⟨S4x8448x1024, .f32⟩
  | .hbm, ⟨68, _⟩ => ⟨S4x8448x1024, .f32⟩
  | .hbm, ⟨69, _⟩ => ⟨S4x8448x1024, .f32⟩
  | .hbm, ⟨70, _⟩ => ⟨S4x8448x1024, .f32⟩
  | .hbm, ⟨71, _⟩ => ⟨S4x8448x1024, .f32⟩
  | .hbm, ⟨72, _⟩ => ⟨S4x8192x1024, .f32⟩
  | .hbm, ⟨73, _⟩ => ⟨S4x8192x1024, .f32⟩
  | .hbm, ⟨74, _⟩ => ⟨S4x8192x1024, .f32⟩
  | .hbm, ⟨75, _⟩ => ⟨S4x8192x1024, .f32⟩
  | .hbm, ⟨76, _⟩ => ⟨S4x8192x1024, .f32⟩
  | .hbm, ⟨77, _⟩ => ⟨S1024, .f32⟩
  | .hbm, ⟨78, _⟩ => ⟨S4x8192x1024, .f32⟩
  | .hbm, ⟨79, _⟩ => ⟨S_, .f32⟩
  | .hbm, ⟨80, _⟩ => ⟨S4x8192, .f32⟩
  | .hbm, ⟨81, _⟩ => ⟨S4x8192x1, .f32⟩
  | .hbm, ⟨82, _⟩ => ⟨S_, .f32⟩
  | .hbm, ⟨83, _⟩ => ⟨S4x8192x1, .f32⟩
  | .hbm, ⟨84, _⟩ => ⟨S4x8192x1, .f32⟩
  | .hbm, ⟨85, _⟩ => ⟨S_, .f32⟩
  | .hbm, ⟨86, _⟩ => ⟨S4x8192x1, .f32⟩
  | .hbm, ⟨87, _⟩ => ⟨S4x8192x1, .f32⟩
  | .hbm, ⟨88, _⟩ => ⟨S4x8192x1, .f32⟩
  | .hbm, ⟨89, _⟩ => ⟨S4x8192x1024, .f32⟩
  | .hbm, ⟨90, _⟩ => ⟨S4x8192x1024, .f32⟩
  | .hbm, ⟨91, _⟩ => ⟨S1x1x1024, .f32⟩
  | .hbm, ⟨92, _⟩ => ⟨S4x8192x1024, .f32⟩
  | .hbm, ⟨93, _⟩ => ⟨S4x8192x1024, .f32⟩
  | _, _ => ⟨S4x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_4 : Ref sig .tc := ⟨.hbm, 79, rfl⟩
abbrev main_v61 : Ref sig .tc := ⟨.hbm, 80, rfl⟩
abbrev main_v62 : Ref sig .tc := ⟨.hbm, 81, rfl⟩
abbrev main_cst_5 : Ref sig .tc := ⟨.hbm, 82, rfl⟩
abbrev main_v63 : Ref sig .tc := ⟨.hbm, 83, rfl⟩
abbrev main_v64 : Ref sig .tc := ⟨.hbm, 84, rfl⟩
abbrev main_cst_6 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩

abbrev nD : Nat := 1
abbrev τ : Topo := Topo.v7x

variable {F : FTy → Type} [FloatOps F]
-- ==== Kernel5.lean ====
abbrev S8x1024 : Shape := ⟨2, ![8, 1024]⟩
abbrev S4x1024x3072 : Shape := ⟨3, ![4, 1024, 3072]⟩
abbrev S4x3072 : Shape := ⟨2, ![4, 3072]⟩
abbrev S4x1x3072 : Shape := ⟨3, ![4, 1, 3072]⟩
abbrev S4x8x3072 : Shape := ⟨3, ![4, 8, 3072]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x3072, .f32⟩
  | .hbm, ⟨2, _⟩ => ⟨S4x3072, .f32⟩
  | .hbm, ⟨3, _⟩ => ⟨S4x1x3072, .f32⟩
  | .hbm, ⟨4, _⟩ => ⟨S4x8x3072, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8x1024 : Shape := ⟨2, ![8, 1024]⟩
abbrev S4x1024x3072 : Shape := ⟨3, ![4, 1024, 3072]⟩
abbrev S4x3072 : Shape := ⟨2, ![4, 3072]⟩
abbrev S_ : Shape := ⟨0, ![]⟩
abbrev S4x3072x8 : Shape := ⟨3, ![4, 3072, 8]⟩
abbrev S4x8x3072 : Shape := ⟨3, ![4, 8, 3072]⟩
abbrev S4x1x3072 : Shape := ⟨3, ![4, 1, 3072]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x3072, .f32⟩
  | .hbm, ⟨2, _⟩ => ⟨S4x3072, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S4x3072x8, .f32⟩
  | .hbm, ⟨13, _⟩ => ⟨S4x8x3072, .f32⟩
  | .hbm, ⟨14, _⟩ => ⟨S4x1x3072, .f32⟩
  | .hbm, ⟨15, _⟩ => ⟨S4x8x3072, .f32⟩
  | .hbm, ⟨16, _⟩ => ⟨S4x8x3072, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.Finite.lean ====
module
public import proofs.«01_k».proof.Pre_finite_qk
public import Idealize.ShloMosaic.Lib.ReduceAll
public import Idealize.ShloMosaic.Lib.Pointwise
@[expose] public section
noncomputable section
/-! The precondition: queries and keys are numbers. -/
namespace Cert.Proof
open Idealize.ShloMosaic

/-- The side conditions of the precondition's operations. -/
theorem preFacts : Cert.Pre_finite_qk.Facts where
  bitsLt_bf16_f32 := by decide
  bcast_S_S4x8448x512 := by decide
  reducesTo_S4x8448x512_S_d0_1_2 := by decide
  h_S_ := by decide
  bcast_S_S4x8448x128 := by decide
  reducesTo_S4x8448x128_S_d0_1_2 := by decide

/-- The positive infinity of the format. -/
theorem posInf : (FloatOps.ofBits .f32 0x7F800000#32 : Ideal .f32) = (⊤ : EReal) := by
  show Ideal.ofBits .f32 0x7F800000#32 = ⊤
  simp [Ideal.ofBits, Ideal.ieee]

/-- An extended real whose absolute value compares less than infinity is a number. -/
theorem real_of_lt (x : EReal) (h : Ideal.cmp .olt (max x (-x)) ⊤ = 1#1) : x = (x.toReal : EReal) := by
  have h' : max x (-x) < ⊤ := by
    by_contra hn
    simp [Ideal.cmp, hn] at h
  refine (EReal.coe_toReal ?_ ?_).symm
  · rintro rfl
    simp at h'
  · rintro rfl
    simp at h'

/-- The one bit of a conjunction. -/
theorem and_one (a b : BitVec 1) (h : IntOp.andi a b = 1#1) : a = 1#1 ∧ b = 1#1 := by
  revert h
  revert a b
  decide

section
variable [Cert.Pre_finite_qk.Facts]
open Cert.Pre_finite_qk

/-- Every query and every key is a number. -/
theorem reals (A0 : FVec Ideal S4x8448x512 .bf16) (A1 A2 : FVec Ideal S4x8448x128 .bf16)
    (A3 : FVec Ideal S4x8448x512 .bf16) (h : Cert.Pre_finite_qk.fn A0 A1 A2 A3 = fun _ => 1#1) :
    (∀ i, (A0 i : EReal) = ((A0 i : EReal).toReal : EReal)) ∧ (∀ i, (A1 i : EReal) = ((A1 i : EReal).toReal : EReal)) := by
  haveI : Subsingleton S_.Idx := ⟨fun a b => funext fun x => x.elim0⟩
  have h0 := congrFun h (Shape.Idx.first Facts.h_S_)
  dsimp only [Cert.Pre_finite_qk.fn] at h0
  obtain ⟨h1, h2⟩ := and_one _ _ h0
  constructor
  · intro i
    have := Host.reduce_andi_all _ _ _ _ _ h1 i
    refine real_of_lt _ ?_
    rw [← posInf]
    exact this
  · intro i
    have := Host.reduce_andi_all _ _ _ _ _ h2 i
    refine real_of_lt _ ?_
    rw [← posInf]
    exact this

end
end Cert.Proof
-- ==== Proof.InFinite.lean ====
module
public import proofs.«01_k».proof.Pre_finite_in
public import proofs.«01_k».proof.Proof.Finite
@[expose] public section
noncomputable section
/-! The input projection's precondition: tokens, modulation, gains and weights are numbers. -/
namespace Cert.Proof
open Idealize.ShloMosaic

/-- The side conditions of the precondition's operations. -/
theorem preFactsIn : Cert.Pre_finite_in.Facts where
  bcast_S_S4x8448x1024 := by decide
  reducesTo_S4x8448x1024_S_d0_1_2 := by decide
  h_S_ := by decide
  bcast_S_S8x1x3072 := by decide
  reducesTo_S8x1x3072_S_d0_1_2 := by decide
  bcast_S_S1x1024 := by decide
  reducesTo_S1x1024_S_d0_1 := by decide
  bitsLt_bf16_f32 := by decide
  bcast_S_S1024x8448 := by decide
  reducesTo_S1024x8448_S_d0_1 := by decide

section
variable [Cert.Pre_finite_in.Facts]
open Cert.Pre_finite_in

/-- Every token, modulation, gain and weight is a number. -/
theorem realsIn (A0 : FVec Ideal S4x8448x1024 .f32) (A1 : FVec Ideal S8x1x3072 .f32) (A2 : FVec Ideal S1x1024 .f32)
    (A3 : FVec Ideal S1024x8448 .bf16) (A4 A5 : FVec Ideal S8448x128 .f32) (A6 A7 : FVec Ideal S1x128 .f32)
    (h : Cert.Pre_finite_in.fn A0 A1 A2 A3 A4 A5 A6 A7 = fun _ => 1#1) :
    (∀ i, (A0 i : EReal) = ((A0 i : EReal).toReal : EReal)) ∧ (∀ i, (A1 i : EReal) = ((A1 i : EReal).toReal : EReal)) ∧
    (∀ i, (A2 i : EReal) = ((A2 i : EReal).toReal : EReal)) ∧ (∀ i, (A3 i : EReal) = ((A3 i : EReal).toReal : EReal)) := by
  haveI : Subsingleton S_.Idx := ⟨fun a b => funext fun x => x.elim0⟩
  have h0 := congrFun h (Shape.Idx.first Facts.h_S_)
  dsimp only [Cert.Pre_finite_in.fn, Cert.Pre_finite_in.fn_part1] at h0
  obtain ⟨h0, h4⟩ := and_one _ _ h0
  obtain ⟨h0, h3⟩ := and_one _ _ h0
  obtain ⟨h1, h2⟩ := and_one _ _ h0
  refine ⟨fun i => real_of_lt _ ?_, fun i => real_of_lt _ ?_, fun i => real_of_lt _ ?_, fun i => real_of_lt _ ?_⟩
  · rw [← posInf]
    exact Host.reduce_andi_all _ _ _ _ _ h1 i
  · rw [← posInf]
    exact Host.reduce_andi_all _ _ _ _ _ h2 i
  · rw [← posInf]
    exact Host.reduce_andi_all _ _ _ _ _ h3 i
  · rw [← posInf]
    exact Host.reduce_andi_all _ _ _ _ _ h4 i

end
end Cert.Proof
-- ==== Proof.InSpec.lean ====
module
public import Idealize.ShloMosaic.Lib.Pointwise
@[expose] public section
noncomputable section
/-! What the input projection computes, number by number: one token's normalised and modulated row, its product with
the weights, and what is done to the columns of the product. -/
namespace Cert.InProj
open Idealize.ShloMosaic

/-- A token's normalised and modulated row. -/
def hrow (x g : Fin 1024 → EReal) (md : Fin 3072 → EReal) (k : Fin 1024) : EReal :=
  x k * Ideal.rsqrt (Ideal.div (∑ j, x j * x j) (Ideal.ofBits FTy.f32 1149239296#32) + Ideal.ofBits FTy.f32 897988541#32)
    * g k * (1 + md ⟨1024 + k.val, by omega⟩) + md ⟨k.val, by omega⟩

/-- The row's product with one column of the weights. -/
def prod (h : Fin 1024 → EReal) (w : Fin 1024 → Fin 8448 → EReal) (j : Fin 8448) : EReal := ∑ k, h k * w k j

/-- A number times its logistic, and the logistic. -/
def silu (z : EReal) : EReal := Ideal.div z (1 + Ideal.exp (0 - z))
def sigm (z : EReal) : EReal := Ideal.div 1 (1 + Ideal.exp (0 - z))

/-- The factor of the queries. -/
def eighth : EReal := Ideal.ofBits FTy.f32 1040187392#32

/-- The sum of the squares of the lanes of the first of the two interleaved heads, and of the head a lane belongs to. -/
def sqFirst (t : Fin 128 → EReal) : EReal := ∑ x : Fin 128, if x.val % 64 < 32 then t x * t x else 0
def sqHead (t : Fin 128 → EReal) (l : Fin 128) : EReal :=
  if l.val % 64 < 32 then sqFirst t else ∑ x, t x * t x - sqFirst t

/-- A lane normalised by its head's mean square, times its gain. -/
def normed (t g : Fin 128 → EReal) (l : Fin 128) : EReal :=
  t l * Ideal.rsqrt (sqHead t l * Ideal.ofBits FTy.f32 1015021568#32 + Ideal.ofBits FTy.f32 897988541#32) * g l

/-- The lane holding the other half of the same head. -/
def other (l : Fin 128) : Fin 128 := ⟨(l.val + 128 - 64) % 128, by omega⟩

/-- A normalised lane turned by the position's angle. -/
def rope (t g c s : Fin 128 → EReal) (l : Fin 128) : EReal := normed t g l * c l + normed t g (other l) * s l

/-- The 128 columns of the product from column `o` on. -/
def lanes (p : Fin 8448 → EReal) (o : ℕ) (h : o + 128 ≤ 8448) (l : Fin 128) : EReal := p ⟨o + l.val, by omega⟩

end Cert.InProj
end
-- ==== Proof.InRows.lean ====
module
public import proofs.«01_k».proof.Proof.Gen.Kernel2Ideal.Frame
public import proofs.«01_k».proof.Proof.InSpec
@[expose] public section
set_option maxRecDepth 16384
noncomputable section
/-! The input projection's stored values at an index. -/
namespace Cert.Kernel2Ideal.Value
open Cert.Kernel2Ideal Cert.Kernel2Ideal.Gen Idealize.ShloMosaic Idealize.ShloMosaic.TcCoe
open Cert.InProj

/-- The normalised and modulated tokens. -/
theorem pay2_at (v0 : Vec Ideal S1x256x1024 .f32) (v12 : Vec Ideal S1x1024 .f32) (v15 : Vec Ideal S1x1x3072 .f32)
    (r : Fin 256) (k : Fin 1024) : k0_pay2 v0 v12 v15 (ix2 r k) =
      hrow (fun j => v0 (ix3 0 r j)) (fun j => v12 (ix2 0 j)) (fun j => v15 (ix3 0 0 j)) k := by
  pointwise [k0_pay2]
  rfl

section
variable (H : FVec Ideal S256x1024 .bf16)

/-- An entry of the tokens' product with a group of weight columns. -/
def entry {n : ℕ} (w : Vec Ideal ⟨2, ![1024, n]⟩ .bf16) (r : Fin 256) (j : Fin n) : EReal := ∑ k : Fin 1024, H (ix2 r k) * w (ix2 k j)

theorem pay3_at (v0 : Vec Ideal S1x256x1024 .f32) (v12 : Vec Ideal S1x1024 .f32) (v15 : Vec Ideal S1x1x3072 .f32)
    (w : Vec Ideal S1024x512 .bf16) (r : Fin 256) (j : Fin 512) :
    k0_pay3 v0 v12 v15 w (ix3 0 r j) = entry (k0_pay2 v0 v12 v15) w r j := by
  unfold k0_pay3
  generalize k0_pay2 v0 v12 v15 = H
  pointwise []
  rfl

theorem pay5_at (v0 : Vec Ideal S1x256x1024 .f32) (v12 : Vec Ideal S1x1024 .f32) (v15 : Vec Ideal S1x1x3072 .f32)
    (w : Vec Ideal S1024x512 .bf16) (r : Fin 256) (j : Fin 512) :
    k0_pay5 (k0_pay4 v0 v12 v15 w) (ix3 0 r j) = entry (k0_pay2 v0 v12 v15) w r j := by
  unfold k0_pay4
  generalize k0_pay2 v0 v12 v15 = H
  pointwise [k0_pay5]
  rfl

theorem pay6_at (w : Vec Ideal S1024x512 .bf16) (r : Fin 256) (j : Fin 512) : k0_pay6 H w (ix3 0 r j) = entry H w r j := by
  pointwise [k0_pay6]
  rfl

theorem pay7_at (w : Vec Ideal S1024x512 .bf16) (r : Fin 256) (j : Fin 512) :
    k0_pay7 H w (ix3 0 r j) = silu (entry H w r j) := by
  pointwise [k0_pay7]
  rfl

theorem pay8_at (w : Vec Ideal S1024x512 .bf16) (r : Fin 256) (j : Fin 512) :
    k0_pay8 H w (ix3 0 r j) = entry H w r j * eighth := by
  pointwise [k0_pay8]
  rfl

theorem pay9_at (w : Vec Ideal S1024x512 .bf16) (r : Fin 256) (j : Fin 512) :
    k0_pay9 H w (constant S256x512 .f32 0x00000000#32) (ix3 0 r j) = entry H w r j := by
  pointwise [k0_pay9]
  rfl

theorem pay10_at (w : Vec Ideal S1024x512 .bf16) (r : Fin 256) (j : Fin 512) : k0_pay10 H w (ix3 0 r j) = entry H w r j := by
  pointwise [k0_pay10]
  rfl

theorem pay11_at (w : Vec Ideal S1024x512 .bf16) (r : Fin 256) (j : Fin 512) :
    k0_pay11 H w (ix3 0 r j) = silu (entry H w r j) := by
  pointwise [k0_pay11]
  rfl

theorem pay31_at (w : Vec Ideal S1024x128 .bf16) (r : Fin 256) (j : Fin 128) : k0_pay31 H w (ix3 0 r j) = entry H w r j := by
  pointwise [k0_pay31]
  rfl

theorem pay33_at (w : Vec Ideal S1024x512 .bf16) (r : Fin 256) (j : Fin 512) :
    k0_pay33 (k0_pay32 H w) (ix3 0 r j) = silu (entry H w r j) := by
  pointwise [k0_pay33, k0_pay32]
  rfl

theorem pay34_at (w : Vec Ideal S1024x1024 .bf16) (r : Fin 256) (j : Fin 1024) :
    k0_pay34 H w (ix3 0 r j) = sigm (entry H w r j) := by
  pointwise [k0_pay34]
  rfl

theorem pay35_at (w : Vec Ideal S1024x1024 .bf16) (r : Fin 256) (j : Fin 1024) :
    k0_pay35 H w (ix3 0 r j) = sigm (entry H w r j) := by
  pointwise [k0_pay35]
  rfl

theorem pay1_at (w : Vec Ideal S1024x1024 .bf16) (r : Fin 256) (j : Fin 1024) :
    k0_pay1 (k0_pay36 H w) (k0_pay37 (F := Ideal)) (ix3 0 r j) = sigm (entry H w r j) := by
  pointwise [k0_pay1, k0_pay36, k0_pay37]
  rfl

end

/-- The lanes of the first of the two interleaved heads. -/
def headMask (k : IVec S1x128 1) : Prop := ∀ d : Fin 128, k (ix2 0 d) = if d.val % 64 < 32 then 1#1 else 0#1

theorem mask_at (x0 : Vec Ideal S1x256x1024 .f32) (x1 : Vec Ideal S1x1x3072 .f32) (x2 : Vec Ideal S1x1024 .f32)
    (x3 : Vec Ideal S1024x8448 .bf16) (x4 x5 : Vec Ideal S256x128 .f32) (x6 x7 : Vec Ideal S1x128 .f32) :
    headMask (k0_pay43 x0 x1 x2 x3 x4 x5 x6 x7) := by
  intro d
  unfold k0_pay43 k0_pay42 k0_pay41 k0_pay40 k0_pay39
  pointwise [k0_pay12, k0_pay13, k0_pay14, k0_pay15, k0_pay16]
  revert d
  decide

/-- A choice by the mask. -/
theorem sel {k : IVec S1x128 1} (hk : headMask k) (d : Fin 128) (a b : EReal) :
    Scalar.select (k (ix2 0 d)) a b = if d.val % 64 < 32 then a else b := by
  rw [hk d]
  by_cases h : d.val % 64 < 32 <;> simp [h, Scalar.select]

section
variable (H : FVec Ideal S256x1024 .bf16) {k : IVec S1x128 1} (hk : headMask k) (c s : Vec Ideal S256x128 .f32)
  (g : Vec Ideal S1x128 .f32) (w : Vec Ideal S1024x128 .bf16) (r : Fin 256) (l : Fin 128)
include hk

theorem pay20_at : k0_pay20 H k c s g w (ix3 0 r l) =
    rope (entry H w r) (fun l => g (ix2 0 l)) (fun l => c (ix2 r l)) (fun l => s (ix2 r l)) l * eighth := by
  pointwise [k0_pay20]
  simp only [sel hk]
  rfl

theorem pay21_at : k0_pay21 H k c s g w (ix3 0 r l) =
    rope (entry H w r) (fun l => g (ix2 0 l)) (fun l => c (ix2 r l)) (fun l => s (ix2 r l)) l * eighth := by
  pointwise [k0_pay21]
  simp only [sel hk]
  rfl

theorem pay25_at : k0_pay25 k c s g (k0_pay22 H w) (k0_pay23 H w) (k0_pay24 H w) (ix3 0 r l) =
    rope (entry H w r) (fun l => g (ix2 0 l)) (fun l => c (ix2 r l)) (fun l => s (ix2 r l)) l * eighth := by
  pointwise [k0_pay25, k0_pay24, k0_pay23, k0_pay22]
  simp only [sel hk]
  rfl

theorem pay30_at : k0_pay30 k c s (k0_pay26 H w) g (k0_pay28 H w) (k0_pay29 H k w) (ix3 0 r l) =
    rope (entry H w r) (fun l => g (ix2 0 l)) (fun l => c (ix2 r l)) (fun l => s (ix2 r l)) l := by
  pointwise [k0_pay30, k0_pay29, k0_pay28, k0_pay27, k0_pay26]
  simp only [sel hk]
  rfl

end

theorem pay19_at (H : FVec Ideal S256x1024 .bf16) (v90 : BitVec 32) (v92 : IVec S1x128 32) (v94 v96 v98 : IVec S1x128 1)
    (hk : headMask (k0_pay16 v90 v92 v94 v96 v98)) (c s : Vec Ideal S256x128 .f32) (g : Vec Ideal S1x128 .f32)
    (w : Vec Ideal S1024x128 .bf16) (r : Fin 256) (l : Fin 128) :
    k0_pay19 (k0_pay17 H v90 v92 v94 v96 v98 c s g w) (k0_pay18 (F := Ideal)) (ix3 0 r l) =
      rope (entry H w r) (fun l => g (ix2 0 l)) (fun l => c (ix2 r l)) (fun l => s (ix2 r l)) l * eighth := by
  unfold k0_pay17
  revert hk
  generalize k0_pay16 v90 v92 v94 v96 v98 = k
  intro hk
  pointwise [k0_pay19, k0_pay18]
  simp only [sel hk]
  rfl

end Cert.Kernel2Ideal.Value
end
-- ==== Proof.InBlock.lean ====
module
public import proofs.«01_k».proof.Proof.InRows
public import Idealize.ShloMosaic.Lib.Pipeline.ValueKit.Tiles
@[expose] public section
set_option maxRecDepth 16384
noncomputable section
/-! The input projection's thirteen blocks at an index, from the blocks it loads. -/
namespace Cert.Kernel2Ideal.Value
open Cert.Kernel2Ideal Cert.Kernel2Ideal.Gen Idealize.ShloMosaic Idealize.ShloMosaic.TcCoe
open Cert.InProj

variable (x0 : Vec Ideal S1x256x1024 .f32) (x1 : Vec Ideal S1x1x3072 .f32) (x2 : Vec Ideal S1x1024 .f32)
  (x3 : Vec Ideal S1024x8448 .bf16) (x4 x5 : Vec Ideal S256x128 .f32) (x6 x7 : Vec Ideal S1x128 .f32)

/-- The row of the block's product. -/
def brow (r : Fin 256) : Fin 8448 → EReal :=
  prod (hrow (fun j => x0 (ix3 0 r j)) (fun j => x2 (ix2 0 j)) (fun j => x1 (ix3 0 0 j))) (fun k j => x3 (ix2 k j))

theorem pay38_at (r : Fin 256) (k : Fin 1024) : k0_pay38 x0 x1 x2 x3 x4 x5 x6 x7 (ix2 r k) =
    hrow (fun j => x0 (ix3 0 r j)) (fun j => x2 (ix2 0 j)) (fun j => x1 (ix3 0 0 j)) k := by
  unfold k0_pay38
  rw [View.ld_unit_zero (by decide), View.ld_unit_zero (by decide), View.ld_unit_zero (by decide)]
  exact pay2_at ..

/-- An entry of the product with the columns from `o` on. -/
theorem entry_ld {n : ℕ} (off : Fin 2 → ℕ) (inb : ∀ a, off a + (![1024, n] : Fin 2 → ℕ) a ≤ S1024x8448.size a) (o : ℕ)
    (h0 : off 0 = 0) (h1 : off 1 = o) (r : Fin 256) (j : Fin n) (hb : o + j.val < 8448) :
    entry (k0_pay38 x0 x1 x2 x3 x4 x5 x6 x7) (View.ld x3 (Rect.unit (s := S1024x8448) off ![1024, n] inb)) r j =
      brow x0 x1 x2 x3 r ⟨o + j.val, hb⟩ := by
  unfold entry brow prod
  refine Finset.sum_congr rfl fun k _ => ?_
  rw [pay38_at]
  congr 1
  refine View.ld_unit_apply_of x3 off _ inb (ix2 k j) (ix2 k ⟨o + j.val, hb⟩) ?_
  intro a
  fin_cases a
  · show k.val = off 0 + k.val; omega
  · show o + j.val = off 1 + j.val; omega

theorem out8_at (r : Fin 256) (j : Fin 512) :
    out0_8 x0 x1 x2 x3 x4 x5 x6 x7 (ix3 0 r j) = brow x0 x1 x2 x3 r ⟨0 + j.val, by omega⟩ := by
  unfold out0_8
  rw [View.canon_unit_zero (by decide), pay3_at]
  exact entry_ld x0 x1 x2 x3 x4 x5 x6 x7 _ _ 0 rfl rfl r j _

theorem out9_at (r : Fin 256) (j : Fin 512) :
    out0_9 x0 x1 x2 x3 x4 x5 x6 x7 (ix3 0 r j) = brow x0 x1 x2 x3 r ⟨512 + j.val, by omega⟩ := by
  unfold out0_9
  rw [View.canon_unit_zero (by decide), pay5_at]
  exact entry_ld x0 x1 x2 x3 x4 x5 x6 x7 _ _ 512 rfl rfl r j _

theorem out10_at (r : Fin 256) (j : Fin 512) :
    out0_10 x0 x1 x2 x3 x4 x5 x6 x7 (ix3 0 r j) = brow x0 x1 x2 x3 r ⟨1024 + j.val, by omega⟩ := by
  unfold out0_10
  rw [View.canon_unit_zero (by decide), pay6_at]
  exact entry_ld x0 x1 x2 x3 x4 x5 x6 x7 _ _ 1024 rfl rfl r j _

theorem out11_at (r : Fin 256) (j : Fin 512) :
    out0_11 x0 x1 x2 x3 x4 x5 x6 x7 (ix3 0 r j) = silu (brow x0 x1 x2 x3 r ⟨1536 + j.val, by omega⟩) := by
  unfold out0_11
  rw [View.canon_unit_zero (by decide), pay7_at]
  exact congrArg silu (entry_ld x0 x1 x2 x3 x4 x5 x6 x7 _ _ 1536 rfl rfl r j _)

theorem out12_at (r : Fin 256) (j : Fin 512) :
    out0_12 x0 x1 x2 x3 x4 x5 x6 x7 (ix3 0 r j) = brow x0 x1 x2 x3 r ⟨2048 + j.val, by omega⟩ * eighth := by
  unfold out0_12
  rw [View.canon_unit_zero (by decide), pay8_at]
  exact congrArg (· * eighth) (entry_ld x0 x1 x2 x3 x4 x5 x6 x7 _ _ 2048 rfl rfl r j _)

theorem out13_at (r : Fin 256) (j : Fin 512) :
    out0_13 x0 x1 x2 x3 x4 x5 x6 x7 (ix3 0 r j) = brow x0 x1 x2 x3 r ⟨2560 + j.val, by omega⟩ := by
  unfold out0_13
  rw [View.canon_unit_zero (by decide), pay9_at]
  exact entry_ld x0 x1 x2 x3 x4 x5 x6 x7 _ _ 2560 rfl rfl r j _

theorem out14_at (r : Fin 256) (j : Fin 512) :
    out0_14 x0 x1 x2 x3 x4 x5 x6 x7 (ix3 0 r j) = brow x0 x1 x2 x3 r ⟨3072 + j.val, by omega⟩ := by
  unfold out0_14
  rw [View.canon_unit_zero (by decide), pay10_at]
  exact entry_ld x0 x1 x2 x3 x4 x5 x6 x7 _ _ 3072 rfl rfl r j _

theorem out15_at (r : Fin 256) (j : Fin 512) :
    out0_15 x0 x1 x2 x3 x4 x5 x6 x7 (ix3 0 r j) = silu (brow x0 x1 x2 x3 r ⟨3584 + j.val, by omega⟩) := by
  unfold out0_15
  rw [View.canon_unit_zero (by decide), pay11_at]
  exact congrArg silu (entry_ld x0 x1 x2 x3 x4 x5 x6 x7 _ _ 3584 rfl rfl r j _)

theorem out18_at (r : Fin 256) (j : Fin 128) :
    out0_18 x0 x1 x2 x3 x4 x5 x6 x7 (ix3 0 r j) = brow x0 x1 x2 x3 r ⟨4736 + j.val, by omega⟩ := by
  unfold out0_18
  rw [View.canon_unit_zero (by decide), pay31_at]
  exact entry_ld x0 x1 x2 x3 x4 x5 x6 x7 _ _ 4736 rfl rfl r j _

theorem out19_at (r : Fin 256) (j : Fin 512) :
    out0_19 x0 x1 x2 x3 x4 x5 x6 x7 (ix3 0 r j) = silu (brow x0 x1 x2 x3 r ⟨4864 + j.val, by omega⟩) := by
  unfold out0_19
  rw [View.canon_unit_zero (by decide), pay33_at]
  exact congrArg silu (entry_ld x0 x1 x2 x3 x4 x5 x6 x7 _ _ 4864 rfl rfl r j _)

/-- A group of 128 columns of the product, as the lanes of its row. -/
theorem entry_lanes (off : Fin 2 → ℕ) (inb : ∀ a, off a + (![1024, 128] : Fin 2 → ℕ) a ≤ S1024x8448.size a) (o : ℕ)
    (h0 : off 0 = 0) (h1 : off 1 = o) (hb : o + 128 ≤ 8448) (r : Fin 256) :
    entry (k0_pay38 x0 x1 x2 x3 x4 x5 x6 x7) (View.ld x3 (Rect.unit (s := S1024x8448) off ![1024, 128] inb)) r =
      lanes (brow x0 x1 x2 x3 r) o hb :=
  funext fun j => entry_ld x0 x1 x2 x3 x4 x5 x6 x7 off inb o h0 h1 r j (by omega)

theorem out17_at (r : Fin 256) (j : Fin 128) :
    out0_17 x0 x1 x2 x3 x4 x5 x6 x7 (ix3 0 r j) =
      rope (lanes (brow x0 x1 x2 x3 r) 4608 (by omega)) (fun l => x7 (ix2 0 l)) (fun l => x4 (ix2 r l))
        (fun l => x5 (ix2 r l)) j := by
  unfold out0_17
  rw [View.canon_unit_zero (by decide), pay30_at _ (mask_at x0 x1 x2 x3 x4 x5 x6 x7), View.ld_unit_zero (by decide),
    View.ld_unit_zero (by decide), View.ld_unit_zero (by decide)]
  rw [entry_lanes x0 x1 x2 x3 x4 x5 x6 x7 _ _ 4608 rfl rfl (by omega) r]

/-- A stored group of columns, where it holds an index of the block. -/
theorem tile {n N : ℕ} (r : Fin 256) (l : Fin N) (off : Fin 3 → ℕ) (h1 : off 1 = 0)
    (w : Vec Ideal ⟨3, ![1, 256, n]⟩ .bf16) (v : EReal) (hw : ∀ j : Fin n, l.val = off 2 + j.val → w (ix3 0 r j) = v) :
    View.TileAt (S := ⟨3, ![1, 256, N]⟩) (e := .bf16) (Val := Elt Ideal) (ix3 0 r l) off ![1, 256, n] w v := by
  intro x hx
  have e1 : r.val = off 1 + (x 1).val := hx 1
  have e2 : l.val = off 2 + (x 2).val := hx 2
  have hz : (x 0).val < 1 := (x 0).isLt
  have ex : x = ix3 0 r (x 2) := by
    funext a
    fin_cases a
    · exact Fin.ext (show (x 0).val = 0 by omega)
    · exact Fin.ext (show (x 1).val = r.val by omega)
    · rfl
  rw [ex]
  exact hw (x 2) e2

/-- The `i`-th group of the turned queries is the block's value at its lanes. -/
theorem group {l : Fin 512} {j : Fin 128} (i : ℕ) (h : l.val = i * 128 + j.val) (p : Fin 8448 → EReal)
    (g c s : Fin 128 → EReal) (hb : 4096 + i * 128 + 128 ≤ 8448) :
    rope (lanes p (4096 + i * 128) hb) g c s j * eighth =
      rope (lanes p (4096 + l.val / 128 * 128) (by omega)) g c s ⟨l.val % 128, by omega⟩ * eighth := by
  have e : l.val / 128 = i := by omega
  have e' : (⟨l.val % 128, by omega⟩ : Fin 128) = j := Fin.ext (by show l.val % 128 = j.val; omega)
  subst e
  rw [e']

theorem out16_at (r : Fin 256) (l : Fin 512) :
    out0_16 x0 x1 x2 x3 x4 x5 x6 x7 (ix3 0 r l) =
      rope (lanes (brow x0 x1 x2 x3 r) (4096 + l.val / 128 * 128) (by omega)) (fun l => x6 (ix2 0 l))
        (fun l => x4 (ix2 r l)) (fun l => x5 (ix2 r l)) ⟨l.val % 128, by omega⟩ * eighth := by
  unfold out0_16
  refine View.canon_eq_of_allAt _ _ _ (cover0_16 ..) ?_
  refine View.allAt_cons_unit _ _ _ _ _ ?_ (View.allAt_cons_unit _ _ _ _ _ ?_ (View.allAt_cons_unit _ _ _ _ _ ?_
    (View.allAt_cons_unit _ _ _ _ _ ?_ (View.allAt_nil _ _))))
  · refine tile r l _ rfl _ _ fun j hj => ?_
    rw [pay25_at _ (mask_at x0 x1 x2 x3 x4 x5 x6 x7), View.ld_unit_zero (by decide), View.ld_unit_zero (by decide),
      View.ld_unit_zero (by decide), entry_lanes x0 x1 x2 x3 x4 x5 x6 x7 _ _ (4096 + 3 * 128) rfl rfl (by omega) r]
    exact group 3 hj _ _ _ _ _
  · refine tile r l _ rfl _ _ fun j hj => ?_
    rw [pay21_at _ (mask_at x0 x1 x2 x3 x4 x5 x6 x7), View.ld_unit_zero (by decide), View.ld_unit_zero (by decide),
      View.ld_unit_zero (by decide), entry_lanes x0 x1 x2 x3 x4 x5 x6 x7 _ _ (4096 + 2 * 128) rfl rfl (by omega) r]
    exact group 2 hj _ _ _ _ _
  · refine tile r l _ rfl _ _ fun j hj => ?_
    rw [pay20_at _ (mask_at x0 x1 x2 x3 x4 x5 x6 x7), View.ld_unit_zero (by decide), View.ld_unit_zero (by decide),
      View.ld_unit_zero (by decide), entry_lanes x0 x1 x2 x3 x4 x5 x6 x7 _ _ (4096 + 1 * 128) rfl rfl (by omega) r]
    exact group 1 hj _ _ _ _ _
  · refine tile r l _ rfl _ _ fun j hj => ?_
    rw [pay19_at _ _ _ _ _ _ (mask_at x0 x1 x2 x3 x4 x5 x6 x7), View.ld_unit_zero (by decide), View.ld_unit_zero (by decide),
      View.ld_unit_zero (by decide), entry_lanes x0 x1 x2 x3 x4 x5 x6 x7 _ _ (4096 + 0 * 128) rfl rfl (by omega) r]
    exact group 0 hj _ _ _ _ _

theorem out20_at (r : Fin 256) (l : Fin 3072) :
    out0_20 x0 x1 x2 x3 x4 x5 x6 x7 (ix3 0 r l) = sigm (brow x0 x1 x2 x3 r ⟨5376 + l.val, by omega⟩) := by
  have hl : ∀ (j : Fin 1024) (i : ℕ) (h : l.val = i + j.val) (hb : 5376 + i + j.val < 8448),
      sigm (brow x0 x1 x2 x3 r ⟨5376 + i + j.val, hb⟩) = sigm (brow x0 x1 x2 x3 r ⟨5376 + l.val, by omega⟩) :=
    fun j i h hb => congrArg (fun t => sigm (brow x0 x1 x2 x3 r t)) (Fin.ext (by show 5376 + i + j.val = 5376 + l.val; omega))
  unfold out0_20
  refine View.canon_eq_of_allAt _ _ _ (cover0_20 ..) ?_
  refine View.allAt_cons_unit _ _ _ _ _ ?_ (View.allAt_cons_unit _ _ _ _ _ ?_ (View.allAt_cons_unit _ _ _ _ _ ?_
    (View.allAt_nil _ _)))
  · refine tile r l _ rfl _ _ fun j hj => ?_
    rw [pay1_at, entry_ld x0 x1 x2 x3 x4 x5 x6 x7 _ _ (5376 + 2048) rfl rfl r j (by omega)]
    exact hl j 2048 hj _
  · refine tile r l _ rfl _ _ fun j hj => ?_
    rw [pay35_at, entry_ld x0 x1 x2 x3 x4 x5 x6 x7 _ _ (5376 + 1024) rfl rfl r j (by omega)]
    exact hl j 1024 hj _
  · refine tile r l _ rfl _ _ fun j hj => ?_
    rw [pay34_at, entry_ld x0 x1 x2 x3 x4 x5 x6 x7 _ _ (5376 + 0) rfl rfl r j (by omega)]
    exact hl j 0 hj _

end Cert.Kernel2Ideal.Value
end
-- ==== Proof.InArray.lean ====
module
public import proofs.«01_k».proof.Proof.Gen.Kernel2Ideal.Value
public import proofs.«01_k».proof.Proof.InBlock
@[expose] public section
set_option maxRecDepth 16384
noncomputable section
/-! The input projection's thirteen whole arrays after the run, index by index. -/
namespace Cert.Kernel2Ideal.Value
open Cert.Kernel2Ideal Cert.Kernel2Ideal.Gen Idealize.ShloMosaic Idealize.ShloMosaic.TcCoe Idealize.SL.Sem
open Cert.InProj

/-- An array written block by block, at an index, from the block the index lies in. -/
theorem arr_at {n : ℕ} {e : EltTy} (A : Vec Ideal ⟨3, ![4, 8448, n]⟩ e) (o : Vec Ideal ⟨3, ![1, 256, n]⟩ e)
    (emb : Shape.Idx ⟨3, ![1, 256, n]⟩ → Shape.Idx ⟨3, ![4, 8448, n]⟩) (ix : Fin 3 → ℕ) (b : Fin 4) (T : Fin 8448) (l : Fin n)
    (h : ∀ x, A (emb x) = o x) (he : ∀ x a, (emb x a).val = ix a * (![1, 256, n] : Fin 3 → ℕ) a + 1 * (x a).val)
    (hi : ix 0 = b.val ∧ ix 1 = T.val / 256 ∧ ix 2 = 0) :
    A (ix3 b T l) = o (ix3 0 ⟨T.val % 256, by omega⟩ l) := by
  obtain ⟨i0, i1, i2⟩ := hi
  rw [← h]
  congr 1
  funext a
  apply Fin.ext
  rw [he, Nat.one_mul]
  fin_cases a
  · show b.val = ix 0 * 1 + 0; omega
  · show T.val = ix 1 * 256 + T.val % 256; omega
  · show l.val = ix 2 * n + l.val; rw [i2]; omega

/-- The point that works on a token. -/
def pt (b : Fin 4) (T : Fin 8448) : Fin cfg0.N := ⟨b.val * 33 + T.val / 256, by rw [show cfg0.N = 132 from N_0]; omega⟩

/-- The blocks each point works on: the tokens', the modulation's, and the tables'. -/
theorem index0 : ∀ t : Fin cfg0.N, win0_0.index t (0 : Fin 3) = t.val / 33 ∧ win0_0.index t (1 : Fin 3) = t.val % 33 ∧
    win0_0.index t (2 : Fin 3) = 0 := (by decide +kernel : ∀ t : Fin grid0.N, _)
theorem index1 : ∀ t : Fin cfg0.N, win0_1.index t (0 : Fin 3) = (if t.val % 33 < 32 then t.val / 33 else 4) ∧
    win0_1.index t (1 : Fin 3) = 0 ∧ win0_1.index t (2 : Fin 3) = 0 := (by decide +kernel : ∀ t : Fin grid0.N, _)
theorem index4 : ∀ t : Fin cfg0.N, win0_4.index t (0 : Fin 2) = t.val % 33 ∧ win0_4.index t (1 : Fin 2) = 0 :=
  (by decide +kernel : ∀ t : Fin grid0.N, _)

/-- The point of a token works on the token's block. -/
theorem index_pt (b : Fin 4) (T : Fin 8448) : win0_0.index (pt b T) (0 : Fin 3) = b.val ∧
    win0_0.index (pt b T) (1 : Fin 3) = T.val / 256 ∧ win0_0.index (pt b T) (2 : Fin 3) = 0 := by
  obtain ⟨e0, e1, e2⟩ := index0 (pt b T)
  have ht : (pt b T).val = b.val * 33 + T.val / 256 := rfl
  refine ⟨?_, ?_, e2⟩ <;> omega

variable (m : (ℓ : Loc nD τ sig) → Buf (Elt Ideal) ℓ) (c : Dev nD)

theorem tokens_at (b : Fin 4) (T : Fin 8448) (k : Fin 1024) :
    (iblk m c 0 (pt b T) : Vec Ideal S1x256x1024 .f32) (ix3 0 ⟨T.val % 256, by omega⟩ k) =
      m ((c : Thread nD τ).loc main_arg0) (ix3 b T k) :=
  (arr_at (V m c main_arg0) (iblk m c 0 (pt b T)) ((cfg0.win 0).blk (pt b T)).view.emb (win0_0.index (pt b T)) b T k
    (fun _ => rfl) (fun _ _ => rfl) (index_pt b T)).symm

/-- The modulation's row of a token: its batch's for a latent one, the fifth for the context's. -/
def modRow (b : Fin 4) (T : Fin 8448) : Fin 8 := if T.val < 8192 then ⟨b.val, by omega⟩ else 4

theorem mod_at (b : Fin 4) (T : Fin 8448) (k : Fin 3072) :
    (iblk m c 1 (pt b T) : Vec Ideal S1x1x3072 .f32) (ix3 0 0 k) = m ((c : Thread nD τ).loc main_arg1) (ix3 (modRow b T) 0 k) := by
  obtain ⟨e0, e1, e2⟩ := index1 (pt b T)
  have ht : (pt b T).val = b.val * 33 + T.val / 256 := rfl
  have hr : (modRow b T).val = if (pt b T).val % 33 < 32 then (pt b T).val / 33 else 4 := by
    unfold modRow
    by_cases hT : T.val < 8192
    · rw [if_pos hT, if_pos (by omega)]
      show b.val = _
      omega
    · rw [if_neg hT, if_neg (by omega)]
      rfl
  show V m c main_arg1 (((cfg0.win 1).blk (pt b T)).view.emb (ix3 0 0 k)) = V m c main_arg1 _
  congr 1
  funext a
  apply Fin.ext
  fin_cases a
  · show win0_1.index (pt b T) (0 : Fin 3) * 1 + 1 * 0 = (modRow b T).val; omega
  · show win0_1.index (pt b T) (1 : Fin 3) * 1 + 1 * 0 = 0; omega
  · show win0_1.index (pt b T) (2 : Fin 3) * 3072 + 1 * k.val = k.val; omega

/-- A window that stages a whole array at every point holds the array. -/
theorem whole_at {s0 s1 : ℕ} {e : EltTy} (A B : Vec Ideal ⟨2, ![s0, s1]⟩ e)
    (emb : Shape.Idx ⟨2, ![s0, s1]⟩ → Shape.Idx ⟨2, ![s0, s1]⟩) (h : ∀ x, B x = A (emb x))
    (he : ∀ x a, (emb x a).val = 0 * (![s0, s1] : Fin 2 → ℕ) a + 1 * (x a).val) : B = A := by
  funext x
  rw [h]
  congr 1
  funext a
  apply Fin.ext
  rw [he]
  omega

theorem gain_at (t : Fin cfg0.N) : (iblk m c 2 t : Vec Ideal S1x1024 .f32) = m ((c : Thread nD τ).loc main_arg2) :=
  whole_at (V m c main_arg2) _ ((cfg0.win 2).blk t).view.emb (fun _ => rfl) (fun x a => by fin_cases a <;> rfl)
theorem weights_at (t : Fin cfg0.N) : (iblk m c 3 t : Vec Ideal S1024x8448 .bf16) = m ((c : Thread nD τ).loc main_arg3) :=
  whole_at (V m c main_arg3) _ ((cfg0.win 3).blk t).view.emb (fun _ => rfl) (fun x a => by fin_cases a <;> rfl)
theorem qgain_at (t : Fin cfg0.N) : (iblk m c 6 t : Vec Ideal S1x128 .f32) = m ((c : Thread nD τ).loc main_arg6) :=
  whole_at (V m c main_arg6) _ ((cfg0.win 6).blk t).view.emb (fun _ => rfl) (fun x a => by fin_cases a <;> rfl)
theorem kgain_at (t : Fin cfg0.N) : (iblk m c 7 t : Vec Ideal S1x128 .f32) = m ((c : Thread nD τ).loc main_arg7) :=
  whole_at (V m c main_arg7) _ ((cfg0.win 7).blk t).view.emb (fun _ => rfl) (fun x a => by fin_cases a <;> rfl)

/-- A table staged in blocks of 256 rows. -/
theorem table_at (A : Vec Ideal S8448x128 .f32) (B : Vec Ideal S256x128 .f32) (emb : S256x128.Idx → S8448x128.Idx)
    (b : Fin 4) (T : Fin 8448) (l : Fin 128) (h : ∀ x, B x = A (emb x))
    (he : ∀ x a, (emb x a).val = win0_4.index (pt b T) a * (![256, 128] : Fin 2 → ℕ) a + 1 * (x a).val) :
    B (ix2 ⟨T.val % 256, by omega⟩ l) = A (ix2 T l) := by
  obtain ⟨e0, e1⟩ := index4 (pt b T)
  have ht : (pt b T).val = b.val * 33 + T.val / 256 := rfl
  rw [h]
  congr 1
  funext a
  apply Fin.ext
  rw [he]
  fin_cases a
  · show win0_4.index (pt b T) (0 : Fin 2) * 256 + 1 * (T.val % 256) = T.val; omega
  · show win0_4.index (pt b T) (1 : Fin 2) * 128 + 1 * l.val = l.val; omega

theorem cos_at (b : Fin 4) (T : Fin 8448) (l : Fin 128) :
    (iblk m c 4 (pt b T) : Vec Ideal S256x128 .f32) (ix2 ⟨T.val % 256, by omega⟩ l) = m ((c : Thread nD τ).loc main_arg4) (ix2 T l) :=
  table_at (V m c main_arg4) (iblk m c 4 (pt b T)) ((cfg0.win 4).blk (pt b T)).view.emb b T l (fun _ => rfl) (fun _ _ => rfl)
theorem sin_at (b : Fin 4) (T : Fin 8448) (l : Fin 128) :
    (iblk m c 5 (pt b T) : Vec Ideal S256x128 .f32) (ix2 ⟨T.val % 256, by omega⟩ l) = m ((c : Thread nD τ).loc main_arg5) (ix2 T l) :=
  table_at (V m c main_arg5) (iblk m c 5 (pt b T)) ((cfg0.win 5).blk (pt b T)).view.emb b T l (fun _ => rfl) (fun _ _ => rfl)

/-- A token's row of the product. -/
def trow (A0 : Vec Ideal S4x8448x1024 .f32) (A1 : Vec Ideal S8x1x3072 .f32) (A2 : Vec Ideal S1x1024 .f32)
    (A3 : Vec Ideal S1024x8448 .bf16) (b : Fin 4) (T : Fin 8448) : Fin 8448 → EReal :=
  prod (hrow (fun j => A0 (ix3 b T j)) (fun j => A2 (ix2 0 j)) (fun j => A1 (ix3 (modRow b T) 0 j))) (fun k j => A3 (ix2 k j))

/-- The token's row in the launched arrays. -/
abbrev mrow (b : Fin 4) (T : Fin 8448) : Fin 8448 → EReal :=
  trow (m ((c : Thread nD τ).loc main_arg0)) (m ((c : Thread nD τ).loc main_arg1)) (m ((c : Thread nD τ).loc main_arg2))
    (m ((c : Thread nD τ).loc main_arg3)) b T

theorem brow_eq (b : Fin 4) (T : Fin 8448) :
    brow (iblk m c 0 (pt b T)) (iblk m c 1 (pt b T)) (iblk m c 2 (pt b T)) (iblk m c 3 (pt b T)) ⟨T.val % 256, by omega⟩ =
      mrow m c b T := by
  unfold brow mrow trow
  rw [gain_at, weights_at]
  congr 2
  · exact funext fun k => tokens_at m c b T k
  · exact funext fun k => mod_at m c b T k

/-- An output array at an index is its window's block at the token's point, at the token's row of the block. -/
theorem arr_of {n : ℕ} (A : Vec Ideal ⟨3, ![4, 8448, n]⟩ .bf16)
    (f : Vec Ideal S1x256x1024 .f32 → Vec Ideal S1x1x3072 .f32 → Vec Ideal S1x1024 .f32 → Vec Ideal S1024x8448 .bf16 →
      Vec Ideal S256x128 .f32 → Vec Ideal S256x128 .f32 → Vec Ideal S1x128 .f32 → Vec Ideal S1x128 .f32 →
      Vec Ideal ⟨3, ![1, 256, n]⟩ .bf16)
    (emb : Shape.Idx ⟨3, ![1, 256, n]⟩ → Shape.Idx ⟨3, ![4, 8448, n]⟩) (b : Fin 4) (T : Fin 8448) (l : Fin n)
    (h : (fun x => A (emb x)) = f (iblk m c 0 (pt b T)) (iblk m c 1 (pt b T)) (iblk m c 2 (pt b T)) (iblk m c 3 (pt b T))
      (iblk m c 4 (pt b T)) (iblk m c 5 (pt b T)) (iblk m c 6 (pt b T)) (iblk m c 7 (pt b T)))
    (he : ∀ x a, (emb x a).val = win0_0.index (pt b T) a * (![1, 256, n] : Fin 3 → ℕ) a + 1 * (x a).val) :
    A (ix3 b T l) = f (iblk m c 0 (pt b T)) (iblk m c 1 (pt b T)) (iblk m c 2 (pt b T)) (iblk m c 3 (pt b T))
      (iblk m c 4 (pt b T)) (iblk m c 5 (pt b T)) (iblk m c 6 (pt b T)) (iblk m c 7 (pt b T)) (ix3 0 ⟨T.val % 256, by omega⟩ l) :=
  arr_at A _ emb (win0_0.index (pt b T)) b T l (congrFun h) he (index_pt b T)

/-- The thirteen arrays at an index. -/
theorem arr8 (b : Fin 4) (T : Fin 8448) (l : Fin 512) : (dats m 0 c).arrAt 8 cfg0.N (ix3 b T l) =
    mrow m c b T ⟨0 + l.val, by omega⟩ := by
  refine (arr_of m c ((dats m 0 c).arrAt 8 cfg0.N) out0_8 ((cfg0.win 8).blk (pt b T)).view.emb b T l
    ((blocks8 m c (pt b T) (flush0_8 (pt b T))).trans (flushed8 m c (pt b T))) (fun _ _ => rfl)).trans ?_
  rw [out8_at, brow_eq]

theorem arr9 (b : Fin 4) (T : Fin 8448) (l : Fin 512) : (dats m 0 c).arrAt 9 cfg0.N (ix3 b T l) =
    mrow m c b T ⟨512 + l.val, by omega⟩ := by
  refine (arr_of m c ((dats m 0 c).arrAt 9 cfg0.N) out0_9 ((cfg0.win 9).blk (pt b T)).view.emb b T l
    ((blocks9 m c (pt b T) (flush0_9 (pt b T))).trans (flushed9 m c (pt b T))) (fun _ _ => rfl)).trans ?_
  rw [out9_at, brow_eq]

theorem arr10 (b : Fin 4) (T : Fin 8448) (l : Fin 512) : (dats m 0 c).arrAt 10 cfg0.N (ix3 b T l) =
    mrow m c b T ⟨1024 + l.val, by omega⟩ := by
  refine (arr_of m c ((dats m 0 c).arrAt 10 cfg0.N) out0_10 ((cfg0.win 10).blk (pt b T)).view.emb b T l
    ((blocks10 m c (pt b T) (flush0_10 (pt b T))).trans (flushed10 m c (pt b T))) (fun _ _ => rfl)).trans ?_
  rw [out10_at, brow_eq]

theorem arr11 (b : Fin 4) (T : Fin 8448) (l : Fin 512) : (dats m 0 c).arrAt 11 cfg0.N (ix3 b T l) =
    silu (mrow m c b T ⟨1536 + l.val, by omega⟩) := by
  refine (arr_of m c ((dats m 0 c).arrAt 11 cfg0.N) out0_11 ((cfg0.win 11).blk (pt b T)).view.emb b T l
    ((blocks11 m c (pt b T) (flush0_11 (pt b T))).trans (flushed11 m c (pt b T))) (fun _ _ => rfl)).trans ?_
  rw [out11_at, brow_eq]

theorem arr12 (b : Fin 4) (T : Fin 8448) (l : Fin 512) : (dats m 0 c).arrAt 12 cfg0.N (ix3 b T l) =
    mrow m c b T ⟨2048 + l.val, by omega⟩ * eighth := by
  refine (arr_of m c ((dats m 0 c).arrAt 12 cfg0.N) out0_12 ((cfg0.win 12).blk (pt b T)).view.emb b T l
    ((blocks12 m c (pt b T) (flush0_12 (pt b T))).trans (flushed12 m c (pt b T))) (fun _ _ => rfl)).trans ?_
  rw [out12_at, brow_eq]

theorem arr13 (b : Fin 4) (T : Fin 8448) (l : Fin 512) : (dats m 0 c).arrAt 13 cfg0.N (ix3 b T l) =
    mrow m c b T ⟨2560 + l.val, by omega⟩ := by
  refine (arr_of m c ((dats m 0 c).arrAt 13 cfg0.N) out0_13 ((cfg0.win 13).blk (pt b T)).view.emb b T l
    ((blocks13 m c (pt b T) (flush0_13 (pt b T))).trans (flushed13 m c (pt b T))) (fun _ _ => rfl)).trans ?_
  rw [out13_at, brow_eq]

theorem arr14 (b : Fin 4) (T : Fin 8448) (l : Fin 512) : (dats m 0 c).arrAt 14 cfg0.N (ix3 b T l) =
    mrow m c b T ⟨3072 + l.val, by omega⟩ := by
  refine (arr_of m c ((dats m 0 c).arrAt 14 cfg0.N) out0_14 ((cfg0.win 14).blk (pt b T)).view.emb b T l
    ((blocks14 m c (pt b T) (flush0_14 (pt b T))).trans (flushed14 m c (pt b T))) (fun _ _ => rfl)).trans ?_
  rw [out14_at, brow_eq]

theorem arr15 (b : Fin 4) (T : Fin 8448) (l : Fin 512) : (dats m 0 c).arrAt 15 cfg0.N (ix3 b T l) =
    silu (mrow m c b T ⟨3584 + l.val, by omega⟩) := by
  refine (arr_of m c ((dats m 0 c).arrAt 15 cfg0.N) out0_15 ((cfg0.win 15).blk (pt b T)).view.emb b T l
    ((blocks15 m c (pt b T) (flush0_15 (pt b T))).trans (flushed15 m c (pt b T))) (fun _ _ => rfl)).trans ?_
  rw [out15_at, brow_eq]

theorem arr16 (b : Fin 4) (T : Fin 8448) (l : Fin 512) : (dats m 0 c).arrAt 16 cfg0.N (ix3 b T l) =
    rope (lanes (mrow m c b T) (4096 + l.val / 128 * 128) (by omega))
      (fun l => m ((c : Thread nD τ).loc main_arg6) (ix2 0 l)) (fun l => m ((c : Thread nD τ).loc main_arg4) (ix2 T l))
      (fun l => m ((c : Thread nD τ).loc main_arg5) (ix2 T l)) ⟨l.val % 128, by omega⟩ * eighth := by
  refine (arr_of m c ((dats m 0 c).arrAt 16 cfg0.N) out0_16 ((cfg0.win 16).blk (pt b T)).view.emb b T l
    ((blocks16 m c (pt b T) (flush0_16 (pt b T))).trans (flushed16 m c (pt b T))) (fun _ _ => rfl)).trans ?_
  rw [out16_at, brow_eq, qgain_at, funext (cos_at m c b T), funext (sin_at m c b T)]

theorem arr17 (b : Fin 4) (T : Fin 8448) (l : Fin 128) : (dats m 0 c).arrAt 17 cfg0.N (ix3 b T l) =
    rope (lanes (mrow m c b T) 4608 (by omega))
      (fun l => m ((c : Thread nD τ).loc main_arg7) (ix2 0 l)) (fun l => m ((c : Thread nD τ).loc main_arg4) (ix2 T l))
      (fun l => m ((c : Thread nD τ).loc main_arg5) (ix2 T l)) l := by
  refine (arr_of m c ((dats m 0 c).arrAt 17 cfg0.N) out0_17 ((cfg0.win 17).blk (pt b T)).view.emb b T l
    ((blocks17 m c (pt b T) (flush0_17 (pt b T))).trans (flushed17 m c (pt b T))) (fun _ _ => rfl)).trans ?_
  rw [out17_at, brow_eq, kgain_at, funext (cos_at m c b T), funext (sin_at m c b T)]

theorem arr18 (b : Fin 4) (T : Fin 8448) (l : Fin 128) : (dats m 0 c).arrAt 18 cfg0.N (ix3 b T l) =
    mrow m c b T ⟨4736 + l.val, by omega⟩ := by
  refine (arr_of m c ((dats m 0 c).arrAt 18 cfg0.N) out0_18 ((cfg0.win 18).blk (pt b T)).view.emb b T l
    ((blocks18 m c (pt b T) (flush0_18 (pt b T))).trans (flushed18 m c (pt b T))) (fun _ _ => rfl)).trans ?_
  rw [out18_at, brow_eq]

theorem arr19 (b : Fin 4) (T : Fin 8448) (l : Fin 512) : (dats m 0 c).arrAt 19 cfg0.N (ix3 b T l) =
    silu (mrow m c b T ⟨4864 + l.val, by omega⟩) := by
  refine (arr_of m c ((dats m 0 c).arrAt 19 cfg0.N) out0_19 ((cfg0.win 19).blk (pt b T)).view.emb b T l
    ((blocks19 m c (pt b T) (flush0_19 (pt b T))).trans (flushed19 m c (pt b T))) (fun _ _ => rfl)).trans ?_
  rw [out19_at, brow_eq]

theorem arr20 (b : Fin 4) (T : Fin 8448) (l : Fin 3072) : (dats m 0 c).arrAt 20 cfg0.N (ix3 b T l) =
    sigm (mrow m c b T ⟨5376 + l.val, by omega⟩) := by
  refine (arr_of m c ((dats m 0 c).arrAt 20 cfg0.N) out0_20 ((cfg0.win 20).blk (pt b T)).view.emb b T l
    ((blocks20 m c (pt b T) (flush0_20 (pt b T))).trans (flushed20 m c (pt b T))) (fun _ _ => rfl)).trans ?_
  rw [out20_at, brow_eq]

end Cert.Kernel2Ideal.Value
end
-- ==== Proof.Online.lean ====
module
public import Idealize.ShloMosaic.Lib.Pointwise
@[expose] public section
noncomputable section

/-! The mathematics of one row of attention: a softmax-weighted sum over the extended reals, kept chunk by chunk
with a running maximum (`Inv`), and the plain two-pass softmax it equals (`soft`). -/
namespace Cert.Online
open Idealize.ShloMosaic Finset

/-- A finite sum of reals read as an extended real is the sum of the readings. -/
theorem coe_sum {ι : Type*} (S : Finset ι) (f : ι → ℝ) :
    ((∑ k ∈ S, f k : ℝ) : EReal) = ∑ k ∈ S, (f k : EReal) := by
  classical
  induction S using Finset.induction_on with
  | empty => simp
  | insert a S ha ih => rw [sum_insert ha, sum_insert ha, EReal.coe_add, ih]

/-- A nonnegative real factor goes through a sum of arbitrary extended reals. -/
theorem mul_sum_ereal {ι : Type*} (S : Finset ι) (c : ℝ) (hc : 0 ≤ c) (f : ι → EReal) :
    (c : EReal) * ∑ k ∈ S, f k = ∑ k ∈ S, (c : EReal) * f k := by
  classical
  induction S using Finset.induction_on with
  | empty => simp
  | insert a S ha ih =>
    rw [sum_insert ha, sum_insert ha,
      EReal.left_distrib_of_nonneg_of_ne_top (EReal.coe_nonneg.mpr hc) (EReal.coe_ne_top c), ih]

/-- The maximum of finitely many reals, begun from minus infinity, is minus infinity or a real. -/
theorem fold_max {ι : Type*} (S : Finset ι) (f : ι → ℝ) :
    S.fold max (⊥ : EReal) (fun k => (f k : EReal)) = ⊥ ∨
      ∃ μ : ℝ, S.fold max (⊥ : EReal) (fun k => (f k : EReal)) = μ := by
  classical
  induction S using Finset.induction_on with
  | empty => exact Or.inl (by simp)
  | insert a S ha ih =>
    right
    rw [fold_insert ha]
    rcases ih with h | ⟨μ, h⟩
    · exact ⟨f a, by rw [h]; simp⟩
    · exact ⟨max (f a) μ, by rw [h]; exact (EReal.coe_strictMono.monotone.map_max).symm⟩

/-- A real joined with such a maximum is a real. -/
theorem max_fold {ι : Type*} (S : Finset ι) (f : ι → ℝ) (m : ℝ) :
    ∃ μ : ℝ, max (m : EReal) (S.fold max (⊥ : EReal) (fun k => (f k : EReal))) = μ := by
  rcases fold_max S f with h | ⟨μ, h⟩
  · exact ⟨m, by rw [h]; simp⟩
  · exact ⟨max m μ, by rw [h]; exact (EReal.coe_strictMono.monotone.map_max).symm⟩

/-- The maximum of a nonempty set of reals, begun from minus infinity, is a real. -/
theorem fold_max_real {ι : Type*} (S : Finset ι) (hS : S.Nonempty) (f : ι → ℝ) :
    ∃ μ : ℝ, S.fold max (⊥ : EReal) (fun k => (f k : EReal)) = μ := by
  classical
  obtain ⟨a, ha⟩ := hS
  rw [← insert_erase ha, fold_insert (notMem_erase a S)]
  exact max_fold _ f (f a)

/-- The bit pattern of minus infinity. -/
theorem negInf : Ideal.ofBits FTy.f32 4286578688#32 = ⊥ := by
  simp [Ideal.ofBits, Ideal.ieee]

/-- The softmax weight of `k` among the members of `S`. -/
def soft {ι : Type*} (S : Finset ι) (s : ι → ℝ) (k : ι) : ℝ := Real.exp (s k) / ∑ j ∈ S, Real.exp (s j)

/-- Softmax weights do not change when every score is shifted alike. -/
theorem soft_shift {ι : Type*} (S : Finset ι) (s : ι → ℝ) (μ : ℝ) (k : ι) :
    Real.exp (s k - μ) / ∑ j ∈ S, Real.exp (s j - μ) = soft S s k := by
  unfold soft
  simp only [Real.exp_sub, ← Finset.sum_div]
  exact div_div_div_cancel_right₀ (Real.exp_ne_zero μ) _ _

/-- The state a row carries after the keys `lo ≤ k < hi`: a real shift, the sum of the shifted exponentials, and
for each lane the sum weighted by that lane's values. -/
def Inv {ι : Type*} (s : ℕ → ℝ) (v : ι → ℕ → EReal) (lo hi : ℕ) (m l : EReal) (a : ι → EReal) : Prop :=
  ∃ μ : ℝ, m = μ ∧ l = ((∑ k ∈ Ico lo hi, Real.exp (s k - μ) : ℝ) : EReal) ∧
    ∀ d, a d = ∑ k ∈ Ico lo hi, ((Real.exp (s k - μ) : ℝ) : EReal) * v d k

/-- Before the first key any real shift will do, with zero sums. -/
theorem Inv.init {ι : Type*} (s : ℕ → ℝ) (v : ι → ℕ → EReal) (lo : ℕ) (μ : ℝ) :
    Inv s v lo lo μ 0 (fun _ => 0) := ⟨μ, rfl, by simp, by simp⟩

/-- A sum over a chunk of `n` keys from `b` on, by its positions in the chunk. -/
theorem sum_chunk {M : Type*} [AddCommMonoid M] (f : ℕ → M) (b n : ℕ) :
    ∑ j : Fin n, f (b + j) = ∑ k ∈ Ico b (b + n), f k := by
  rw [Finset.sum_Ico_eq_sum_range, Nat.add_sub_cancel_left, Finset.sum_range]

/-- One chunk: the new maximum, the old sums rescaled to it, and the chunk's own exponentials added. -/
theorem Inv.step {ι : Type*} {s : ℕ → ℝ} {v : ι → ℕ → EReal} {lo hi : ℕ} {m l : EReal} {a : ι → EReal}
    (h : Inv s v lo hi m l a) (hle : lo ≤ hi) (n : ℕ) (m' l' : EReal) (a' : ι → EReal)
    (hm : m' = max m (univ.fold max ⊥ (fun j : Fin n => ((s (hi + j) : ℝ) : EReal))))
    (hl : l' = Ideal.exp (m - m') * l + ∑ j : Fin n, Ideal.exp (((s (hi + j) : ℝ) : EReal) - m'))
    (ha : ∀ d, a' d = Ideal.exp (m - m') * a d +
      ∑ j : Fin n, Ideal.exp (((s (hi + j) : ℝ) : EReal) - m') * v d (hi + j)) :
    Inv s v lo (hi + n) m' l' a' := by
  obtain ⟨μ, rfl, hl0, ha0⟩ := h
  obtain ⟨μ', hμ⟩ := max_fold univ (fun j : Fin n => s (hi + j)) μ
  rw [hμ] at hm
  have he : ∀ x : ℝ, Ideal.exp ((x : EReal) - m') = ((Real.exp (x - μ') : ℝ) : EReal) := by
    intro x; rw [hm, ← EReal.coe_sub, Ideal.exp_coe]
  have hr : ∀ k, Real.exp (μ - μ') * Real.exp (s k - μ) = Real.exp (s k - μ') := by
    intro k; rw [← Real.exp_add]; congr 1; ring
  refine ⟨μ', hm, ?_, ?_⟩
  · rw [hl, hl0, he]
    simp only [he]
    rw [← coe_sum, ← EReal.coe_mul, ← EReal.coe_add, sum_chunk (fun k => Real.exp (s k - μ')) hi n,
      Finset.mul_sum]
    simp only [hr]
    rw [Finset.sum_Ico_consecutive _ hle (Nat.le_add_right _ _)]
  · intro d
    rw [ha, ha0, he]
    simp only [he]
    rw [sum_chunk (fun k => ((Real.exp (s k - μ') : ℝ) : EReal) * v d k) hi n,
      mul_sum_ereal _ _ (Real.exp_pos _).le]
    simp only [← mul_assoc, ← EReal.coe_mul, hr]
    rw [Finset.sum_Ico_consecutive _ hle (Nat.le_add_right _ _)]

/-- Dividing the weighted sum by the sum of the weights leaves the softmax-weighted sum. -/
theorem Inv.out {ι : Type*} {s : ℕ → ℝ} {v : ι → ℕ → EReal} {lo hi : ℕ} {m l : EReal} {a : ι → EReal}
    (h : Inv s v lo hi m l a) (hlt : lo < hi) (d : ι) :
    Ideal.div (a d) l = ∑ k ∈ Ico lo hi, ((soft (Ico lo hi) s k : ℝ) : EReal) * v d k := by
  obtain ⟨μ, -, hl, ha⟩ := h
  have hpos : 0 < ∑ k ∈ Ico lo hi, Real.exp (s k - μ) :=
    Finset.sum_pos (fun k _ => Real.exp_pos _) (by simpa using hlt)
  rw [hl, ha, Ideal.div_coe hpos.ne', mul_comm, mul_sum_ereal _ _ (by positivity)]
  refine Finset.sum_congr rfl fun k _ => ?_
  rw [← mul_assoc, ← EReal.coe_mul, ← soft_shift _ s μ k]
  congr 2
  ring

/-- The softmax weight as the plain definition states it: shifted by a real, exponentiated, divided by the sum. -/
theorem soft_div {ι : Type*} (S : Finset ι) (hS : S.Nonempty) (s : ι → ℝ) (μ : ℝ) (k : ι) :
    Ideal.div (Ideal.exp (((s k : ℝ) : EReal) - (μ : EReal)))
      (∑ j ∈ S, Ideal.exp (((s j : ℝ) : EReal) - (μ : EReal))) = ((soft S s k : ℝ) : EReal) := by
  have hpos : 0 < ∑ k ∈ S, Real.exp (s k - μ) := Finset.sum_pos (fun k _ => Real.exp_pos _) hS
  simp only [← EReal.coe_sub, Ideal.exp_coe]
  rw [← coe_sum, Ideal.div_coe hpos.ne', ← EReal.coe_mul, ← soft_shift S s μ k]
  congr 1
  ring

end Cert.Online
end
-- ==== Proof.Loop.lean ====
module
public import proofs.«01_k».proof.Proof.Gen.KernelIdeal.Value
public import proofs.«01_k».proof.Proof.Online
public import Idealize.ShloMosaic.Lib.VecWindow
public import Idealize.ShloMosaic.Lib.Pipeline.ValueKit.Tiles
@[expose] public section
set_option maxRecDepth 16384
noncomputable section
/-! The four loops over the key chunks: each trip's stores, and an induction over the trips stated once. -/
namespace Cert.KernelIdeal.Value
open Cert.KernelIdeal Cert.KernelIdeal.Gen Idealize.ShloMosaic Idealize.ShloMosaic.TcCoe Idealize.SL.Sem

/-- The first key chunk a block of queries looks at: all of them for a latent block, the context's for the last. -/
def chunk0 (i : grid0.Coords) : ℕ := if (i 1).val < 32 then 0 else 32

/-- The word the kernel computes for it. -/
theorem chunk0_word : ∀ n : Fin 33,
    Scalar.select (Scalar.cmpi .sge (Scalar.muli (BitVec.ofNat 32 n.val) 256#32) 8192#32) 32#32 0#32 =
      if n.val < 32 then 0#32 else 32#32 := by decide

/-- A main loop runs from that chunk to the last. -/
theorem trips1 (i : grid0.Coords) : (k0_t1_loop i).trips = 33 - chunk0 i := by
  have h : ∀ n : Fin 33, Scf.trips
      (Scalar.select (Scalar.cmpi .sge (Scalar.muli (BitVec.ofNat 32 n.val) 256#32) 8192#32) 32#32 0#32)
      (Scalar.addi (Scalar.select (Scalar.cmpi .sge (Scalar.muli (BitVec.ofNat 32 n.val) 256#32) 8192#32) 32#32 0#32)
        (Scalar.muli (Scalar.divsi (Scalar.subi 33#32 (Scalar.select (Scalar.cmpi .sge
          (Scalar.muli (BitVec.ofNat 32 n.val) 256#32) 8192#32) 32#32 0#32)) 1#32) 1#32)) 1#32 =
      33 - (if n.val < 32 then 0 else 32) := by
    intro n
    rw [chunk0_word]
    by_cases hn : n.val < 32
    · simp only [hn, if_true]; decide
    · simp only [hn, if_false]; decide
  exact h (i 1)

/-- A remainder loop has no trips. -/
theorem trips2 (i : grid0.Coords) : (k0_t2_loop i).trips = 0 := by
  have h : ∀ n : Fin 33, Scf.trips
      (Scalar.addi (Scalar.select (Scalar.cmpi .sge (Scalar.muli (BitVec.ofNat 32 n.val) 256#32) 8192#32) 32#32 0#32)
        (Scalar.muli (Scalar.divsi (Scalar.subi 33#32 (Scalar.select (Scalar.cmpi .sge
          (Scalar.muli (BitVec.ofNat 32 n.val) 256#32) 8192#32) 32#32 0#32)) 1#32) 1#32))
      (Scalar.addi (Scalar.select (Scalar.cmpi .sge (Scalar.muli (BitVec.ofNat 32 n.val) 256#32) 8192#32) 32#32 0#32)
        (Scalar.subi 33#32 (Scalar.select (Scalar.cmpi .sge
          (Scalar.muli (BitVec.ofNat 32 n.val) 256#32) 8192#32) 32#32 0#32))) 1#32 = 0 := by
    intro n
    rw [chunk0_word]
    by_cases hn : n.val < 32
    · simp only [hn, if_true]; decide
    · simp only [hn, if_false]; decide
  exact h (i 1)

/-- The row of keys at which trip `k` of a main loop loads. -/
theorem off_word (i : grid0.Coords) (k : ℕ) (hk : k < 33 - chunk0 i) :
    (Scalar.indexCast (Scalar.muli (Scf.iv (Scalar.select (Scalar.cmpi .sge
      (Scalar.muli (BitVec.ofNat 32 (i 1).val) 256#32) 8192#32) 32#32 0#32) 1#32 k) 256#32)).toNat =
      (chunk0 i + k) * 256 := by
  rw [chunk0_word (i 1)]
  unfold chunk0 at *
  by_cases hn : (i 1).val < 32
  · simp only [hn, if_true] at *
    have h : ∀ k : Fin 33, (Scalar.indexCast (Scalar.muli (Scf.iv 0#32 1#32 k.val) 256#32)).toNat =
      (0 + k.val) * 256 := by decide
    exact h ⟨k, by omega⟩
  · simp only [hn, if_false] at *
    have h : ∀ k : Fin 1, (Scalar.indexCast (Scalar.muli (Scf.iv 32#32 1#32 k.val) 256#32)).toNat =
      (32 + k.val) * 256 := by decide
    exact h ⟨k, by omega⟩

/-- A load of 256 rows from row `b` on of a staged array of keys or values, at an index. -/
theorem read_rows (arg : Memref sig .tc .vmem S1x8448x128 .bf16) (harg : arg.IsWhole)
    (x : Vec Ideal S1x8448x128 .bf16) (off : Fin 3 → ℕ) (inb : ∀ a, off a + S1x256x128.size a ≤ S1x8448x128.size a)
    (b : ℕ) (h0 : off 0 = 0) (h1 : off 1 = b) (h2 : off 2 = 0) (j : Fin 256) (d : Fin 128) (hb : b + j.val < 8448) :
    arg.view.readAt (Elt Ideal) (Rect.unit (s := S1x8448x128) off S1x256x128.size inb).toLoadRect (harg.unread x) (ix3 0 j d) =
      x (ix3 0 ⟨b + j.val, hb⟩ d) := by
  rw [View.readAt_eq_ld, harg.read_unread]
  refine View.ld_unit_apply_of x off S1x256x128.size inb (ix3 0 j d) (ix3 0 ⟨b + j.val, hb⟩ d) ?_
  intro a
  fin_cases a
  · show 0 = off 0 + 0; omega
  · show b + j.val = off 1 + j.val; omega
  · show d.val = off 2 + d.val; omega

abbrev R1 : Rect S512x1 := Rect.unit ![0, 0] S512x1.size inb_S512x1_S512x1_0_0
abbrev R128 : Rect S512x128 := Rect.unit ![0, 0] S512x128.size inb_S512x128_S512x128_0_0
abbrev Pieces : Type := List (View.Piece (Elt Ideal) S512x1 .f32) × List (View.Piece (Elt Ideal) S512x1 .f32) ×
  List (View.Piece (Elt Ideal) S512x128 .f32)

/-- What one trip stores: from the maximum `m`, the sum `l` and the weighted sum `a` in the scratch buffers `u`, `w`,
`z` (the contents `f`, `g`, `h` before the loop, the earlier trips' pieces over them) and 256 rows of keys and values,
the next maximum, sum and weighted sum, each over its whole buffer. -/
def Trips (u w : Memref sig .tc .vmem S512x1 .f32) (z : Memref sig .tc .vmem S512x128 .f32)
    (f : BufTy.Contents (Elt Ideal) u.view.ty) (g : BufTy.Contents (Elt Ideal) w.view.ty)
    (h : BufTy.Contents (Elt Ideal) z.view.ty) (q : FVec Ideal S512x128 .bf16) (x1 x2 : Vec Ideal S1x8448x128 .bf16)
    (c0 : ℕ) (n : ℕ) (pb : ℕ → Pieces) : Prop :=
  pb 0 = ([], [], []) ∧ ∀ k < n, ∃ kb vb : Vec Ideal S1x256x128 .bf16,
    (∀ (j : Fin 256) (d : Fin 128) (hb : (c0 + k) * 256 + j.val < 8448), kb (ix3 0 j d) = x1 (ix3 0 ⟨_, hb⟩ d)) ∧
    (∀ (j : Fin 256) (d : Fin 128) (hb : (c0 + k) * 256 + j.val < 8448), vb (ix3 0 j d) = x2 (ix3 0 ⟨_, hb⟩ d)) ∧
    pb (k + 1) =
      (⟨R1, k0_pay60 (k0_pay7 q kb (u.view.readAt (Elt Ideal) R1.toLoadRect (u.view.writes (Elt Ideal) f (pb k).1)))⟩ ::
          (pb k).1,
        ⟨R1, k0_pay10 q kb (u.view.readAt (Elt Ideal) R1.toLoadRect (u.view.writes (Elt Ideal) f (pb k).1))
          (w.view.readAt (Elt Ideal) R1.toLoadRect (w.view.writes (Elt Ideal) g (pb k).2.1))⟩ :: (pb k).2.1,
        ⟨R128, k0_pay11 q kb (u.view.readAt (Elt Ideal) R1.toLoadRect (u.view.writes (Elt Ideal) f (pb k).1))
          (z.view.readAt (Elt Ideal) R128.toLoadRect (z.view.writes (Elt Ideal) h (pb k).2.2)) vb⟩ :: (pb k).2.2)

/-- What holds of the three buffers before the loop and is kept by every trip holds of them after it. -/
theorem Trips.induct {u w z f g h q x1 x2 c0 n pb} (H : Trips u w z f g h q x1 x2 c0 n pb)
    (Φ : ℕ → Vec Ideal S512x1 .f32 → Vec Ideal S512x1 .f32 → Vec Ideal S512x128 .f32 → Prop)
    (h0 : Φ 0 (u.view.readAt (Elt Ideal) R1.toLoadRect f) (w.view.readAt (Elt Ideal) R1.toLoadRect g)
      (z.view.readAt (Elt Ideal) R128.toLoadRect h))
    (hs : ∀ k < n, ∀ m l a, ∀ kb vb : Vec Ideal S1x256x128 .bf16,
      (∀ (j : Fin 256) (d : Fin 128) (hb : (c0 + k) * 256 + j.val < 8448), kb (ix3 0 j d) = x1 (ix3 0 ⟨_, hb⟩ d)) →
      (∀ (j : Fin 256) (d : Fin 128) (hb : (c0 + k) * 256 + j.val < 8448), vb (ix3 0 j d) = x2 (ix3 0 ⟨_, hb⟩ d)) →
      Φ k m l a → Φ (k + 1) (k0_pay60 (k0_pay7 q kb m)) (k0_pay10 q kb m l) (k0_pay11 q kb m a vb)) :
    ∀ k ≤ n, Φ k (u.view.readAt (Elt Ideal) R1.toLoadRect (u.view.writes (Elt Ideal) f (pb k).1))
      (w.view.readAt (Elt Ideal) R1.toLoadRect (w.view.writes (Elt Ideal) g (pb k).2.1))
      (z.view.readAt (Elt Ideal) R128.toLoadRect (z.view.writes (Elt Ideal) h (pb k).2.2)) := by
  intro k
  induction k with
  | zero => intro _; rw [H.1]; exact h0
  | succ k ih =>
    intro hk
    obtain ⟨kb, vb, hkb, hvb, e⟩ := H.2 k (by omega)
    rw [e]
    dsimp only
    rw [View.readAt_writes_full, View.readAt_writes_full, View.readAt_writes_full]
    exact hs k (by omega) _ _ _ kb vb hkb hvb (ih (by omega))

/-- Such trips, from loads at the rows `off k` names. -/
theorem Trips.of_loads {u w z f g h q c0 n} {pb : ℕ → Pieces} (arg3 arg4 : Memref sig .tc .vmem S1x8448x128 .bf16)
    (harg3 : arg3.IsWhole) (harg4 : arg4.IsWhole) (x1 x2 : Vec Ideal S1x8448x128 .bf16) (off : Fin n → Fin 3 → ℕ)
    (inb : ∀ k a, off k a + S1x256x128.size a ≤ S1x8448x128.size a) (h0 : ∀ k, off k 0 = 0)
    (h1 : ∀ k, off k 1 = (c0 + k.val) * 256) (h2 : ∀ k, off k 2 = 0) (hp : pb 0 = ([], [], []))
    (hs : ∀ k : Fin n, ∀ kb vb : Vec Ideal S1x256x128 .bf16,
      kb = arg3.view.readAt (Elt Ideal) (Rect.unit (s := S1x8448x128) (off k) S1x256x128.size (inb k)).toLoadRect
        (harg3.unread x1) →
      vb = arg4.view.readAt (Elt Ideal) (Rect.unit (s := S1x8448x128) (off k) S1x256x128.size (inb k)).toLoadRect
        (harg4.unread x2) →
      pb (k.val + 1) =
      (⟨R1, k0_pay60 (k0_pay7 q kb (u.view.readAt (Elt Ideal) R1.toLoadRect (u.view.writes (Elt Ideal) f (pb k).1)))⟩ ::
          (pb k).1,
        ⟨R1, k0_pay10 q kb (u.view.readAt (Elt Ideal) R1.toLoadRect (u.view.writes (Elt Ideal) f (pb k).1))
          (w.view.readAt (Elt Ideal) R1.toLoadRect (w.view.writes (Elt Ideal) g (pb k).2.1))⟩ :: (pb k).2.1,
        ⟨R128, k0_pay11 q kb (u.view.readAt (Elt Ideal) R1.toLoadRect (u.view.writes (Elt Ideal) f (pb k).1))
          (z.view.readAt (Elt Ideal) R128.toLoadRect (z.view.writes (Elt Ideal) h (pb k).2.2)) vb⟩ :: (pb k).2.2)) :
    Trips u w z f g h q x1 x2 c0 n pb :=
  ⟨hp, fun k hk => ⟨_, _, fun j d hb => read_rows arg3 harg3 x1 _ (inb ⟨k, hk⟩) _ (h0 _) (h1 _) (h2 _) j d hb,
    fun j d hb => read_rows arg4 harg4 x2 _ (inb ⟨k, hk⟩) _ (h0 _) (h1 _) (h2 _) j d hb,
    hs ⟨k, hk⟩ _ _ rfl rfl⟩⟩

/-- The pieces the loop of output columns 0 to 127 has stored are such trips. -/
theorem trips_t1 (c : Dev nD) (i : grid0.Coords) (arg2 : Memref sig .tc .vmem S1x256x512 .bf16) (harg2 : arg2.IsWhole)
    (arg3 : Memref sig .tc .vmem S1x8448x128 .bf16) (harg3 : arg3.IsWhole)
    (arg4 : Memref sig .tc .vmem S1x8448x128 .bf16) (harg4 : arg4.IsWhole)
    (arg5 : Memref sig .tc .vmem S1x256x512 .bf16) (harg5 : arg5.IsWhole)
    (arg6 : Memref sig .tc .vmem S1x256x512 .bf16) (harg6 : arg6.IsWhole)
    (arg7 : Memref sig .tc .vmem S512x1 .f32) (harg7 : arg7.IsWhole)
    (arg8 : Memref sig .tc .vmem S512x1 .f32) (harg8 : arg8.IsWhole)
    (arg9 : Memref sig .tc .vmem S512x128 .f32) (harg9 : arg9.IsWhole)
    (v2 : BitVec 32) (v23 : IVec S1x128 1) (v33 : FVec Ideal S512x128 .bf16)
    (x1 x2 : Vec Ideal S1x8448x128 .bf16) (f : BufTy.Contents (Elt Ideal) arg7.view.ty)
    (g : BufTy.Contents (Elt Ideal) arg8.view.ty) (h : BufTy.Contents (Elt Ideal) arg9.view.ty) :
    Trips arg7 arg8 arg9 f g h v33 x1 x2 (chunk0 i) (k0_t1_loop i).trips
      (pb_k0_t1 (F := Ideal) Variants.none c none i arg2 harg2 arg3 harg3 arg4 harg4 arg5 harg5 arg6 harg6 arg7 harg7 arg8 harg8 arg9 harg9
        v2 v23 v33 (harg3.unread x1) (harg4.unread x2) f g h) := by
  refine Trips.of_loads arg3 arg4 harg3 harg4 x1 x2 (k0_off1 i) (k0_off1_inb i) (fun _ => rfl)
    (fun k => off_word i k (by rw [← trips1]; exact k.isLt)) (fun _ => rfl) rfl ?_
  rintro k kb vb rfl rfl
  refine (pb_k0_t1_succ (F := Ideal) Variants.none c none i arg2 harg2 arg3 harg3 arg4 harg4 arg5 harg5 arg6 harg6 arg7 harg7 arg8 harg8 arg9 harg9
    v2 v23 v33 (harg3.unread x1) (harg4.unread x2) f g h k).trans ?_
  unfold tripL_k0_t1 trip_k0_t1
  rfl

/-- The pieces the loop of output columns 128 to 255 has stored are such trips. -/
theorem trips_t3 (c : Dev nD) (i : grid0.Coords) (arg2 : Memref sig .tc .vmem S1x256x512 .bf16) (harg2 : arg2.IsWhole)
    (arg3 : Memref sig .tc .vmem S1x8448x128 .bf16) (harg3 : arg3.IsWhole)
    (arg4 : Memref sig .tc .vmem S1x8448x128 .bf16) (harg4 : arg4.IsWhole)
    (arg5 : Memref sig .tc .vmem S1x256x512 .bf16) (harg5 : arg5.IsWhole)
    (arg6 : Memref sig .tc .vmem S1x256x512 .bf16) (harg6 : arg6.IsWhole)
    (arg7 : Memref sig .tc .vmem S512x1 .f32) (harg7 : arg7.IsWhole)
    (arg8 : Memref sig .tc .vmem S512x1 .f32) (harg8 : arg8.IsWhole)
    (arg9 : Memref sig .tc .vmem S512x128 .f32) (harg9 : arg9.IsWhole)
    (v2 : BitVec 32) (v21 v23 : IVec S1x128 1) (v68 : Vec Ideal S1x256x128 .bf16)
    (x1 x2 : Vec Ideal S1x8448x128 .bf16) (f : BufTy.Contents (Elt Ideal) arg7.view.ty)
    (g : BufTy.Contents (Elt Ideal) arg8.view.ty) (h : BufTy.Contents (Elt Ideal) arg9.view.ty) :
    Trips arg7 arg8 arg9 f g h (k0_pay63 v21 v68) x1 x2 (chunk0 i) (k0_t3_loop i).trips
      (pb_k0_t3 (F := Ideal) Variants.none c none i arg2 harg2 arg3 harg3 arg4 harg4 arg5 harg5 arg6 harg6 arg7 harg7 arg8 harg8 arg9 harg9
        v2 v21 v23 v68 (harg3.unread x1) (harg4.unread x2) f g h) := by
  refine Trips.of_loads arg3 arg4 harg3 harg4 x1 x2 (k0_off3 i) (k0_off3_inb i) (fun _ => rfl)
    (fun k => off_word i k (by rw [← trips1]; exact k.isLt)) (fun _ => rfl) rfl ?_
  rintro k kb vb rfl rfl
  refine (pb_k0_t3_succ (F := Ideal) Variants.none c none i arg2 harg2 arg3 harg3 arg4 harg4 arg5 harg5 arg6 harg6 arg7 harg7 arg8 harg8 arg9 harg9
    v2 v21 v23 v68 (harg3.unread x1) (harg4.unread x2) f g h k).trans ?_
  unfold tripL_k0_t3 trip_k0_t3
  rfl

/-- The pieces the loop of output columns 256 to 383 has stored are such trips. -/
theorem trips_t5 (c : Dev nD) (i : grid0.Coords) (arg2 : Memref sig .tc .vmem S1x256x512 .bf16) (harg2 : arg2.IsWhole)
    (arg3 : Memref sig .tc .vmem S1x8448x128 .bf16) (harg3 : arg3.IsWhole)
    (arg4 : Memref sig .tc .vmem S1x8448x128 .bf16) (harg4 : arg4.IsWhole)
    (arg5 : Memref sig .tc .vmem S1x256x512 .bf16) (harg5 : arg5.IsWhole)
    (arg6 : Memref sig .tc .vmem S1x256x512 .bf16) (harg6 : arg6.IsWhole)
    (arg7 : Memref sig .tc .vmem S512x1 .f32) (harg7 : arg7.IsWhole)
    (arg8 : Memref sig .tc .vmem S512x1 .f32) (harg8 : arg8.IsWhole)
    (arg9 : Memref sig .tc .vmem S512x128 .f32) (harg9 : arg9.IsWhole)
    (v2 : BitVec 32) (v21 v23 : IVec S1x128 1) (v121 : FVec Ideal S512x128 .bf16) (v138 : BitVec 32)
    (x1 x2 : Vec Ideal S1x8448x128 .bf16) (f : BufTy.Contents (Elt Ideal) arg7.view.ty)
    (g : BufTy.Contents (Elt Ideal) arg8.view.ty) (h : BufTy.Contents (Elt Ideal) arg9.view.ty) :
    Trips arg7 arg8 arg9 f g h v121 x1 x2 (chunk0 i) (k0_t5_loop i).trips
      (pb_k0_t5 (F := Ideal) Variants.none c none i arg2 harg2 arg3 harg3 arg4 harg4 arg5 harg5 arg6 harg6 arg7 harg7 arg8 harg8 arg9 harg9
        v2 v21 v23 v121 v138 (harg3.unread x1) (harg4.unread x2) f g h) := by
  refine Trips.of_loads arg3 arg4 harg3 harg4 x1 x2 (k0_off5 i) (k0_off5_inb i) (fun _ => rfl)
    (fun k => off_word i k (by rw [← trips1]; exact k.isLt)) (fun _ => rfl) rfl ?_
  rintro k kb vb rfl rfl
  refine (pb_k0_t5_succ (F := Ideal) Variants.none c none i arg2 harg2 arg3 harg3 arg4 harg4 arg5 harg5 arg6 harg6 arg7 harg7 arg8 harg8 arg9 harg9
    v2 v21 v23 v121 v138 (harg3.unread x1) (harg4.unread x2) f g h k).trans ?_
  unfold tripL_k0_t5 trip_k0_t5
  rfl

/-- The pieces the loop of output columns 384 to 511 has stored are such trips. -/
theorem trips_t7 (c : Dev nD) (i : grid0.Coords) (arg2 : Memref sig .tc .vmem S1x256x512 .bf16) (harg2 : arg2.IsWhole)
    (arg3 : Memref sig .tc .vmem S1x8448x128 .bf16) (harg3 : arg3.IsWhole)
    (arg4 : Memref sig .tc .vmem S1x8448x128 .bf16) (harg4 : arg4.IsWhole)
    (arg5 : Memref sig .tc .vmem S1x256x512 .bf16) (harg5 : arg5.IsWhole)
    (arg6 : Memref sig .tc .vmem S1x256x512 .bf16) (harg6 : arg6.IsWhole)
    (arg7 : Memref sig .tc .vmem S512x1 .f32) (harg7 : arg7.IsWhole)
    (arg8 : Memref sig .tc .vmem S512x1 .f32) (harg8 : arg8.IsWhole)
    (arg9 : Memref sig .tc .vmem S512x128 .f32) (harg9 : arg9.IsWhole)
    (v2 : BitVec 32) (v165 : FVec Ideal S512x128 .bf16)
    (x1 x2 : Vec Ideal S1x8448x128 .bf16) (f : BufTy.Contents (Elt Ideal) arg7.view.ty)
    (g : BufTy.Contents (Elt Ideal) arg8.view.ty) (h : BufTy.Contents (Elt Ideal) arg9.view.ty) :
    Trips arg7 arg8 arg9 f g h v165 x1 x2 (chunk0 i) (k0_t7_loop i).trips
      (pb_k0_t7 (F := Ideal) Variants.none c none i arg2 harg2 arg3 harg3 arg4 harg4 arg5 harg5 arg6 harg6 arg7 harg7 arg8 harg8 arg9 harg9
        v2 v165 (harg3.unread x1) (harg4.unread x2) f g h) := by
  refine Trips.of_loads arg3 arg4 harg3 harg4 x1 x2 (k0_off7 i) (k0_off7_inb i) (fun _ => rfl)
    (fun k => off_word i k (by rw [← trips1]; exact k.isLt)) (fun _ => rfl) rfl ?_
  rintro k kb vb rfl rfl
  refine (pb_k0_t7_succ (F := Ideal) Variants.none c none i arg2 harg2 arg3 harg3 arg4 harg4 arg5 harg5 arg6 harg6 arg7 harg7 arg8 harg8 arg9 harg9
    v2 v165 (harg3.unread x1) (harg4.unread x2) f g h k).trans ?_
  unfold tripL_k0_t7 trip_k0_t7
  rfl

end Cert.KernelIdeal.Value
end
-- ==== Proof.Rows.lean ====
module
public import proofs.«01_k».proof.Proof.Loop
public import Idealize.ShloMosaic.Lib.Pointwise
@[expose] public section
set_option maxRecDepth 16384
noncomputable section
/-! One trip of the loop, row by row: the online-softmax step, and what the rows hold after the last chunk. -/
namespace Cert.KernelIdeal.Value
open Cert.KernelIdeal Cert.KernelIdeal.Gen Idealize.ShloMosaic Idealize.ShloMosaic.TcCoe
open Cert.Online

/-- A block of scores: queries against keys over the 128 lanes. -/
theorem pay6_at (q : FVec Ideal S512x128 .bf16) (k : Vec Ideal S1x256x128 .bf16) (r : Fin 512) (j : Fin 256) :
    k0_pay6 q k (ix2 r j) = ∑ x, q (ix2 r x) * k (ix3 0 j x) := by
  pointwise [k0_pay6]

/-- The next running maximum of a row. -/
theorem pay7_at (q : FVec Ideal S512x128 .bf16) (k : Vec Ideal S1x256x128 .bf16) (m : Vec Ideal S512x1 .f32)
    (r : Fin 512) :
    k0_pay7 q k m (ix2 r 0) = max (m (ix2 r 0)) (Finset.univ.fold max ⊥ (fun j => k0_pay6 q k (ix2 r j))) := by
  pointwise [k0_pay7]
  rw [negInf]

/-- The next running maximum as it is stored. -/
theorem pay60_at (x : FVec Ideal S512x1 .f32) (r : Fin 512) : k0_pay60 x (ix2 r 0) = x (ix2 r 0) := by
  pointwise [k0_pay60]

/-- The factor that rescales a row's old sums. -/
theorem pay8_at (q : FVec Ideal S512x128 .bf16) (k : Vec Ideal S1x256x128 .bf16) (m : Vec Ideal S512x1 .f32)
    (r : Fin 512) : k0_pay8 q k m (ix2 r 0) = Ideal.exp (m (ix2 r 0) - k0_pay7 q k m (ix2 r 0)) := by
  pointwise [k0_pay8]

/-- The exponentials of a chunk's shifted scores. -/
theorem pay9_at (q : FVec Ideal S512x128 .bf16) (k : Vec Ideal S1x256x128 .bf16) (m : Vec Ideal S512x1 .f32)
    (r : Fin 512) (j : Fin 256) :
    k0_pay9 q k m (ix2 r j) = Ideal.exp (k0_pay6 q k (ix2 r j) - k0_pay7 q k m (ix2 r 0)) := by
  pointwise [k0_pay9]

/-- The next sum of exponentials of a row. -/
theorem pay10_at (q : FVec Ideal S512x128 .bf16) (k : Vec Ideal S1x256x128 .bf16) (m l : Vec Ideal S512x1 .f32)
    (r : Fin 512) :
    k0_pay10 q k m l (ix2 r 0) = k0_pay8 q k m (ix2 r 0) * l (ix2 r 0) + ∑ j, k0_pay9 q k m (ix2 r j) := by
  pointwise [k0_pay10]

/-- The next weighted sum of a row, lane by lane. -/
theorem pay11_at (q : FVec Ideal S512x128 .bf16) (k : Vec Ideal S1x256x128 .bf16) (m : Vec Ideal S512x1 .f32)
    (a : Vec Ideal S512x128 .f32) (v : Vec Ideal S1x256x128 .bf16) (r : Fin 512) (d : Fin 128) :
    k0_pay11 q k m a v (ix2 r d) =
      k0_pay8 q k m (ix2 r 0) * a (ix2 r d) + ∑ j, k0_pay9 q k m (ix2 r j) * v (ix3 0 j d) := by
  pointwise [k0_pay11]

/-- The first running maximum is a real number. -/
theorem pay57_at (r : Fin 512) : ∃ μ : ℝ, k0_pay57 (F := Ideal) (ix2 r 0) = μ := by
  pointwise [k0_pay57]
  simp only [Ideal.ofBits, Ideal.ieee]
  exact ⟨_, by norm_num; rfl⟩

/-- The first sum of exponentials is zero. -/
theorem pay58_at (r : Fin 512) : k0_pay58 (F := Ideal) (ix2 r 0) = 0 := by
  pointwise [k0_pay58]

/-- The first weighted sum is zero. -/
theorem pay59_at (r : Fin 512) (d : Fin 128) : k0_pay59 (F := Ideal) (ix2 r d) = 0 := by
  pointwise [k0_pay59]

/-- The score of a query row against key `k`, over the reals. -/
def score (Q : Fin 512 → Fin 128 → ℝ) (K : ℕ → Fin 128 → ℝ) (r : Fin 512) (k : ℕ) : ℝ := ∑ x, Q r x * K k x

/-- What one row of attention leaves in lane `d`: the values weighted by the softmax of the row's scores. -/
def attn (s : ℕ → ℝ) (V : Fin 128 → ℕ → EReal) (lo hi : ℕ) (d : Fin 128) : EReal :=
  ∑ k ∈ Finset.Ico lo hi, ((soft (Finset.Ico lo hi) s k : ℝ) : EReal) * V d k

/-- After the loop every row's weighted sum over its sum of weights is the row's attention. -/
theorem Trips.rows {u w z f g h q x1 x2 c0 n pb} (H : Trips u w z f g h q x1 x2 c0 n pb) (hn : n = 33 - c0)
    (hc : c0 < 33) {Q : Fin 512 → Fin 128 → ℝ} {K : ℕ → Fin 128 → ℝ} {V : Fin 128 → ℕ → EReal}
    (hq : ∀ r x, q (ix2 r x) = (Q r x : EReal)) (hk : ∀ k x (hb : k < 8448), x1 (ix3 0 ⟨k, hb⟩ x) = (K k x : EReal))
    (hv : ∀ k d (hb : k < 8448), x2 (ix3 0 ⟨k, hb⟩ d) = V d k)
    (hf : u.view.readAt (Elt Ideal) R1.toLoadRect f = k0_pay57 (F := Ideal))
    (hg : w.view.readAt (Elt Ideal) R1.toLoadRect g = k0_pay58 (F := Ideal))
    (hh : z.view.readAt (Elt Ideal) R128.toLoadRect h = k0_pay59 (F := Ideal)) (r : Fin 512) (d : Fin 128) :
    Ideal.div (z.view.readAt (Elt Ideal) R128.toLoadRect (z.view.writes (Elt Ideal) h (pb n).2.2) (ix2 r d))
      (w.view.readAt (Elt Ideal) R1.toLoadRect (w.view.writes (Elt Ideal) g (pb n).2.1) (ix2 r 0)) =
    attn (score Q K r) V (c0 * 256) 8448 d := by
  have key := H.induct (fun k m l a => Inv (score Q K r) V (c0 * 256) ((c0 + k) * 256) (m (ix2 r 0)) (l (ix2 r 0))
    (fun d => a (ix2 r d))) ?_ ?_ n le_rfl
  · have e : (c0 + n) * 256 = 8448 := by omega
    rw [e] at key
    exact key.out (by omega) d
  · rw [hf, hg, hh]
    obtain ⟨μ, hμ⟩ := pay57_at r
    simp only [hμ, pay58_at, pay59_at]
    exact Inv.init _ _ _ μ
  · intro k hkn m l a kb vb hkb hvb hI
    have hs : ∀ j : Fin 256, k0_pay6 q kb (ix2 r j) = ((score Q K r ((c0 + k) * 256 + j.val) : ℝ) : EReal) := by
      intro j
      have hb : (c0 + k) * 256 + j.val < 8448 := by omega
      rw [pay6_at, score, coe_sum]
      refine Finset.sum_congr rfl fun x _ => ?_
      rw [hq, hkb j x hb, hk, EReal.coe_mul]
    have hst := hI.step (by omega) 256 (k0_pay60 (k0_pay7 q kb m) (ix2 r 0)) (k0_pay10 q kb m l (ix2 r 0))
      (fun d => k0_pay11 q kb m a vb (ix2 r d)) ?_ ?_ ?_
    · have e : (c0 + (k + 1)) * 256 = (c0 + k) * 256 + 256 := by ring
      rw [e]
      exact hst
    · rw [pay60_at, pay7_at]
      simp only [hs]
    · rw [pay10_at, pay8_at, pay60_at]
      simp only [pay9_at, hs]
    · intro d
      rw [pay11_at, pay8_at, pay60_at]
      simp only [pay9_at, hs]
      congr 1
      refine Finset.sum_congr rfl fun j _ => ?_
      rw [hvb j d (by omega), hv]

end Cert.KernelIdeal.Value
end
-- ==== Proof.Block.lean ====
module
public import proofs.«01_k».proof.Proof.Rows
@[expose] public section
set_option maxRecDepth 16384
noncomputable section
/-! What one block of the attention computes: each of its four columns of 128 lanes from the column's loop. -/
namespace Cert.KernelIdeal.Value
open Cert.KernelIdeal Cert.KernelIdeal.Gen Idealize.ShloMosaic Idealize.ShloMosaic.TcCoe
open Cert.Online

/-- The lane masks: lanes of the first half of a 64-lane group, and lanes of the first 64. -/
theorem pay54_at (d : Fin 128) : k0_pay54 (ix2 0 d) = if d.val % 64 < 32 then 1#1 else 0#1 := by
  pointwise [k0_pay54]
  revert d
  decide

theorem pay55_at (d : Fin 128) : k0_pay55 (ix2 0 d) = if d.val < 64 then 1#1 else 0#1 := by
  pointwise [k0_pay55]
  revert d
  decide

/-- Two stacked copies of a query block, each keeping the lanes of its own head of the pair. -/
def stack (Q : ℕ → Fin 128 → ℝ) (r : Fin 512) (x : Fin 128) : ℝ :=
  if r.val < 256 then if x.val % 64 < 32 then Q r.val x else 0
  else if x.val % 64 < 32 then 0 else Q (r.val - 256) x

theorem pay63_at (qb : Vec Ideal S1x256x128 .bf16) (Q : ℕ → Fin 128 → ℝ)
    (hq : ∀ (r : Fin 256) x, qb (ix3 0 r x) = (Q r.val x : EReal)) (r : Fin 512) (x : Fin 128) :
    k0_pay63 k0_pay54 qb (ix2 r x) = (stack Q r x : EReal) := by
  pointwise [k0_pay63]
  simp only [pay54_at, hq, stack]
  by_cases hr : r.val < 256 <;> by_cases hx : x.val % 64 < 32 <;> simp [hr, hx, Scalar.select]

/-- The stored block: the row's quotient of the head its lane belongs to, times the gate. -/
theorem pay5_at (a : Vec Ideal S512x128 .f32) (l : Vec Ideal S512x1 .f32) (g : Vec Ideal S1x256x128 .bf16)
    (r : Fin 256) (d : Fin 128) :
    k0_pay5 k0_pay55 a l g (ix3 0 r d) =
      (if d.val < 64 then Ideal.div (a (ix2 ⟨r.val, by omega⟩ d)) (l (ix2 ⟨r.val, by omega⟩ 0))
        else Ideal.div (a (ix2 ⟨256 + r.val, by omega⟩ d)) (l (ix2 ⟨256 + r.val, by omega⟩ 0))) * g (ix3 0 r d) := by
  pointwise [k0_pay5]
  simp only [pay55_at]
  by_cases hd : d.val < 64 <;> simp [hd, Scalar.select]

/-- A load of a whole buffer after a loop without trips, a loop and the stores before it. -/
theorem readCov_app {s : Shape} {e : EltTy} {κ sp} (v : View sig κ sp s e) (A P B : List (View.Piece (Elt Ideal) s e))
    (hA : A = []) (R : LoadRect s) :
    v.readCov (A ++ (P ++ B)) R = v.readAt (Elt Ideal) R (v.writes (Elt Ideal) (v.writes (Elt Ideal) v.junk B) P) := by
  subst hA
  rw [← View.writes_append]
  rfl

/-- A loop without trips stores nothing. -/
theorem no_trips {pb : ℕ → Pieces} {N : ℕ} (hN : N = 0) (h0 : pb 0 = ([], [], [])) :
    (pb N).2.1 = [] ∧ (pb N).2.2 = [] := by
  subst hN
  rw [h0]
  exact ⟨rfl, rfl⟩

/-- What a column of the block holds: the head's attention in its lane, times the gate. -/
def column (Q : ℕ → Fin 128 → ℝ) (K : ℕ → Fin 128 → ℝ) (V : Fin 128 → ℕ → EReal) (lo : ℕ) (r : Fin 256) (d : Fin 128) :
    EReal :=
  if d.val < 64 then attn (score (stack Q) K ⟨r.val, by omega⟩) V lo 8448 d
  else attn (score (stack Q) K ⟨256 + r.val, by omega⟩) V lo 8448 d

/-- A column of the block from its loop. -/
theorem Trips.column {u w : Memref sig .tc .vmem S512x1 .f32} {z : Memref sig .tc .vmem S512x128 .f32}
    {H7 H8 A8 : List (View.Piece (Elt Ideal) S512x1 .f32)} {H9 A9 : List (View.Piece (Elt Ideal) S512x128 .f32)}
    {q x1 x2 c0 n N pb} {Q K : ℕ → Fin 128 → ℝ} {V : Fin 128 → ℕ → EReal} {g : Vec Ideal S1x256x128 .bf16}
    (r : Fin 256) (d : Fin 128)
    (H : Trips u w z (u.view.writes (Elt Ideal) u.view.junk H7) (w.view.writes (Elt Ideal) w.view.junk H8)
      (z.view.writes (Elt Ideal) z.view.junk H9) q x1 x2 c0 n pb)
    (hN : N = n) (hn : n = 33 - c0) (hc : c0 < 33) (h8 : A8 = []) (h9 : A9 = [])
    (hf : u.view.readAt (Elt Ideal) R1.toLoadRect (u.view.writes (Elt Ideal) u.view.junk H7) = k0_pay57 (F := Ideal))
    (hg : w.view.readAt (Elt Ideal) R1.toLoadRect (w.view.writes (Elt Ideal) w.view.junk H8) = k0_pay58 (F := Ideal))
    (hh : z.view.readAt (Elt Ideal) R128.toLoadRect (z.view.writes (Elt Ideal) z.view.junk H9) = k0_pay59 (F := Ideal))
    (hq : ∀ r x, q (ix2 r x) = (stack Q r x : EReal))
    (hk : ∀ k x (hb : k < 8448), x1 (ix3 0 ⟨k, hb⟩ x) = (K k x : EReal))
    (hv : ∀ k d (hb : k < 8448), x2 (ix3 0 ⟨k, hb⟩ d) = V d k) :
    k0_pay5 k0_pay55 (z.view.readCov (A9 ++ ((pb N).2.2 ++ H9)) R128.toLoadRect)
      (w.view.readCov (A8 ++ ((pb N).2.1 ++ H8)) R1.toLoadRect) g (ix3 0 r d) =
      Value.column Q K V (c0 * 256) r d * g (ix3 0 r d) := by
  subst hN
  rw [readCov_app _ _ _ _ h9, readCov_app _ _ _ _ h8, pay5_at]
  have hr := fun r d => H.rows hn hc hq hk hv hf hg hh r d
  rw [hr, hr]
  rfl

/-- A load of 128 lanes from lane `b` on of a staged block of queries or gates, at an index. -/
theorem read_cols (arg : Memref sig .tc .vmem S1x256x512 .bf16) (harg : arg.IsWhole)
    (x : Vec Ideal S1x256x512 .bf16) (off : Fin 3 → ℕ) (inb : ∀ a, off a + S1x256x128.size a ≤ S1x256x512.size a)
    (b : ℕ) (h0 : off 0 = 0) (h1 : off 1 = 0) (h2 : off 2 = b) (r : Fin 256) (d : Fin 128) (hb : b + d.val < 512) :
    arg.view.readAt (Elt Ideal) (Rect.unit (s := S1x256x512) off S1x256x128.size inb).toLoadRect (harg.unread x) (ix3 0 r d) =
      x (ix3 0 r ⟨b + d.val, hb⟩) := by
  rw [View.readAt_eq_ld, harg.read_unread]
  refine View.ld_unit_apply_of x off S1x256x128.size inb (ix3 0 r d) (ix3 0 r ⟨b + d.val, hb⟩) ?_
  intro a
  fin_cases a
  · show 0 = off 0 + 0; omega
  · show r.val = off 1 + r.val; omega
  · show b + d.val = off 2 + d.val; omega

/-- A stored column, where it holds an index of the block, holds what the block should. -/
theorem tile (Q : ℕ → ℕ → ℝ) (K : ℕ → Fin 128 → ℝ) (V : Fin 128 → ℕ → EReal) (lo : ℕ)
    (x3 : Vec Ideal S1x256x512 .bf16) (r : Fin 256) (l : Fin 512) (off : Fin 3 → ℕ) (j : ℕ) (hj : j < 4)
    (h1 : off 1 = 0) (h2 : off 2 = j * 128) (w : Vec Ideal S1x256x128 .bf16)
    (hw : ∀ (r : Fin 256) (d : Fin 128), w (ix3 0 r d) =
      column (fun r x => Q r (j * 128 + x.val)) K V lo r d * x3 (ix3 0 r ⟨j * 128 + d.val, by omega⟩)) :
    View.TileAt (S := S1x256x512) (e := .bf16) (Val := Elt Ideal) (ix3 0 r l) off S1x256x128.size w
      (column (fun r x => Q r (l.val / 128 * 128 + x.val)) K V lo r ⟨l.val % 128, by omega⟩ * x3 (ix3 0 r l)) := by
  intro x hx
  have e1 : r.val = off 1 + (x 1).val := hx 1
  have e2 : l.val = off 2 + (x 2).val := hx 2
  have hd : (x 2).val < 128 := (x 2).isLt
  have hr : (x 1).val < 256 := (x 1).isLt
  have hz : (x 0).val < 1 := (x 0).isLt
  have ex : x = ix3 0 r ⟨l.val % 128, by omega⟩ := by
    funext a
    fin_cases a
    · exact Fin.ext (show (x 0).val = 0 by omega)
    · exact Fin.ext (show (x 1).val = r.val by omega)
    · exact Fin.ext (show (x 2).val = l.val % 128 by omega)
  rw [ex]
  have ej : l.val / 128 = j := by omega
  have el : l = ⟨j * 128 + l.val % 128, by omega⟩ := Fin.ext (by show l.val = j * 128 + l.val % 128; omega)
  rw [hw, ej]
  exact congrArg (fun t => _ * x3 (ix3 0 r t)) el.symm

set_option maxHeartbeats 2000000 in
/-- What the block's run leaves at row `r` and lane `l`. -/
theorem out_at (c : Dev nD) (i : grid0.Coords) (arg2 : Memref sig .tc .vmem S1x256x512 .bf16) (harg2 : arg2.IsWhole)
    (arg3 : Memref sig .tc .vmem S1x8448x128 .bf16) (harg3 : arg3.IsWhole)
    (arg4 : Memref sig .tc .vmem S1x8448x128 .bf16) (harg4 : arg4.IsWhole)
    (arg5 : Memref sig .tc .vmem S1x256x512 .bf16) (harg5 : arg5.IsWhole)
    (arg6 : Memref sig .tc .vmem S1x256x512 .bf16) (harg6 : arg6.IsWhole)
    (arg7 : Memref sig .tc .vmem S512x1 .f32) (harg7 : arg7.IsWhole)
    (arg8 : Memref sig .tc .vmem S512x1 .f32) (harg8 : arg8.IsWhole)
    (arg9 : Memref sig .tc .vmem S512x128 .f32) (harg9 : arg9.IsWhole)
    (x0 : Vec Ideal S1x256x512 .bf16) (x1 x2 : Vec Ideal S1x8448x128 .bf16) (x3 : Vec Ideal S1x256x512 .bf16)
    (Q : ℕ → ℕ → ℝ) (K : ℕ → Fin 128 → ℝ) (V : Fin 128 → ℕ → EReal)
    (hq : ∀ (r : Fin 256) (l : Fin 512), x0 (ix3 0 r l) = (Q r.val l.val : EReal))
    (hk : ∀ k x (hb : k < 8448), x1 (ix3 0 ⟨k, hb⟩ x) = (K k x : EReal))
    (hv : ∀ k d (hb : k < 8448), x2 (ix3 0 ⟨k, hb⟩ d) = V d k) (r : Fin 256) (l : Fin 512) :
    out0_A_4 (F := Ideal) c i arg2 harg2 arg3 harg3 arg4 harg4 arg5 harg5 arg6 harg6 arg7 harg7 arg8 harg8 arg9 harg9
        x0 x1 x2 x3 (ix3 0 r l) =
      column (fun r x => Q r (l.val / 128 * 128 + x.val)) K V (chunk0 i * 256) r ⟨l.val % 128, by omega⟩ *
        x3 (ix3 0 r l) := by
  have hc : chunk0 i < 33 := by unfold chunk0; split <;> omega
  have hq' : ∀ (j : ℕ) (hj : j < 4) (off : Fin 3 → ℕ) (inb : ∀ a, off a + S1x256x128.size a ≤ S1x256x512.size a)
      (h0 : off 0 = 0) (h1 : off 1 = 0) (h2 : off 2 = j * 128) (r : Fin 256) (x : Fin 128),
      arg2.view.readAt (Elt Ideal) (Rect.unit (s := S1x256x512) off S1x256x128.size inb).toLoadRect (harg2.unread x0)
        (ix3 0 r x) = (Q r.val (j * 128 + x.val) : EReal) := fun j hj off inb h0 h1 h2 r x => by
    rw [read_cols arg2 harg2 x0 off inb (j * 128) h0 h1 h2 r x (by omega), hq]
  unfold out0_A_4
  rw [View.read_writes_junk_apply_eq_canon]
  refine View.canon_eq_of_allAt _ _ _ (cover0_A_4 ..) ?_
  unfold kernelRun0_A
  dsimp only
  refine View.allAt_cons_unit _ _ _ _ _ ?_ (View.allAt_cons_unit _ _ _ _ _ ?_ (View.allAt_cons_unit _ _ _ _ _ ?_
    (View.allAt_cons_unit _ _ _ _ _ ?_ (View.allAt_nil _ _))))
  · refine tile Q K V _ x3 r l _ 3 (by norm_num) rfl rfl _ fun r d => ?_
    delta kernelRun0_A.sl.v183 kernelRun0_A.sl.v184
    rw [← read_cols arg5 harg5 x3 _ inb_S1x256x512_S1x256x128_0_0_384 (3 * 128) rfl rfl rfl r d (by omega)]
    refine Trips.column (N := Scf.trips _ _ _) r d (trips_t7 ..) ?_ (trips1 i) hc ?_ ?_ ?_ ?_ ?_ ?_ hk hv
    · rfl
    · exact (no_trips (trips2 i) rfl).1
    · exact (no_trips (trips2 i) rfl).2
    · exact View.readAt_writes_full ..
    · exact View.readAt_writes_full ..
    · exact View.readAt_writes_full ..
    · exact pay63_at _ _ (hq' 3 (by norm_num) _ _ rfl rfl rfl)
  · refine tile Q K V _ x3 r l _ 2 (by norm_num) rfl rfl _ fun r d => ?_
    delta kernelRun0_A.sl.v139 kernelRun0_A.sl.v140
    rw [← read_cols arg5 harg5 x3 _ inb_S1x256x512_S1x256x128_0_0_256 (2 * 128) rfl rfl rfl r d (by omega)]
    refine Trips.column (N := Scf.trips _ _ _) r d (trips_t5 ..) ?_ (trips1 i) hc ?_ ?_ ?_ ?_ ?_ ?_ hk hv
    · rfl
    · exact (no_trips (trips2 i) rfl).1
    · exact (no_trips (trips2 i) rfl).2
    · exact View.readAt_writes_full ..
    · exact View.readAt_writes_full ..
    · exact View.readAt_writes_full ..
    · exact pay63_at _ _ (hq' 2 (by norm_num) _ _ rfl rfl rfl)
  · refine tile Q K V _ x3 r l _ 1 (by norm_num) rfl rfl _ fun r d => ?_
    delta kernelRun0_A.sl.r_2 kernelRun0_A.sl.v95 kernelRun0_A.sl.v96
    rw [← read_cols arg5 harg5 x3 _ inb_S1x256x512_S1x256x128_0_0_128 (1 * 128) rfl rfl rfl r d (by omega)]
    refine Trips.column (N := Scf.trips _ _ _) r d (trips_t3 ..) ?_ (trips1 i) hc ?_ ?_ ?_ ?_ ?_ ?_ hk hv
    · rfl
    · exact (no_trips (trips2 i) rfl).1
    · exact (no_trips (trips2 i) rfl).2
    · exact View.readAt_writes_full ..
    · exact View.readAt_writes_full ..
    · exact View.readAt_writes_full ..
    · exact pay63_at _ _ (hq' 1 (by norm_num) _ _ rfl rfl rfl)
  · refine tile Q K V _ x3 r l _ 0 (by norm_num) rfl rfl _ fun r d => ?_
    delta kernelRun0_A.sl.r kernelRun0_A.sl.v51 kernelRun0_A.sl.v52
    rw [← read_cols arg5 harg5 x3 _ inb_S1x256x512_S1x256x128_0_0_0 (0 * 128) rfl rfl rfl r d (by omega)]
    refine Trips.column (N := Scf.trips _ _ _) r d (trips_t1 ..) ?_ (trips1 i) hc ?_ ?_ ?_ ?_ ?_ ?_ hk hv
    · rfl
    · exact (no_trips (trips2 i) rfl).1
    · exact (no_trips (trips2 i) rfl).2
    · exact View.readAt_writes_full ..
    · exact View.readAt_writes_full ..
    · exact View.readAt_writes_full ..
    · exact pay63_at _ _ (hq' 0 (by norm_num) _ _ rfl rfl rfl)

end Cert.KernelIdeal.Value
end
-- ==== Proof.Array.lean ====
module
public import proofs.«01_k».proof.Proof.Block
@[expose] public section
set_option maxRecDepth 16384
noncomputable section
/-! The attention's whole array after the run, index by index. -/
namespace Cert.KernelIdeal.Value
open Cert.KernelIdeal Cert.KernelIdeal.Gen Idealize.ShloMosaic Idealize.ShloMosaic.TcCoe Idealize.SL.Sem
open Cert.Online

/-- The score of a query's 128 lanes against a key's, over the lanes of one of the two interleaved heads. -/
def headScore (q k : Fin 128 → ℝ) (h : ℕ) : ℝ := ∑ x : Fin 128, if x.val % 64 / 32 = h then q x * k x else 0

/-- The score of a row of the stacked queries is its head's. -/
theorem score_lo (Q K : ℕ → Fin 128 → ℝ) (r : Fin 256) (k : ℕ) :
    score (stack Q) K ⟨r.val, by omega⟩ k = headScore (Q r.val) (K k) 0 := by
  refine Finset.sum_congr rfl fun x _ => ?_
  by_cases hx : x.val % 64 < 32
  · simp [stack, hx]
  · simp [stack, hx, show ¬ x.val % 64 / 32 = 0 by omega]

theorem score_hi (Q K : ℕ → Fin 128 → ℝ) (r : Fin 256) (k : ℕ) :
    score (stack Q) K ⟨256 + r.val, by omega⟩ k = headScore (Q r.val) (K k) 1 := by
  refine Finset.sum_congr rfl fun x _ => ?_
  have hr : ¬ 256 + r.val < 256 := by omega
  by_cases hx : x.val % 64 < 32
  · simp [stack, hx, show ¬ x.val % 64 / 32 = 1 by omega]
  · simp [stack, hx, show x.val % 64 / 32 = 1 by omega]

/-- A column's entry is the attention of the head its lane belongs to. -/
theorem column_eq (Q K : ℕ → Fin 128 → ℝ) (V : Fin 128 → ℕ → EReal) (lo : ℕ) (r : Fin 256) (d : Fin 128) :
    column Q K V lo r d = attn (fun k => headScore (Q r.val) (K k) (d.val / 64)) V lo 8448 d := by
  unfold column
  by_cases hd : d.val < 64
  · rw [if_pos hd, show d.val / 64 = 0 by omega]
    exact congrArg (fun s => attn s V lo 8448 d) (funext fun k => score_lo Q K r k)
  · rw [if_neg hd, show d.val / 64 = 1 by omega]
    exact congrArg (fun s => attn s V lo 8448 d) (funext fun k => score_hi Q K r k)

/-- The grid's points run through the blocks of a batch, batch after batch. -/
theorem coords_eq : ∀ t : Fin cfg0.N, (grid0.coords t 0).val = t.val / 33 ∧ (grid0.coords t 1).val = t.val % 33 :=
  (by decide +kernel : ∀ t : Fin grid0.N, _)

/-- The blocks each point works on. -/
theorem index0 : ∀ t : Fin cfg0.N, win0_0.index t (0 : Fin 3) = t.val / 33 ∧ win0_0.index t (1 : Fin 3) = t.val % 33 ∧
    win0_0.index t (2 : Fin 3) = 0 := (by decide +kernel : ∀ t : Fin grid0.N, _)
theorem index1 : ∀ t : Fin cfg0.N, win0_1.index t (0 : Fin 3) = t.val / 33 ∧ win0_1.index t (1 : Fin 3) = 0 ∧
    win0_1.index t (2 : Fin 3) = 0 := (by decide +kernel : ∀ t : Fin grid0.N, _)
theorem index2 : ∀ t : Fin cfg0.N, win0_2.index t (0 : Fin 3) = t.val / 33 ∧ win0_2.index t (1 : Fin 3) = 0 ∧
    win0_2.index t (2 : Fin 3) = 0 := (by decide +kernel : ∀ t : Fin grid0.N, _)
theorem index3 : ∀ t : Fin cfg0.N, win0_3.index t (0 : Fin 3) = t.val / 33 ∧ win0_3.index t (1 : Fin 3) = t.val % 33 ∧
    win0_3.index t (2 : Fin 3) = 0 := (by decide +kernel : ∀ t : Fin grid0.N, _)
theorem index4 : ∀ t : Fin cfg0.N, win0_4.index t (0 : Fin 3) = t.val / 33 ∧ win0_4.index t (1 : Fin 3) = t.val % 33 ∧
    win0_4.index t (2 : Fin 3) = 0 := (by decide +kernel : ∀ t : Fin grid0.N, _)

variable (m : (ℓ : Loc nD τ sig) → Buf (Elt Ideal) ℓ)

/-- Where the blocks of queries, keys, values, gates and results lie in their arrays. -/
theorem iblk0_at (c : Dev nD) (t : Fin cfg0.N) (b : Fin 4) (T : Fin 8448) (ht : t.val = b.val * 33 + T.val / 256)
    (r : Fin 256) (hr : r.val = T.val % 256) (l : Fin 512) :
    (iblk m c 0 t : Vec Ideal S1x256x512 .bf16) (ix3 0 r l) = V m c main_arg0 (ix3 b T l) := by
  obtain ⟨e0, e1, e2⟩ := index0 t
  show V m c main_arg0 (((cfg0.win 0).blk t).view.emb (ix3 0 r l)) = _
  congr 1
  funext a
  apply Fin.ext
  fin_cases a
  · show win0_0.index t (0 : Fin 3) * 1 + 1 * 0 = b.val; omega
  · show win0_0.index t (1 : Fin 3) * 256 + 1 * r.val = T.val; omega
  · show win0_0.index t (2 : Fin 3) * 512 + 1 * l.val = l.val; omega

theorem iblk1_at (c : Dev nD) (t : Fin cfg0.N) (b : Fin 4) (hb : t.val / 33 = b.val) (k : Fin 8448) (x : Fin 128) :
    (iblk m c 1 t : Vec Ideal S1x8448x128 .bf16) (ix3 0 k x) = V m c main_arg1 (ix3 b k x) := by
  obtain ⟨e0, e1, e2⟩ := index1 t
  show V m c main_arg1 (((cfg0.win 1).blk t).view.emb (ix3 0 k x)) = _
  congr 1
  funext a
  apply Fin.ext
  fin_cases a
  · show win0_1.index t (0 : Fin 3) * 1 + 1 * 0 = b.val; omega
  · show win0_1.index t (1 : Fin 3) * 8448 + 1 * k.val = k.val; omega
  · show win0_1.index t (2 : Fin 3) * 128 + 1 * x.val = x.val; omega

theorem iblk2_at (c : Dev nD) (t : Fin cfg0.N) (b : Fin 4) (hb : t.val / 33 = b.val) (k : Fin 8448) (x : Fin 128) :
    (iblk m c 2 t : Vec Ideal S1x8448x128 .bf16) (ix3 0 k x) = V m c main_arg2 (ix3 b k x) := by
  obtain ⟨e0, e1, e2⟩ := index2 t
  show V m c main_arg2 (((cfg0.win 2).blk t).view.emb (ix3 0 k x)) = _
  congr 1
  funext a
  apply Fin.ext
  fin_cases a
  · show win0_2.index t (0 : Fin 3) * 1 + 1 * 0 = b.val; omega
  · show win0_2.index t (1 : Fin 3) * 8448 + 1 * k.val = k.val; omega
  · show win0_2.index t (2 : Fin 3) * 128 + 1 * x.val = x.val; omega

theorem iblk3_at (c : Dev nD) (t : Fin cfg0.N) (b : Fin 4) (T : Fin 8448) (ht : t.val = b.val * 33 + T.val / 256)
    (r : Fin 256) (hr : r.val = T.val % 256) (l : Fin 512) :
    (iblk m c 3 t : Vec Ideal S1x256x512 .bf16) (ix3 0 r l) = V m c main_arg3 (ix3 b T l) := by
  obtain ⟨e0, e1, e2⟩ := index3 t
  show V m c main_arg3 (((cfg0.win 3).blk t).view.emb (ix3 0 r l)) = _
  congr 1
  funext a
  apply Fin.ext
  fin_cases a
  · show win0_3.index t (0 : Fin 3) * 1 + 1 * 0 = b.val; omega
  · show win0_3.index t (1 : Fin 3) * 256 + 1 * r.val = T.val; omega
  · show win0_3.index t (2 : Fin 3) * 512 + 1 * l.val = l.val; omega

/-- The first key a query attends to: the first of all for a latent one, the first of the context for the context's. -/
def firstKey (T : ℕ) : ℕ := if T < 8192 then 0 else 8192

/-- The whole array after the run, from real queries and keys. -/
theorem final_at (c : Dev nD) (Q : Fin 4 → ℕ → ℕ → ℝ) (K : Fin 4 → ℕ → Fin 128 → ℝ) (W : Fin 4 → Fin 128 → ℕ → EReal)
    (hq : ∀ b (t : Fin 8448) (l : Fin 512), m ((c : Thread nD τ).loc main_arg0) (ix3 b t l) = (Q b t.val l.val : EReal))
    (hk : ∀ b (t : Fin 8448) x, m ((c : Thread nD τ).loc main_arg1) (ix3 b t x) = (K b t.val x : EReal))
    (hv : ∀ b (t : Fin 8448) x, m ((c : Thread nD τ).loc main_arg2) (ix3 b t x) = W b x t.val)
    (b : Fin 4) (T : Fin 8448) (l : Fin 512) :
    (dats m 0 c).arrAt 4 cfg0.N (ix3 b T l) =
      attn (fun k => headScore (fun x => Q b T.val (l.val / 128 * 128 + x.val)) (K b k) (l.val % 128 / 64)) (W b)
        (firstKey T.val) 8448 ⟨l.val % 128, by omega⟩ * m ((c : Thread nD τ).loc main_arg3) (ix3 b T l) := by
  have hN : cfg0.N = 132 := N_0
  let t : Fin cfg0.N := ⟨b.val * 33 + T.val / 256, by omega⟩
  have ht : t.val = b.val * 33 + T.val / 256 := rfl
  obtain ⟨c0, c1⟩ := coords_eq t
  obtain ⟨e0, e1, e2⟩ := index4 t
  have hblk := congrFun (blocks4 m c t (flush0_4 t)) (ix3 0 ⟨T.val % 256, by omega⟩ l)
  have hemb : ((cfg0.win 4).blk t).view.emb (ix3 0 ⟨T.val % 256, by omega⟩ l) = ix3 b T l := by
    funext a
    apply Fin.ext
    fin_cases a
    · show win0_4.index t (0 : Fin 3) * 1 + 1 * 0 = b.val; omega
    · show win0_4.index t (1 : Fin 3) * 256 + 1 * (T.val % 256) = T.val; omega
    · show win0_4.index t (2 : Fin 3) * 512 + 1 * l.val = l.val; omega
  rw [flushed4_A] at hblk
  have h1 : (dats m 0 c).arrAt 4 cfg0.N (((cfg0.win 4).blk t).view.emb (ix3 0 ⟨T.val % 256, by omega⟩ l)) = _ := hblk
  rw [hemb] at h1
  rw [h1]
  refine (out_at c (grid0.coords t) _ _ _ _ _ _ _ _ _ _ _ _ _ _ _ _ (iblk m c 0 t) (iblk m c 1 t) (iblk m c 2 t)
    (iblk m c 3 t) (fun r l => Q b (T.val / 256 * 256 + r) l) (K b) (W b) ?_ ?_ ?_ ⟨T.val % 256, by omega⟩ l).trans ?_
  · intro r l
    rw [iblk0_at m c t b ⟨T.val / 256 * 256 + r.val, by omega⟩ (by show _ = b.val * 33 + (T.val / 256 * 256 + r.val) / 256; omega) r
      (by show _ = (T.val / 256 * 256 + r.val) % 256; omega),
      V_main_arg0]
    exact hq b ⟨T.val / 256 * 256 + r.val, by omega⟩ l
  · intro k x hb
    rw [iblk1_at m c t b (by omega), V_main_arg1]
    exact hk b ⟨k, hb⟩ x
  · intro k x hb
    rw [iblk2_at m c t b (by omega), V_main_arg2]
    exact hv b ⟨k, hb⟩ x
  · have hf : chunk0 (grid0.coords t) * 256 = firstKey T.val := by
      unfold chunk0 firstKey
      rw [c1]
      by_cases hT : T.val < 8192
      · rw [if_pos hT, if_pos (by omega)]
      · rw [if_neg hT, if_neg (by omega)]
    rw [column_eq, hf, iblk3_at m c t b T rfl _ rfl, V_main_arg3]
    have e : T.val / 256 * 256 + T.val % 256 = T.val := by omega
    simp only [e]

end Cert.KernelIdeal.Value
end
-- ==== Proof.Ref.lean ====
module
public import proofs.«01_k».proof.Proof.Gen.ReferenceIdeal.Run
public import proofs.«01_k».proof.Proof.Online
public import Idealize.ShloMosaic.Lib.Pointwise
@[expose] public section
set_option maxRecDepth 16384
noncomputable section
/-! What the reference computes, one array after the other, each at an index. -/
namespace Cert.ReferenceIdeal.Value
open Cert.ReferenceIdeal Cert.ReferenceIdeal.Gen Idealize.ShloMosaic Idealize.ShloMosaic.TcCoe
open Cert.Online

/-- The query heads. -/
def qHeads (A : Vec Ideal S4x8448x512 .bf16) : FVec Ideal S4x8448x2x4x64 .f32 :=
  shapeCast _ (transpose S4x8448x2x4x2x32 [0, 1, 4, 2, 3, 5]
    (shapeCast S4x8448x4x2x2x32 (extf .f32 A bitsLt_bf16_f32) shapeCasts_S4x8448x512_S4x8448x4x2x2x32)
    transposes_S4x8448x4x2x2x32_S4x8448x2x4x2x32_0_1_4_2_3_5) shapeCasts_S4x8448x2x4x2x32_S4x8448x2x4x64

/-- The key heads. -/
def kHeads (A : Vec Ideal S4x8448x128 .bf16) : FVec Ideal S4x8448x2x64 .f32 :=
  shapeCast _ (transpose S4x8448x2x2x32 [0, 1, 3, 2, 4]
    (shapeCast S4x8448x2x2x32 (extf .f32 A bitsLt_bf16_f32) shapeCasts_S4x8448x128_S4x8448x2x2x32)
    transposes_S4x8448x2x2x32_S4x8448x2x2x32_0_1_3_2_4) shapeCasts_S4x8448x2x2x32_S4x8448x2x64

/-- The value heads. -/
def vHeads (A : Vec Ideal S4x8448x128 .bf16) : FVec Ideal S4x8448x2x64 .f32 :=
  shapeCast _ (extf .f32 A bitsLt_bf16_f32) shapeCasts_S4x8448x128_S4x8448x2x64

/-- The scores of the latent queries, and of the context's queries against the context's keys. -/
def latScores (q : FVec Ideal S4x8448x2x4x64 .f32) (k : FVec Ideal S4x8448x2x64 .f32) :
    FVec Ideal S4x2x4x8192x8448 .f32 :=
  transpose S4x2x4x8192x8448 [0, 1, 4, 3, 2] (Host.dotGeneral
    dot_S4x8448x2x64_S4x8192x2x4x64_S4x2x8448x8192x4_3_4_1_13_02_02 none k
    (extractStridedSlice S4x8192x2x4x64 ![0, 0, 0, 0, 0] q slices_S4x8448x2x4x64_S4x8192x2x4x64_0_0_0_0_0))
    transposes_S4x2x8448x8192x4_S4x2x4x8192x8448_0_1_4_3_2

def ctxScores (q : FVec Ideal S4x8448x2x4x64 .f32) (k : FVec Ideal S4x8448x2x64 .f32) :
    FVec Ideal S4x2x4x256x256 .f32 :=
  transpose S4x2x4x256x256 [0, 1, 4, 3, 2] (Host.dotGeneral
    dot_S4x256x2x64_S4x256x2x4x64_S4x2x256x256x4_3_4_1_13_02_02 none
    (extractStridedSlice S4x256x2x64 ![0, 8192, 0, 0] k slices_S4x8448x2x64_S4x256x2x64_0_8192_0_0)
    (extractStridedSlice S4x256x2x4x64 ![0, 8192, 0, 0, 0] q slices_S4x8448x2x4x64_S4x256x2x4x64_0_8192_0_0_0))
    transposes_S4x2x256x256x4_S4x2x4x256x256_0_1_4_3_2

/-- The rows' largest scores. -/
def latMax (s : FVec Ideal S4x2x4x8192x8448 .f32) : FVec Ideal S4x2x4x8192 .f32 :=
  Host.reduce FloatOps.maximumf s (constant S_ .f32 0xFF800000#32) reducesTo_S4x2x4x8192x8448_S4x2x4x8192_d4 h_S_

def ctxMax (s : FVec Ideal S4x2x4x256x256 .f32) : FVec Ideal S4x2x4x256 .f32 :=
  Host.reduce FloatOps.maximumf s (constant S_ .f32 0xFF800000#32) reducesTo_S4x2x4x256x256_S4x2x4x256_d4 h_S_

/-- The exponentials of the scores, shifted by their row's largest. -/
def latExp (s : FVec Ideal S4x2x4x8192x8448 .f32) (x : FVec Ideal S4x2x4x8192 .f32) : FVec Ideal S4x2x4x8192x8448 .f32 :=
  Host.exp (subf s (broadcastInDim S4x2x4x8192x8448 ![0, 1, 2, 3, 4] bcast_S4x2x4x8192x1_S4x2x4x8192x8448_0_1_2_3_4
    (broadcastInDim S4x2x4x8192x1 ![0, 1, 2, 3] bcast_S4x2x4x8192_S4x2x4x8192x1_0_1_2_3
      (maximumf (broadcastInDim S4x2x4x8192 ![] bcast_S_S4x2x4x8192 (constant S_ .f32 0xFF800000#32)) x))))

def ctxExp (s : FVec Ideal S4x2x4x256x256 .f32) (x : FVec Ideal S4x2x4x256 .f32) : FVec Ideal S4x2x4x256x256 .f32 :=
  Host.exp (subf s (broadcastInDim S4x2x4x256x256 ![0, 1, 2, 3, 4] bcast_S4x2x4x256x1_S4x2x4x256x256_0_1_2_3_4
    (broadcastInDim S4x2x4x256x1 ![0, 1, 2, 3] bcast_S4x2x4x256_S4x2x4x256x1_0_1_2_3
      (maximumf (broadcastInDim S4x2x4x256 ![] bcast_S_S4x2x4x256 (constant S_ .f32 0xFF800000#32)) x))))

/-- The softmax weights. -/
def latSoft (e : FVec Ideal S4x2x4x8192x8448 .f32) : FVec Ideal S4x2x4x8192x8448 .f32 :=
  Host.divf e (broadcastInDim S4x2x4x8192x8448 ![0, 1, 2, 3, 4] bcast_S4x2x4x8192x1_S4x2x4x8192x8448_0_1_2_3_4
    (broadcastInDim S4x2x4x8192x1 ![0, 1, 2, 3] bcast_S4x2x4x8192_S4x2x4x8192x1_0_1_2_3
      (Host.reduceAdd e (constant S_ .f32 0x00000000#32) reducesTo_S4x2x4x8192x8448_S4x2x4x8192_d4 h_S_)))

def ctxSoft (e : FVec Ideal S4x2x4x256x256 .f32) : FVec Ideal S4x2x4x256x256 .f32 :=
  Host.divf e (broadcastInDim S4x2x4x256x256 ![0, 1, 2, 3, 4] bcast_S4x2x4x256x1_S4x2x4x256x256_0_1_2_3_4
    (broadcastInDim S4x2x4x256x1 ![0, 1, 2, 3] bcast_S4x2x4x256_S4x2x4x256x1_0_1_2_3
      (Host.reduceAdd e (constant S_ .f32 0x00000000#32) reducesTo_S4x2x4x256x256_S4x2x4x256_d4 h_S_)))

/-- The weighted values. -/
def latOut (v : FVec Ideal S4x8448x2x64 .f32) (p : FVec Ideal S4x2x4x8192x8448 .f32) : FVec Ideal S4x8192x2x4x64 .f32 :=
  transpose S4x8192x2x4x64 [0, 4, 1, 3, 2] (Host.dotGeneral
    dot_S4x8448x2x64_S4x2x4x8192x8448_S4x2x64x4x8192_1_4_3_23_02_01 none v p)
    transposes_S4x2x64x4x8192_S4x8192x2x4x64_0_4_1_3_2

def ctxOut (v : FVec Ideal S4x8448x2x64 .f32) (p : FVec Ideal S4x2x4x256x256 .f32) : FVec Ideal S4x256x2x4x64 .f32 :=
  transpose S4x256x2x4x64 [0, 4, 1, 3, 2] (Host.dotGeneral
    dot_S4x256x2x64_S4x2x4x256x256_S4x2x64x4x256_1_4_3_23_02_01 none
    (extractStridedSlice S4x256x2x64 ![0, 8192, 0, 0] v slices_S4x8448x2x64_S4x256x2x64_0_8192_0_0) p)
    transposes_S4x2x64x4x256_S4x256x2x4x64_0_4_1_3_2

/-- The two parts side by side. -/
def joined (a : FVec Ideal S4x8192x2x4x64 .f32) (b : FVec Ideal S4x256x2x4x64 .f32) : FVec Ideal S4x8448x2x4x64 .f32 :=
  concatenate S4x8448x2x4x64 1 [⟨S4x8192x2x4x64, a⟩, ⟨S4x256x2x4x64, b⟩]
    concatenates_S4x8192x2x4x64_S4x256x2x4x64_S4x8448x2x4x64_d1

/-- The heads' columns in order. -/
def columns (o : FVec Ideal S4x8448x2x4x64 .f32) : FVec Ideal S4x8448x512 .f32 :=
  shapeCast _ (transpose S4x8448x4x2x64 [0, 1, 3, 2, 4] o transposes_S4x8448x2x4x64_S4x8448x4x2x64_0_1_3_2_4)
    shapeCasts_S4x8448x4x2x64_S4x8448x512

/-- The gated result. -/
def gated (o : FVec Ideal S4x8448x512 .f32) (g : Vec Ideal S4x8448x512 .bf16) : FVec Ideal S4x8448x512 .bf16 :=
  truncf .bf16 (mulf o (extf .f32 g bitsLt_bf16_f32)) bitsLt_bf16_f32

/-- The latent queries' attention and the context's. -/
def lat (q : FVec Ideal S4x8448x2x4x64 .f32) (k v : FVec Ideal S4x8448x2x64 .f32) : FVec Ideal S4x8192x2x4x64 .f32 :=
  latOut v (latSoft (latExp (latScores q k) (latMax (latScores q k))))

def ctx (q : FVec Ideal S4x8448x2x4x64 .f32) (k v : FVec Ideal S4x8448x2x64 .f32) : FVec Ideal S4x256x2x4x64 .f32 :=
  ctxOut v (ctxSoft (ctxExp (ctxScores q k) (ctxMax (ctxScores q k))))

/-- The reference's result in these terms. -/
theorem res_eq (m : (ℓ : Loc nD τ sig) → Buf (Elt Ideal) ℓ) (c : Dev nD) :
    res_main_v49 m c =
      gated (columns (joined
        (lat (qHeads (m ((c.tc : Thread nD τ).loc main_arg0))) (kHeads (m ((c.tc : Thread nD τ).loc main_arg1)))
          (vHeads (m ((c.tc : Thread nD τ).loc main_arg2))))
        (ctx (qHeads (m ((c.tc : Thread nD τ).loc main_arg0))) (kHeads (m ((c.tc : Thread nD τ).loc main_arg1)))
          (vHeads (m ((c.tc : Thread nD τ).loc main_arg2))))))
        (m ((c.tc : Thread nD τ).loc main_arg3)) := rfl

/-- Each of these arrays at an index. -/
theorem qHeads_at (A b t h g d) : qHeads A (ix5 b t h g d) =
    A (ix3 b t ⟨g.val * 128 + d.val / 32 * 64 + h.val * 32 + d.val % 32, by omega⟩) := by
  pointwise [qHeads]

theorem kHeads_at (A b t h d) : kHeads A (ix4 b t h d) =
    A (ix3 b t ⟨d.val / 32 * 64 + h.val * 32 + d.val % 32, by omega⟩) := by
  pointwise [kHeads]

theorem vHeads_at (A b t h d) : vHeads A (ix4 b t h d) = A (ix3 b t ⟨h.val * 64 + d.val, by omega⟩) := by
  pointwise [vHeads]

theorem latScores_at (q k b h g t j) : latScores q k (ix5 b h g t j) =
    ∑ x, k (ix4 b j h x) * q (ix5 b ⟨t.val, by omega⟩ h g x) := by
  pointwise [latScores]

theorem ctxScores_at (q k b h g t j) : ctxScores q k (ix5 b h g t j) =
    ∑ x, k (ix4 b ⟨8192 + j.val, by omega⟩ h x) * q (ix5 b ⟨8192 + t.val, by omega⟩ h g x) := by
  pointwise [ctxScores]

theorem latMax_at (s b h g t) : latMax s (ix4 b h g t) = Finset.univ.fold max ⊥ (fun x => s (ix5 b h g t x)) := by
  pointwise [latMax]
  rw [negInf]

theorem ctxMax_at (s b h g t) : ctxMax s (ix4 b h g t) = Finset.univ.fold max ⊥ (fun x => s (ix5 b h g t x)) := by
  pointwise [ctxMax]
  rw [negInf]

theorem latExp_at (s x b h g t j) : latExp s x (ix5 b h g t j) = Ideal.exp (s (ix5 b h g t j) - x (ix4 b h g t)) := by
  pointwise [latExp]
  rw [negInf, max_eq_right bot_le]

theorem ctxExp_at (s x b h g t j) : ctxExp s x (ix5 b h g t j) = Ideal.exp (s (ix5 b h g t j) - x (ix4 b h g t)) := by
  pointwise [ctxExp]
  rw [negInf, max_eq_right bot_le]

theorem latSoft_at (e b h g t j) : latSoft e (ix5 b h g t j) =
    Ideal.div (e (ix5 b h g t j)) (∑ x, e (ix5 b h g t x)) := by
  pointwise [latSoft]

theorem ctxSoft_at (e b h g t j) : ctxSoft e (ix5 b h g t j) =
    Ideal.div (e (ix5 b h g t j)) (∑ x, e (ix5 b h g t x)) := by
  pointwise [ctxSoft]

theorem latOut_at (v p b t h g d) : latOut v p (ix5 b t h g d) = ∑ j, v (ix4 b j h d) * p (ix5 b h g t j) := by
  pointwise [latOut]

theorem ctxOut_at (v p b t h g d) : ctxOut v p (ix5 b t h g d) =
    ∑ j : Fin 256, v (ix4 b ⟨8192 + j.val, by omega⟩ h d) * p (ix5 b h g t j) := by
  pointwise [ctxOut]

theorem joined_at (a c b t h g d) : joined a c (ix5 b t h g d) =
    if h' : t.val < 8192 then a (ix5 b ⟨t.val, h'⟩ h g d) else c (ix5 b ⟨t.val - 8192, by omega⟩ h g d) := by
  pointwise [joined]

theorem columns_at (o b t l) : columns o (ix3 b t l) =
    o (ix5 b t ⟨l.val / 64 % 2, by omega⟩ ⟨l.val / 128, by omega⟩ ⟨l.val % 64, by omega⟩) := by
  pointwise [columns]

theorem gated_at (o g b t l) : gated o g (ix3 b t l) = o (ix3 b t l) * g (ix3 b t l) := by
  pointwise [gated]

/-- The softmax of a row of real scores. -/
theorem row_soft {n : ℕ} (hn : 0 < n) (s : Fin n → ℝ) (j : Fin n) :
    Ideal.div (Ideal.exp ((s j : EReal) - Finset.univ.fold max ⊥ (fun x => (s x : EReal))))
      (∑ y, Ideal.exp ((s y : EReal) - Finset.univ.fold max ⊥ (fun x => (s x : EReal)))) =
      ((soft Finset.univ s j : ℝ) : EReal) := by
  have hne : (Finset.univ : Finset (Fin n)).Nonempty := ⟨⟨0, hn⟩, Finset.mem_univ _⟩
  obtain ⟨μ, hμ⟩ := fold_max_real Finset.univ hne s
  rw [hμ]
  exact soft_div Finset.univ hne s μ j

variable {q : FVec Ideal S4x8448x2x4x64 .f32} {k : FVec Ideal S4x8448x2x64 .f32} (v : FVec Ideal S4x8448x2x64 .f32)
  {Q : Fin 4 → Fin 8448 → Fin 2 → Fin 4 → Fin 64 → ℝ} {K : Fin 4 → Fin 8448 → Fin 2 → Fin 64 → ℝ}

/-- The latent queries' attention over real queries and keys. -/
theorem lat_at (hq : ∀ b t h g x, q (ix5 b t h g x) = (Q b t h g x : EReal))
    (hk : ∀ b t h x, k (ix4 b t h x) = (K b t h x : EReal)) (b t h g d) :
    lat q k v (ix5 b t h g d) = ∑ j : Fin 8448, v (ix4 b j h d) *
      ((soft Finset.univ (fun j => ∑ x, K b j h x * Q b ⟨t.val, by omega⟩ h g x) j : ℝ) : EReal) := by
  rw [lat, latOut_at]
  refine Finset.sum_congr rfl fun j _ => ?_
  have hs : ∀ j, latScores q k (ix5 b h g t j) = ((∑ x, K b j h x * Q b ⟨t.val, by omega⟩ h g x : ℝ) : EReal) := by
    intro j
    rw [latScores_at, coe_sum]
    exact Finset.sum_congr rfl fun x _ => by rw [hq, hk, EReal.coe_mul]
  rw [latSoft_at]
  simp only [latExp_at, latMax_at, hs]
  rw [row_soft (by norm_num) (fun j => ∑ x, K b j h x * Q b ⟨t.val, by omega⟩ h g x) j]

/-- The context's attention over its own keys. -/
theorem ctx_at (hq : ∀ b t h g x, q (ix5 b t h g x) = (Q b t h g x : EReal))
    (hk : ∀ b t h x, k (ix4 b t h x) = (K b t h x : EReal)) (b t h g d) :
    ctx q k v (ix5 b t h g d) = ∑ j : Fin 256, v (ix4 b ⟨8192 + j.val, by omega⟩ h d) *
      ((soft Finset.univ (fun j : Fin 256 => ∑ x, K b ⟨8192 + j.val, by omega⟩ h x *
        Q b ⟨8192 + t.val, by omega⟩ h g x) j : ℝ) : EReal) := by
  rw [ctx, ctxOut_at]
  refine Finset.sum_congr rfl fun j _ => ?_
  have hs : ∀ j : Fin 256, ctxScores q k (ix5 b h g t j) =
      ((∑ x, K b ⟨8192 + j.val, by omega⟩ h x * Q b ⟨8192 + t.val, by omega⟩ h g x : ℝ) : EReal) := by
    intro j
    rw [ctxScores_at, coe_sum]
    exact Finset.sum_congr rfl fun x _ => by rw [hq, hk, EReal.coe_mul]
  rw [ctxSoft_at]
  simp only [ctxExp_at, ctxMax_at, hs]
  rw [row_soft (by norm_num) (fun j : Fin 256 => ∑ x, K b ⟨8192 + j.val, by omega⟩ h x *
    Q b ⟨8192 + t.val, by omega⟩ h g x) j]

end Cert.ReferenceIdeal.Value
end
-- ==== Proof.Tie.lean ====
module
public import proofs.«01_k».proof.Proof.Array
public import proofs.«01_k».proof.Proof.Ref
@[expose] public section
set_option maxRecDepth 16384
noncomputable section
/-! The kernel's attention and the reference's, entry by entry. -/
namespace Cert.Proof.Attn
open Idealize.ShloMosaic Idealize.ShloMosaic.TcCoe
open Cert.Online Cert.KernelIdeal.Value

/-- The lanes of one of the two interleaved heads, in the head's own order. -/
theorem headScore_eq (q k : Fin 128 → ℝ) (h : Fin 2) :
    headScore q k h.val = ∑ x : Fin 64, k ⟨x.val / 32 * 64 + h.val * 32 + x.val % 32, by omega⟩ *
      q ⟨x.val / 32 * 64 + h.val * 32 + x.val % 32, by omega⟩ := by
  unfold headScore
  rw [← Finset.sum_filter]
  refine Finset.sum_bij' (fun x _ => (⟨x.val / 64 * 32 + x.val % 32, by omega⟩ : Fin 64))
    (fun x _ => (⟨x.val / 32 * 64 + h.val * 32 + x.val % 32, by omega⟩ : Fin 128)) ?_ ?_ ?_ ?_ ?_
  · intro x _
    exact Finset.mem_univ _
  · intro x _
    rw [Finset.mem_filter]
    exact ⟨Finset.mem_univ _, by show (x.val / 32 * 64 + h.val * 32 + x.val % 32) % 64 / 32 = h.val; omega⟩
  · intro x hx
    have := (Finset.mem_filter.mp hx).2
    exact Fin.ext (by
      show (x.val / 64 * 32 + x.val % 32) / 32 * 64 + h.val * 32 + (x.val / 64 * 32 + x.val % 32) % 32 = x.val
      omega)
  · intro x _
    exact Fin.ext (by
      show (x.val / 32 * 64 + h.val * 32 + x.val % 32) / 64 * 32 + (x.val / 32 * 64 + h.val * 32 + x.val % 32) % 32 = x.val
      omega)
  · intro x hx
    have := (Finset.mem_filter.mp hx).2
    have e : (⟨(x.val / 64 * 32 + x.val % 32) / 32 * 64 + h.val * 32 + (x.val / 64 * 32 + x.val % 32) % 32, by omega⟩ :
        Fin 128) = x := Fin.ext (by
      show (x.val / 64 * 32 + x.val % 32) / 32 * 64 + h.val * 32 + (x.val / 64 * 32 + x.val % 32) % 32 = x.val
      omega)
    show q x * k x = k _ * q _
    rw [e, mul_comm]

/-- A sum over the keys from `lo` on, counted from zero. -/
theorem sum_keys {M : Type*} [AddCommMonoid M] (lo hi n : ℕ) (h : lo + n = hi) (f : ℕ → M) :
    ∑ k ∈ Finset.Ico lo hi, f k = ∑ j : Fin n, f (lo + j.val) := by
  subst h
  rw [Finset.sum_Ico_eq_sum_range, Nat.add_sub_cancel_left, Finset.sum_range]

/-- Attention over the keys from `lo` on, counted from zero. -/
theorem attn_eq (s : ℕ → ℝ) (V : Fin 128 → ℕ → EReal) (lo hi n : ℕ) (h : lo + n = hi) (d : Fin 128) :
    attn s V lo hi d = ∑ j : Fin n, V d (lo + j.val) * ((soft Finset.univ (fun j : Fin n => s (lo + j.val)) j : ℝ) : EReal) := by
  unfold attn
  rw [sum_keys lo hi n h]
  refine Finset.sum_congr rfl fun j _ => ?_
  rw [mul_comm]
  congr 2
  unfold soft
  rw [sum_keys lo hi n h]

/-- The kernel's entry is the reference's. -/
theorem tie (A0 : Vec Ideal Cert.ReferenceIdeal.S4x8448x512 .bf16) (A1 A2 : Vec Ideal Cert.ReferenceIdeal.S4x8448x128 .bf16)
    (A3 : Vec Ideal Cert.ReferenceIdeal.S4x8448x512 .bf16) (Q : Fin 4 → ℕ → ℕ → ℝ) (K : Fin 4 → ℕ → Fin 128 → ℝ)
    (W : Fin 4 → Fin 128 → ℕ → EReal)
    (hq : ∀ b (t : Fin 8448) (l : Fin 512), A0 (ix3 b t l) = (Q b t.val l.val : EReal))
    (hk : ∀ b (t : Fin 8448) x, A1 (ix3 b t x) = (K b t.val x : EReal))
    (hv : ∀ b (t : Fin 8448) x, A2 (ix3 b t x) = W b x t.val) (b : Fin 4) (T : Fin 8448) (l : Fin 512) :
    ReferenceIdeal.Value.gated (ReferenceIdeal.Value.columns (ReferenceIdeal.Value.joined
        (ReferenceIdeal.Value.lat (ReferenceIdeal.Value.qHeads A0) (ReferenceIdeal.Value.kHeads A1)
          (ReferenceIdeal.Value.vHeads A2))
        (ReferenceIdeal.Value.ctx (ReferenceIdeal.Value.qHeads A0) (ReferenceIdeal.Value.kHeads A1)
          (ReferenceIdeal.Value.vHeads A2)))) A3 (ix3 b T l) =
      attn (fun k => headScore (fun x => Q b T.val (l.val / 128 * 128 + x.val)) (K b k) (l.val % 128 / 64)) (W b)
        (firstKey T.val) 8448 ⟨l.val % 128, by omega⟩ * A3 (ix3 b T l) := by
  rw [ReferenceIdeal.Value.gated_at, ReferenceIdeal.Value.columns_at, ReferenceIdeal.Value.joined_at]
  congr 1
  have hqh : ∀ b (t : Fin 8448) (h : Fin 2) (g : Fin 4) (x : Fin 64), ReferenceIdeal.Value.qHeads A0 (ix5 b t h g x) =
      (Q b t.val (g.val * 128 + x.val / 32 * 64 + h.val * 32 + x.val % 32) : EReal) := by
    intro b t h g x
    rw [ReferenceIdeal.Value.qHeads_at, hq]
  have hkh : ∀ b (t : Fin 8448) (h : Fin 2) (x : Fin 64), ReferenceIdeal.Value.kHeads A1 (ix4 b t h x) =
      (K b t.val ⟨x.val / 32 * 64 + h.val * 32 + x.val % 32, by omega⟩ : EReal) := by
    intro b t h x
    rw [ReferenceIdeal.Value.kHeads_at, hk]
  have hl : l.val % 128 / 64 = l.val / 64 % 2 := by omega
  have hsc : ∀ k, headScore (fun x => Q b T.val (l.val / 128 * 128 + x.val)) (K b k) (l.val / 64 % 2) =
      ∑ x : Fin 64, K b k ⟨x.val / 32 * 64 + l.val / 64 % 2 * 32 + x.val % 32, by omega⟩ *
        Q b T.val (l.val / 128 * 128 + x.val / 32 * 64 + l.val / 64 % 2 * 32 + x.val % 32) := by
    intro k
    refine (headScore_eq _ _ ⟨l.val / 64 % 2, by omega⟩).trans (Finset.sum_congr rfl fun x _ => ?_)
    show K b k _ * Q b T.val (l.val / 128 * 128 + (x.val / 32 * 64 + l.val / 64 % 2 * 32 + x.val % 32)) = _
    simp only [Nat.add_assoc]
  have hvh : ∀ j : Fin 8448, ReferenceIdeal.Value.vHeads A2
      (ix4 b j ⟨l.val / 64 % 2, by omega⟩ ⟨l.val % 64, by omega⟩) = W b ⟨l.val % 128, by omega⟩ j.val := by
    intro j
    rw [ReferenceIdeal.Value.vHeads_at, hv]
    exact congrArg (fun x => W b x j.val) (Fin.ext (by show l.val / 64 % 2 * 64 + l.val % 64 = l.val % 128; omega))
  by_cases hT : T.val < 8192
  · rw [dif_pos hT, ReferenceIdeal.Value.lat_at _ hqh hkh, firstKey, if_pos hT, attn_eq _ _ 0 8448 8448 rfl]
    refine Finset.sum_congr rfl fun j _ => ?_
    rw [hvh]
    simp only [hl, hsc, Nat.zero_add]
  · rw [dif_neg hT, ReferenceIdeal.Value.ctx_at _ hqh hkh, firstKey, if_neg hT, attn_eq _ _ 8192 8448 256 rfl]
    refine Finset.sum_congr rfl fun j _ => ?_
    have eT : 8192 + (T.val - 8192) = T.val := by omega
    rw [hvh]
    simp only [hl, hsc, eT]

end Cert.Proof.Attn
end
-- ==== Proof.InReal.lean ====
module
public import proofs.«01_k».proof.Proof.InSpec
public import proofs.«01_k».proof.Proof.Online
public import proofs.«01_k».proof.Proof.Tie
@[expose] public section
noncomputable section
/-! The input projection's numbers when its arguments are numbers. -/
namespace Cert.InProj
open Idealize.ShloMosaic Cert.Online

theorem bits_eps : ∃ e : ℝ, 0 < e ∧ Ideal.ofBits FTy.f32 897988541#32 = (e : EReal) := by
  refine ⟨8796093 * (2 ^ 43)⁻¹, by positivity, ?_⟩
  rw [EReal.coe_mul]
  simp [Ideal.ofBits, Ideal.ieee]
theorem bits_1024 : Ideal.ofBits FTy.f32 1149239296#32 = ((1024 : ℝ) : EReal) := by
  simp [Ideal.ofBits, Ideal.ieee]
  rw [← EReal.coe_mul]
  norm_num
theorem bits_64 : Ideal.ofBits FTy.f32 1115684864#32 = ((64 : ℝ) : EReal) := by
  simp [Ideal.ofBits, Ideal.ieee]
  rw [← EReal.coe_mul]
  norm_num
theorem bits_64th : Ideal.ofBits FTy.f32 1015021568#32 = ((1 / 64 : ℝ) : EReal) := by
  simp [Ideal.ofBits, Ideal.ieee]
  rw [← EReal.coe_mul]
  norm_num

/-- A number divided by a number that is not zero. -/
theorem div_real (a c : ℝ) (hc : c ≠ 0) : Ideal.div (a : EReal) (c : EReal) = ((a * c⁻¹ : ℝ) : EReal) := by
  unfold Ideal.div
  rw [if_neg (by exact_mod_cast hc), EReal.coe_mul, EReal.coe_inv]

/-- The inverse square root of a positive number. -/
theorem rsqrt_real (a : ℝ) (ha : 0 < a) : Ideal.rsqrt (a : EReal) = (((Real.sqrt a)⁻¹ : ℝ) : EReal) := by
  show (if a < 0 then (⊥ : EReal) else if a = 0 then ⊤ else (((Real.sqrt a)⁻¹ : ℝ) : EReal)) = _
  rw [if_neg (not_lt.mpr ha.le), if_neg ha.ne']

/-- The row of a token of numbers is of numbers. -/
theorem hrow_real (x g : Fin 1024 → ℝ) (md : Fin 3072 → ℝ) (k : Fin 1024) :
    ∃ r : ℝ, hrow (fun j => (x j : EReal)) (fun j => (g j : EReal)) (fun j => (md j : EReal)) k = (r : EReal) := by
  obtain ⟨e, he, hE⟩ := bits_eps
  have hs : (∑ j, (x j : EReal) * (x j : EReal)) = ((∑ j, x j * x j : ℝ) : EReal) := by
    rw [coe_sum]
    exact Finset.sum_congr rfl (fun j _ => (EReal.coe_mul _ _).symm)
  have hn : 0 ≤ ∑ j, x j * x j := Finset.sum_nonneg (fun j _ => mul_self_nonneg _)
  refine ⟨x k * (Real.sqrt ((∑ j, x j * x j) * (1024 : ℝ)⁻¹ + e))⁻¹ * g k * (1 + md ⟨1024 + k.val, by omega⟩) +
    md ⟨k.val, by omega⟩, ?_⟩
  unfold hrow
  rw [hs, bits_1024, hE, div_real _ _ (by norm_num), ← EReal.coe_add, rsqrt_real _ (by positivity)]
  push_cast
  rfl

/-- The product of numbers with numbers. -/
theorem prod_real (h : Fin 1024 → EReal) (hh : ∀ k, ∃ r : ℝ, h k = (r : EReal)) (w : Fin 1024 → Fin 8448 → EReal)
    (hw : ∀ k j, ∃ r : ℝ, w k j = (r : EReal)) (j : Fin 8448) : ∃ r : ℝ, prod h w j = (r : EReal) := by
  choose a ha using hh
  choose b hb using hw
  refine ⟨∑ k, a k * b k j, ?_⟩
  unfold prod
  rw [coe_sum]
  exact Finset.sum_congr rfl (fun k _ => by rw [ha, hb, EReal.coe_mul])

/-- The lane of one dimension of one of the two interleaved heads. -/
def col (h : Fin 2) (d : Fin 64) : Fin 128 := ⟨d.val / 32 * 64 + h.val * 32 + d.val % 32, by omega⟩

/-- The sum of the squares of a head's lanes, over the head's dimensions. -/
theorem head_sum (t : Fin 128 → ℝ) (h : Fin 2) :
    (∑ x : Fin 128, if x.val % 64 / 32 = h.val then t x * t x else 0) = ∑ y, t (col h y) * t (col h y) :=
  Cert.Proof.Attn.headScore_eq t t h

theorem sqFirst_real (t : Fin 128 → ℝ) : sqFirst (fun l => (t l : EReal)) =
    ((∑ y, t (col 0 y) * t (col 0 y) : ℝ) : EReal) := by
  rw [← head_sum, coe_sum]
  unfold sqFirst
  refine Finset.sum_congr rfl (fun x _ => ?_)
  by_cases h : x.val % 64 < 32
  · rw [if_pos h, if_pos (by show x.val % 64 / 32 = 0; omega), EReal.coe_mul]
  · rw [if_neg h, if_neg (by show ¬ x.val % 64 / 32 = 0; omega)]
    rfl

theorem sqHead_real (t : Fin 128 → ℝ) (h : Fin 2) (d : Fin 64) : sqHead (fun l => (t l : EReal)) (col h d) =
    ((∑ y, t (col h y) * t (col h y) : ℝ) : EReal) := by
  have hsum : (∑ x, t x * t x) - (∑ y, t (col 0 y) * t (col 0 y)) = ∑ y, t (col 1 y) * t (col 1 y) := by
    rw [← head_sum, ← head_sum, ← Finset.sum_sub_distrib]
    refine Finset.sum_congr rfl (fun x _ => ?_)
    by_cases hx : x.val % 64 / 32 = 0
    · rw [if_pos (by exact hx), if_neg (by show ¬ x.val % 64 / 32 = 1; omega), sub_self]
    · rw [if_neg (by exact hx), if_pos (by show x.val % 64 / 32 = 1; omega), sub_zero]
  unfold sqHead
  rw [sqFirst_real]
  have hs : (∑ x, (t x : EReal) * (t x : EReal)) = ((∑ x, t x * t x : ℝ) : EReal) := by
    rw [coe_sum]
    exact Finset.sum_congr rfl (fun j _ => (EReal.coe_mul _ _).symm)
  by_cases h0 : (col h d).val % 64 < 32
  · rw [if_pos h0]
    have : h = 0 := Fin.ext (by
      have : (d.val / 32 * 64 + h.val * 32 + d.val % 32) % 64 < 32 := h0
      show h.val = 0; omega)
    rw [this]
  · rw [if_neg h0, hs, ← EReal.coe_sub, hsum]
    have : h = 1 := Fin.ext (by
      have : ¬ (d.val / 32 * 64 + h.val * 32 + d.val % 32) % 64 < 32 := h0
      show h.val = 1; omega)
    rw [this]

/-- A head's dimension normalised by the mean square over the head's dimensions. -/
def headNorm (t g : Fin 128 → EReal) (h : Fin 2) (d : Fin 64) : EReal :=
  t (col h d) * Ideal.rsqrt (Ideal.div (∑ y, t (col h y) * t (col h y)) (Ideal.ofBits FTy.f32 1115684864#32) +
    Ideal.ofBits FTy.f32 897988541#32) * g (col h d)

theorem normed_eq (t g : Fin 128 → EReal) (ht : ∀ l, ∃ r : ℝ, t l = (r : EReal)) (h : Fin 2) (d : Fin 64) :
    normed t g (col h d) = headNorm t g h d := by
  choose u hu using ht
  obtain rfl : t = fun l => (u l : EReal) := funext hu
  have hs : (∑ y, (u (col h y) : EReal) * (u (col h y) : EReal)) = ((∑ y, u (col h y) * u (col h y) : ℝ) : EReal) := by
    rw [coe_sum]
    exact Finset.sum_congr rfl (fun j _ => (EReal.coe_mul _ _).symm)
  unfold normed headNorm
  rw [sqHead_real, hs, bits_64, bits_64th, div_real _ _ (by norm_num), ← EReal.coe_mul, one_div]

/-- The lane of the other half. -/
theorem other_low (h : Fin 2) (d : Fin 64) (hd : d.val < 32) : other (col h d) = col h ⟨32 + d.val, by omega⟩ := by
  apply Fin.ext
  show (d.val / 32 * 64 + h.val * 32 + d.val % 32 + 128 - 64) % 128 = (32 + d.val) / 32 * 64 + h.val * 32 + (32 + d.val) % 32
  omega
theorem other_high (h : Fin 2) (d : Fin 64) (hd : ¬ d.val < 32) : other (col h d) = col h ⟨d.val - 32, by omega⟩ := by
  apply Fin.ext
  show (d.val / 32 * 64 + h.val * 32 + d.val % 32 + 128 - 64) % 128 = (d.val - 32) / 32 * 64 + h.val * 32 + (d.val - 32) % 32
  omega

/-- The two ways to turn a head's dimension. -/
theorem rope_eq (t g c s : Fin 128 → EReal) (ht : ∀ l, ∃ r : ℝ, t l = (r : EReal)) (h : Fin 2) (d : Fin 64) :
    rope t g c s (col h d) = if hd : d.val < 32 then
      headNorm t g h d * c (col h d) + headNorm t g h ⟨32 + d.val, by omega⟩ * s (col h d)
    else headNorm t g h d * c (col h d) + headNorm t g h ⟨d.val - 32, by omega⟩ * s (col h d) := by
  unfold rope
  by_cases hd : d.val < 32
  · rw [dif_pos hd, other_low h d hd, normed_eq t g ht, normed_eq t g ht]
  · rw [dif_neg hd, other_high h d hd, normed_eq t g ht, normed_eq t g ht]

/-- One more than an exponential is not zero. -/
theorem one_add_exp (z : EReal) : 1 + Ideal.exp z ≠ 0 := by
  have : 0 ≤ Ideal.exp z := by
    induction z using EReal.rec with
    | bot => exact le_refl _
    | top => exact le_top
    | coe r => exact EReal.coe_nonneg.mpr (Real.exp_pos r).le
  have h1 : (0 : EReal) < 1 + Ideal.exp z := lt_of_lt_of_le (by norm_num) (le_add_of_nonneg_right this)
  exact h1.ne'

theorem silu_eq (z : EReal) : z * Ideal.div 1 (1 + Ideal.exp (-z)) = silu z := by
  unfold silu Ideal.div
  rw [zero_sub, if_neg (one_add_exp _), if_neg (one_add_exp _), one_mul]

theorem sigm_eq (z : EReal) : Ideal.div 1 (1 + Ideal.exp (-z)) = sigm z := by
  unfold sigm
  rw [zero_sub]

end Cert.InProj
end
-- ==== Proof.InRef.lean ====
module
public import proofs.«01_k».proof.Proof.Gen.Reference2Ideal.Run
public import proofs.«01_k».proof.Proof.InSpec
@[expose] public section
set_option maxRecDepth 16384
noncomputable section
/-! What the input projection's reference computes, one array after the other, each at an index. -/
namespace Cert.Reference2Ideal.Value
open Cert.Reference2Ideal Cert.Reference2Ideal.Gen Idealize.ShloMosaic Idealize.ShloMosaic.TcCoe
open Cert.InProj

/-- The latent tokens normalised, and modulated by their batch's row. -/
def latNorm (x : FVec Ideal S4x8192x1024 .f32) (g : FVec Ideal S1x1024 .f32) : FVec Ideal S4x8192x1024 .f32 :=
  mulf (mulf x (broadcastInDim S4x8192x1024 ![0, 1, 2] bcast_S4x8192x1_S4x8192x1024_0_1_2 (Host.rsqrt (addf (Host.divf
    (broadcastInDim S4x8192x1 ![0, 1] bcast_S4x8192_S4x8192x1_0_1 (Host.reduceAdd (mulf x x) (constant S_ .f32 0x00000000#32)
      reducesTo_S4x8192x1024_S4x8192_d2 h_S_)) (broadcastInDim S4x8192x1 ![] bcast_S_S4x8192x1 (constant S_ .f32 0x44800000#32)))
    (broadcastInDim S4x8192x1 ![] bcast_S_S4x8192x1 (constant S_ .f32 0x358637BD#32))))))
    (broadcastInDim S4x8192x1024 ![0, 1, 2] bcast_S1x1x1024_S4x8192x1024_0_1_2
      (broadcastInDim S1x1x1024 ![2] bcast_S1024_S1x1x1024_2 (shapeCast _ g shapeCasts_S1x1024_S1024)))

def latMod (y : FVec Ideal S4x8192x1024 .f32) (md : FVec Ideal S4x1x3072 .f32) : FVec Ideal S4x8192x1024 .f32 :=
  addf (mulf y (broadcastInDim S4x8192x1024 ![0, 1, 2] bcast_S4x1x1024_S4x8192x1024_0_1_2
    (addf (broadcastInDim S4x1x1024 ![] bcast_S_S4x1x1024 (constant S_ .f32 0x3F800000#32))
      (extractStridedSlice S4x1x1024 ![0, 0, 1024] md slices_S4x1x3072_S4x1x1024_0_0_1024))))
    (broadcastInDim S4x8192x1024 ![0, 1, 2] bcast_S4x1x1024_S4x8192x1024_0_1_2
      (extractStridedSlice S4x1x1024 ![0, 0, 0] md slices_S4x1x3072_S4x1x1024_0_0_0))

/-- The context's tokens normalised, and modulated by the fifth row. -/
def ctxNorm (x : FVec Ideal S4x256x1024 .f32) (g : FVec Ideal S1x1024 .f32) : FVec Ideal S4x256x1024 .f32 :=
  mulf (mulf x (broadcastInDim S4x256x1024 ![0, 1, 2] bcast_S4x256x1_S4x256x1024_0_1_2 (Host.rsqrt (addf (Host.divf
    (broadcastInDim S4x256x1 ![0, 1] bcast_S4x256_S4x256x1_0_1 (Host.reduceAdd (mulf x x) (constant S_ .f32 0x00000000#32)
      reducesTo_S4x256x1024_S4x256_d2 h_S_)) (broadcastInDim S4x256x1 ![] bcast_S_S4x256x1 (constant S_ .f32 0x44800000#32)))
    (broadcastInDim S4x256x1 ![] bcast_S_S4x256x1 (constant S_ .f32 0x358637BD#32))))))
    (broadcastInDim S4x256x1024 ![0, 1, 2] bcast_S1x1x1024_S4x256x1024_0_1_2
      (broadcastInDim S1x1x1024 ![2] bcast_S1024_S1x1x1024_2 (shapeCast _ g shapeCasts_S1x1024_S1024)))

def ctxMod (y : FVec Ideal S4x256x1024 .f32) (md : FVec Ideal S1x3072 .f32) : FVec Ideal S4x256x1024 .f32 :=
  addf (mulf y (broadcastInDim S4x256x1024 ![0, 1, 2] bcast_S1x1x1024_S4x256x1024_0_1_2
    (broadcastInDim S1x1x1024 ![1, 2] bcast_S1x1024_S1x1x1024_1_2
      (addf (broadcastInDim S1x1024 ![] bcast_S_S1x1024 (constant S_ .f32 0x3F800000#32))
        (extractStridedSlice S1x1024 ![0, 1024] md slices_S1x3072_S1x1024_0_1024)))))
    (broadcastInDim S4x256x1024 ![0, 1, 2] bcast_S1x1x1024_S4x256x1024_0_1_2
      (broadcastInDim S1x1x1024 ![1, 2] bcast_S1x1024_S1x1x1024_1_2
        (extractStridedSlice S1x1024 ![0, 0] md slices_S1x3072_S1x1024_0_0)))

/-- The two parts of the tokens and of the modulation. -/
def latTok (A : FVec Ideal S4x8448x1024 .f32) : FVec Ideal S4x8192x1024 .f32 :=
  extractStridedSlice S4x8192x1024 ![0, 0, 0] A slices_S4x8448x1024_S4x8192x1024_0_0_0
def ctxTok (A : FVec Ideal S4x8448x1024 .f32) : FVec Ideal S4x256x1024 .f32 :=
  extractStridedSlice S4x256x1024 ![0, 8192, 0] A slices_S4x8448x1024_S4x256x1024_0_8192_0
def latRow (A : FVec Ideal S8x1x3072 .f32) : FVec Ideal S4x1x3072 .f32 :=
  extractStridedSlice S4x1x3072 ![0, 0, 0] A slices_S8x1x3072_S4x1x3072_0_0_0
def ctxRow (A : FVec Ideal S8x1x3072 .f32) : FVec Ideal S1x3072 .f32 :=
  shapeCast _ (extractStridedSlice S1x1x3072 ![4, 0, 0] A slices_S8x1x3072_S1x1x3072_4_0_0) shapeCasts_S1x1x3072_S1x3072

/-- The tokens' product with the weights. -/
def joined (x : FVec Ideal S4x8192x1024 .f32) (y : FVec Ideal S4x256x1024 .f32) : FVec Ideal S4x8448x1024 .f32 :=
  concatenate S4x8448x1024 1 [⟨S4x8192x1024, x⟩, ⟨S4x256x1024, y⟩] concatenates_S4x8192x1024_S4x256x1024_S4x8448x1024_d1
def product (h : FVec Ideal S4x8448x1024 .f32) (w : FVec Ideal S1024x8448 .bf16) : FVec Ideal S4x8448x8448 .f32 :=
  Host.dotGeneral dot_S4x8448x1024_S1024x8448_S4x8448x8448_2_0_01_1_n_n none h (extf .f32 w bitsLt_bf16_f32)

/-- The whole product from the arguments. -/
def full (A0 : FVec Ideal S4x8448x1024 .f32) (A1 : FVec Ideal S8x1x3072 .f32) (A2 : FVec Ideal S1x1024 .f32)
    (A3 : FVec Ideal S1024x8448 .bf16) : FVec Ideal S4x8448x8448 .f32 :=
  product (joined (latMod (latNorm (latTok A0) A2) (latRow A1)) (ctxMod (ctxNorm (ctxTok A0) A2) (ctxRow A1))) A3

theorem full_eq (V0 : Valuation τ sig (Elt Ideal)) : res_main_v55 V0 =
    full (V0 (Proc.devRef .tc main_arg0)) (V0 (Proc.devRef .tc main_arg1)) (V0 (Proc.devRef .tc main_arg2))
      (V0 (Proc.devRef .tc main_arg3)) := rfl

theorem latNorm_at (x g b t k) : latNorm x g (ix3 b t k) =
    x (ix3 b t k) * Ideal.rsqrt (Ideal.div (∑ j, x (ix3 b t j) * x (ix3 b t j)) (Ideal.ofBits FTy.f32 1149239296#32) +
      Ideal.ofBits FTy.f32 897988541#32) * g (ix2 0 k) := by
  pointwise [latNorm]

theorem latMod_at (y md b t k) : latMod y md (ix3 b t k) =
    y (ix3 b t k) * (1 + md (ix3 b 0 ⟨1024 + k.val, by omega⟩)) + md (ix3 b 0 ⟨k.val, by omega⟩) := by
  pointwise [latMod]

theorem ctxNorm_at (x g b t k) : ctxNorm x g (ix3 b t k) =
    x (ix3 b t k) * Ideal.rsqrt (Ideal.div (∑ j, x (ix3 b t j) * x (ix3 b t j)) (Ideal.ofBits FTy.f32 1149239296#32) +
      Ideal.ofBits FTy.f32 897988541#32) * g (ix2 0 k) := by
  pointwise [ctxNorm]

theorem ctxMod_at (y md b t k) : ctxMod y md (ix3 b t k) =
    y (ix3 b t k) * (1 + md (ix2 0 ⟨1024 + k.val, by omega⟩)) + md (ix2 0 ⟨k.val, by omega⟩) := by
  pointwise [ctxMod]

theorem latTok_at (A b t k) : latTok A (ix3 b t k) = A (ix3 b ⟨t.val, by omega⟩ k) := by
  pointwise [latTok]
theorem ctxTok_at (A b t k) : ctxTok A (ix3 b t k) = A (ix3 b ⟨8192 + t.val, by omega⟩ k) := by
  pointwise [ctxTok]
theorem latRow_at (A) (b : Fin 4) (k) : latRow A (ix3 b 0 k) = A (ix3 ⟨b.val, by omega⟩ 0 k) := by
  pointwise [latRow]
theorem ctxRow_at (A k) : ctxRow A (ix2 0 k) = A (ix3 4 0 k) := by
  pointwise [ctxRow]

theorem joined_at (x y b t k) : joined x y (ix3 b t k) =
    if h : t.val < 8192 then x (ix3 b ⟨t.val, h⟩ k) else y (ix3 b ⟨t.val - 8192, by omega⟩ k) := by
  pointwise [joined]

theorem product_at (h w b t j) : product h w (ix3 b t j) = ∑ k, h (ix3 b t k) * w (ix2 k j) := by
  pointwise [product]

/-- The gains of the two heads. -/
def gain (g : FVec Ideal S1x128 .f32) : FVec Ideal S2x64 .f32 :=
  shapeCast _ (transpose S1x2x2x32 [0, 2, 1, 3] (shapeCast _ g shapeCasts_S1x128_S1x2x2x32)
    transposes_S1x2x2x32_S1x2x2x32_0_2_1_3) shapeCasts_S1x2x2x32_S2x64

theorem gain_at (g) (h : Fin 2) (d : Fin 64) : gain g (ix2 h d) =
    g (ix2 0 ⟨d.val / 32 * 64 + h.val * 32 + d.val % 32, by omega⟩) := by
  pointwise [gain]

/-! The heads of the queries: the two interleaved heads of a group taken apart, normalised, turned, and put back. -/

/-- Every token's lanes, the two heads of a group apart. -/
def gqHeads (p : FVec Ideal S4x8448x512 .f32) : FVec Ideal S4x8448x4x2x64 .f32 :=
  shapeCast _ (transpose S4x8448x4x2x2x32 [0, 1, 2, 4, 3, 5] (shapeCast _ p shapeCasts_S4x8448x512_S4x8448x4x2x2x32)
    transposes_S4x8448x4x2x2x32_S4x8448x4x2x2x32_0_1_2_4_3_5) shapeCasts_S4x8448x4x2x2x32_S4x8448x4x2x64

/-- Every head normalised. -/
def gqNorm (x : FVec Ideal S4x8448x4x2x64 .f32) (g : FVec Ideal S2x64 .f32) : FVec Ideal S4x8448x4x2x64 .f32 :=
  mulf (mulf x (broadcastInDim S4x8448x4x2x64 ![0, 1, 2, 3, 4] bcast_S4x8448x4x2x1_S4x8448x4x2x64_0_1_2_3_4 (Host.rsqrt (addf (Host.divf
    (broadcastInDim S4x8448x4x2x1 ![0, 1, 2, 3] bcast_S4x8448x4x2_S4x8448x4x2x1_0_1_2_3 (Host.reduceAdd (mulf x x)
      (constant S_ .f32 0x00000000#32) reducesTo_S4x8448x4x2x64_S4x8448x4x2_d4 h_S_))
    (broadcastInDim S4x8448x4x2x1 ![] bcast_S_S4x8448x4x2x1 (constant S_ .f32 0x42800000#32)))
    (broadcastInDim S4x8448x4x2x1 ![] bcast_S_S4x8448x4x2x1 (constant S_ .f32 0x358637BD#32))))))
    (broadcastInDim S4x8448x4x2x64 ![0, 1, 2, 3, 4] bcast_S1x1x1x2x64_S4x8448x4x2x64_0_1_2_3_4
      (broadcastInDim S1x1x1x2x64 ![3, 4] bcast_S2x64_S1x1x1x2x64_3_4 g))

/-- One part of a table, as wide as the heads' halves. -/
def gqTab0 (c : FVec Ideal S8448x1x2x2x32 .f32) : FVec Ideal S4x8448x4x2x32 .f32 :=
  broadcastInDim S4x8448x4x2x32 ![0, 1, 2, 3, 4] bcast_S1x8448x1x2x32_S4x8448x4x2x32_0_1_2_3_4
    (broadcastInDim S1x8448x1x2x32 ![1, 2, 3, 4] bcast_S8448x1x2x32_S1x8448x1x2x32_1_2_3_4
      (shapeCast _ (extractStridedSlice S8448x1x2x1x32 ![0, 0, 0, 0, 0] c slices_S8448x1x2x2x32_S8448x1x2x1x32_0_0_0_0_0)
        shapeCasts_S8448x1x2x1x32_S8448x1x2x32))
def gqTab1 (c : FVec Ideal S8448x1x2x2x32 .f32) : FVec Ideal S4x8448x4x2x32 .f32 :=
  broadcastInDim S4x8448x4x2x32 ![0, 1, 2, 3, 4] bcast_S1x8448x1x2x32_S4x8448x4x2x32_0_1_2_3_4
    (broadcastInDim S1x8448x1x2x32 ![1, 2, 3, 4] bcast_S8448x1x2x32_S1x8448x1x2x32_1_2_3_4
      (shapeCast _ (extractStridedSlice S8448x1x2x1x32 ![0, 0, 0, 1, 0] c slices_S8448x1x2x2x32_S8448x1x2x1x32_0_0_0_1_0)
        shapeCasts_S8448x1x2x1x32_S8448x1x2x32))

/-- The two halves of every head. -/
def gqLow (x : FVec Ideal S4x8448x4x2x64 .f32) : FVec Ideal S4x8448x4x2x32 .f32 :=
  extractStridedSlice S4x8448x4x2x32 ![0, 0, 0, 0, 0] x slices_S4x8448x4x2x64_S4x8448x4x2x32_0_0_0_0_0
def gqHigh (x : FVec Ideal S4x8448x4x2x64 .f32) : FVec Ideal S4x8448x4x2x32 .f32 :=
  extractStridedSlice S4x8448x4x2x32 ![0, 0, 0, 0, 32] x slices_S4x8448x4x2x64_S4x8448x4x2x32_0_0_0_0_32

/-- The turned halves beside each other. -/
def gqTurn (x y c0 s0 c1 s1 : FVec Ideal S4x8448x4x2x32 .f32) : FVec Ideal S4x8448x4x2x64 .f32 :=
  concatenate S4x8448x4x2x64 4 [⟨S4x8448x4x2x32, addf (mulf x c0) (mulf y s0)⟩, ⟨S4x8448x4x2x32, addf (mulf y c1) (mulf x s1)⟩]
    concatenates_S4x8448x4x2x32_S4x8448x4x2x32_S4x8448x4x2x64_d4

/-- The heads back in the lanes they came from. -/
def gqCols (x : FVec Ideal S4x8448x4x2x64 .f32) : FVec Ideal S4x8448x512 .f32 :=
  shapeCast _ (transpose S4x8448x4x2x2x32 [0, 1, 2, 4, 3, 5] (shapeCast _ x shapeCasts_S4x8448x4x2x64_S4x8448x4x2x2x32)
    transposes_S4x8448x4x2x2x32_S4x8448x4x2x2x32_0_1_2_4_3_5) shapeCasts_S4x8448x4x2x2x32_S4x8448x512

theorem gqHeads_at (p b t) (n : Fin 4) (h : Fin 2) (d : Fin 64) : gqHeads p (ix5 b t n h d) =
    p (ix3 b t ⟨n.val * 128 + d.val / 32 * 64 + h.val * 32 + d.val % 32, by omega⟩) := by
  pointwise [gqHeads]

theorem gqNorm_at (x g b t) (n : Fin 4) (h : Fin 2) (d : Fin 64) : gqNorm x g (ix5 b t n h d) =
    x (ix5 b t n h d) * Ideal.rsqrt (Ideal.div (∑ y, x (ix5 b t n h y) * x (ix5 b t n h y)) (Ideal.ofBits FTy.f32 1115684864#32) +
      Ideal.ofBits FTy.f32 897988541#32) * g (ix2 h d) := by
  pointwise [gqNorm]

theorem gqTab0_at (c b t) (n : Fin 4) (h : Fin 2) (d : Fin 32) : gqTab0 c (ix5 b t n h d) = c (ix5 t 0 h 0 d) := by
  pointwise [gqTab0]
theorem gqTab1_at (c b t) (n : Fin 4) (h : Fin 2) (d : Fin 32) : gqTab1 c (ix5 b t n h d) = c (ix5 t 0 h 1 d) := by
  pointwise [gqTab1]
theorem gqLow_at (x b t) (n : Fin 4) (h : Fin 2) (d : Fin 32) : gqLow x (ix5 b t n h d) =
    x (ix5 b t n h ⟨d.val, by omega⟩) := by
  pointwise [gqLow]
theorem gqHigh_at (x b t) (n : Fin 4) (h : Fin 2) (d : Fin 32) : gqHigh x (ix5 b t n h d) =
    x (ix5 b t n h ⟨32 + d.val, by omega⟩) := by
  pointwise [gqHigh]

theorem gqTurn_at (x y c0 s0 c1 s1 b t) (n : Fin 4) (h : Fin 2) (d : Fin 64) :
    gqTurn x y c0 s0 c1 s1 (ix5 b t n h d) =
    if e : d.val < 32 then x (ix5 b t n h ⟨d.val, e⟩) * c0 (ix5 b t n h ⟨d.val, e⟩) +
        y (ix5 b t n h ⟨d.val, e⟩) * s0 (ix5 b t n h ⟨d.val, e⟩)
      else y (ix5 b t n h ⟨d.val - 32, by omega⟩) * c1 (ix5 b t n h ⟨d.val - 32, by omega⟩) +
        x (ix5 b t n h ⟨d.val - 32, by omega⟩) * s1 (ix5 b t n h ⟨d.val - 32, by omega⟩) := by
  pointwise [gqTurn]

theorem gqCols_at (x b t) (l : Fin 512) : gqCols x (ix3 b t l) =
    x (ix5 b t ⟨l.val / 128, by omega⟩ ⟨l.val / 32 % 2, by omega⟩ ⟨l.val / 64 % 2 * 32 + l.val % 32, by omega⟩) := by
  pointwise [gqCols]

/-! The heads of the keys: the two interleaved heads of a group taken apart, normalised, turned, and put back. -/

/-- Every token's lanes, the two heads of a group apart. -/
def gkHeads (p : FVec Ideal S4x8448x128 .f32) : FVec Ideal S4x8448x1x2x64 .f32 :=
  shapeCast _ (transpose S4x8448x1x2x2x32 [0, 1, 2, 4, 3, 5] (shapeCast _ p shapeCasts_S4x8448x128_S4x8448x1x2x2x32)
    transposes_S4x8448x1x2x2x32_S4x8448x1x2x2x32_0_1_2_4_3_5) shapeCasts_S4x8448x1x2x2x32_S4x8448x1x2x64

/-- Every head normalised. -/
def gkNorm (x : FVec Ideal S4x8448x1x2x64 .f32) (g : FVec Ideal S2x64 .f32) : FVec Ideal S4x8448x1x2x64 .f32 :=
  mulf (mulf x (broadcastInDim S4x8448x1x2x64 ![0, 1, 2, 3, 4] bcast_S4x8448x1x2x1_S4x8448x1x2x64_0_1_2_3_4 (Host.rsqrt (addf (Host.divf
    (broadcastInDim S4x8448x1x2x1 ![0, 1, 2, 3] bcast_S4x8448x1x2_S4x8448x1x2x1_0_1_2_3 (Host.reduceAdd (mulf x x)
      (constant S_ .f32 0x00000000#32) reducesTo_S4x8448x1x2x64_S4x8448x1x2_d4 h_S_))
    (broadcastInDim S4x8448x1x2x1 ![] bcast_S_S4x8448x1x2x1 (constant S_ .f32 0x42800000#32)))
    (broadcastInDim S4x8448x1x2x1 ![] bcast_S_S4x8448x1x2x1 (constant S_ .f32 0x358637BD#32))))))
    (broadcastInDim S4x8448x1x2x64 ![0, 1, 2, 3, 4] bcast_S1x1x1x2x64_S4x8448x1x2x64_0_1_2_3_4
      (broadcastInDim S1x1x1x2x64 ![3, 4] bcast_S2x64_S1x1x1x2x64_3_4 g))

/-- One part of a table, as wide as the heads' halves. -/
def gkTab0 (c : FVec Ideal S8448x1x2x2x32 .f32) : FVec Ideal S4x8448x1x2x32 .f32 :=
  broadcastInDim S4x8448x1x2x32 ![0, 1, 2, 3, 4] bcast_S1x8448x1x2x32_S4x8448x1x2x32_0_1_2_3_4
    (broadcastInDim S1x8448x1x2x32 ![1, 2, 3, 4] bcast_S8448x1x2x32_S1x8448x1x2x32_1_2_3_4
      (shapeCast _ (extractStridedSlice S8448x1x2x1x32 ![0, 0, 0, 0, 0] c slices_S8448x1x2x2x32_S8448x1x2x1x32_0_0_0_0_0)
        shapeCasts_S8448x1x2x1x32_S8448x1x2x32))
def gkTab1 (c : FVec Ideal S8448x1x2x2x32 .f32) : FVec Ideal S4x8448x1x2x32 .f32 :=
  broadcastInDim S4x8448x1x2x32 ![0, 1, 2, 3, 4] bcast_S1x8448x1x2x32_S4x8448x1x2x32_0_1_2_3_4
    (broadcastInDim S1x8448x1x2x32 ![1, 2, 3, 4] bcast_S8448x1x2x32_S1x8448x1x2x32_1_2_3_4
      (shapeCast _ (extractStridedSlice S8448x1x2x1x32 ![0, 0, 0, 1, 0] c slices_S8448x1x2x2x32_S8448x1x2x1x32_0_0_0_1_0)
        shapeCasts_S8448x1x2x1x32_S8448x1x2x32))

/-- The two halves of every head. -/
def gkLow (x : FVec Ideal S4x8448x1x2x64 .f32) : FVec Ideal S4x8448x1x2x32 .f32 :=
  extractStridedSlice S4x8448x1x2x32 ![0, 0, 0, 0, 0] x slices_S4x8448x1x2x64_S4x8448x1x2x32_0_0_0_0_0
def gkHigh (x : FVec Ideal S4x8448x1x2x64 .f32) : FVec Ideal S4x8448x1x2x32 .f32 :=
  extractStridedSlice S4x8448x1x2x32 ![0, 0, 0, 0, 32] x slices_S4x8448x1x2x64_S4x8448x1x2x32_0_0_0_0_32

/-- The turned halves beside each other. -/
def gkTurn (x y c0 s0 c1 s1 : FVec Ideal S4x8448x1x2x32 .f32) : FVec Ideal S4x8448x1x2x64 .f32 :=
  concatenate S4x8448x1x2x64 4 [⟨S4x8448x1x2x32, addf (mulf x c0) (mulf y s0)⟩, ⟨S4x8448x1x2x32, addf (mulf y c1) (mulf x s1)⟩]
    concatenates_S4x8448x1x2x32_S4x8448x1x2x32_S4x8448x1x2x64_d4

/-- The heads back in the lanes they came from. -/
def gkCols (x : FVec Ideal S4x8448x1x2x64 .f32) : FVec Ideal S4x8448x128 .f32 :=
  shapeCast _ (transpose S4x8448x1x2x2x32 [0, 1, 2, 4, 3, 5] (shapeCast _ x shapeCasts_S4x8448x1x2x64_S4x8448x1x2x2x32)
    transposes_S4x8448x1x2x2x32_S4x8448x1x2x2x32_0_1_2_4_3_5) shapeCasts_S4x8448x1x2x2x32_S4x8448x128

theorem gkHeads_at (p b t) (h : Fin 2) (d : Fin 64) : gkHeads p (ix5 b t 0 h d) =
    p (ix3 b t ⟨d.val / 32 * 64 + h.val * 32 + d.val % 32, by omega⟩) := by
  pointwise [gkHeads]

theorem gkNorm_at (x g b t) (h : Fin 2) (d : Fin 64) : gkNorm x g (ix5 b t 0 h d) =
    x (ix5 b t 0 h d) * Ideal.rsqrt (Ideal.div (∑ y, x (ix5 b t 0 h y) * x (ix5 b t 0 h y)) (Ideal.ofBits FTy.f32 1115684864#32) +
      Ideal.ofBits FTy.f32 897988541#32) * g (ix2 h d) := by
  pointwise [gkNorm]

theorem gkTab0_at (c b t) (h : Fin 2) (d : Fin 32) : gkTab0 c (ix5 b t 0 h d) = c (ix5 t 0 h 0 d) := by
  pointwise [gkTab0]
theorem gkTab1_at (c b t) (h : Fin 2) (d : Fin 32) : gkTab1 c (ix5 b t 0 h d) = c (ix5 t 0 h 1 d) := by
  pointwise [gkTab1]
theorem gkLow_at (x b t) (h : Fin 2) (d : Fin 32) : gkLow x (ix5 b t 0 h d) =
    x (ix5 b t 0 h ⟨d.val, by omega⟩) := by
  pointwise [gkLow]
theorem gkHigh_at (x b t) (h : Fin 2) (d : Fin 32) : gkHigh x (ix5 b t 0 h d) =
    x (ix5 b t 0 h ⟨32 + d.val, by omega⟩) := by
  pointwise [gkHigh]

theorem gkTurn_at (x y c0 s0 c1 s1 b t) (h : Fin 2) (d : Fin 64) :
    gkTurn x y c0 s0 c1 s1 (ix5 b t 0 h d) =
    if e : d.val < 32 then x (ix5 b t 0 h ⟨d.val, e⟩) * c0 (ix5 b t 0 h ⟨d.val, e⟩) +
        y (ix5 b t 0 h ⟨d.val, e⟩) * s0 (ix5 b t 0 h ⟨d.val, e⟩)
      else y (ix5 b t 0 h ⟨d.val - 32, by omega⟩) * c1 (ix5 b t 0 h ⟨d.val - 32, by omega⟩) +
        x (ix5 b t 0 h ⟨d.val - 32, by omega⟩) * s1 (ix5 b t 0 h ⟨d.val - 32, by omega⟩) := by
  pointwise [gkTurn]

theorem gkCols_at (x b t) (l : Fin 128) : gkCols x (ix3 b t l) =
    x (ix5 b t 0 ⟨l.val / 32 % 2, by omega⟩ ⟨l.val / 64 * 32 + l.val % 32, by omega⟩) := by
  pointwise [gkCols]

/-- A table of the angles, apart by head and half. -/
def table (A : FVec Ideal S8448x128 .f32) : FVec Ideal S8448x1x2x2x32 .f32 :=
  broadcastInDim S8448x1x2x2x32 ![0, 2, 3, 4] bcast_S8448x2x2x32_S8448x1x2x2x32_0_2_3_4
    (transpose S8448x2x2x32 [0, 2, 1, 3] (shapeCast _ A shapeCasts_S8448x128_S8448x2x2x32)
      transposes_S8448x2x2x32_S8448x2x2x32_0_2_1_3)

theorem table_at (A t) (h e : Fin 2) (d : Fin 32) : table A (ix5 t 0 h e d) =
    A (ix2 t ⟨e.val * 64 + h.val * 32 + d.val, by omega⟩) := by
  pointwise [table]

/-! The arrays the reference returns, from the product's columns. -/

def wide (P : FVec Ideal S4x8448x8448 .f32) : FVec Ideal S4x8448x512 .f32 :=
  extractStridedSlice S4x8448x512 ![0, 0, 4096] P slices_S4x8448x8448_S4x8448x512_0_0_4096
def narrow (P : FVec Ideal S4x8448x8448 .f32) : FVec Ideal S4x8448x128 .f32 :=
  extractStridedSlice S4x8448x128 ![0, 0, 4608] P slices_S4x8448x8448_S4x8448x128_0_0_4608
theorem wide_at (P b t) (l : Fin 512) : wide P (ix3 b t l) = P (ix3 b t ⟨4096 + l.val, by omega⟩) := by
  pointwise [wide]
theorem narrow_at (P b t) (l : Fin 128) : narrow P (ix3 b t l) = P (ix3 b t ⟨4608 + l.val, by omega⟩) := by
  pointwise [narrow]

def one512 : FVec Ideal S4x8448x512 .f32 := broadcastInDim S4x8448x512 ![] bcast_S_S4x8448x512 (constant S_ .f32 0x3F800000#32)
def eighth512 : FVec Ideal S4x8448x512 .f32 := broadcastInDim S4x8448x512 ![] bcast_S_S4x8448x512 (constant S_ .f32 0x3E000000#32)

def rqOut (P : FVec Ideal S4x8448x8448 .f32) : FVec Ideal S4x8448x512 .bf16 :=
  truncf .bf16 (extractStridedSlice S4x8448x512 ![0, 0, 0] P slices_S4x8448x8448_S4x8448x512_0_0_0) bitsLt_bf16_f32
theorem rqOut_at (P b t) (l : Fin 512) : rqOut P (ix3 b t l) = P (ix3 b t ⟨0 + l.val, by omega⟩) := by
  pointwise [rqOut]

def rkOut (P : FVec Ideal S4x8448x8448 .f32) : FVec Ideal S4x8448x512 .bf16 :=
  truncf .bf16 (extractStridedSlice S4x8448x512 ![0, 0, 512] P slices_S4x8448x8448_S4x8448x512_0_0_512) bitsLt_bf16_f32
theorem rkOut_at (P b t) (l : Fin 512) : rkOut P (ix3 b t l) = P (ix3 b t ⟨512 + l.val, by omega⟩) := by
  pointwise [rkOut]

def rvOut (P : FVec Ideal S4x8448x8448 .f32) : FVec Ideal S4x8448x512 .bf16 :=
  truncf .bf16 (extractStridedSlice S4x8448x512 ![0, 0, 1024] P slices_S4x8448x8448_S4x8448x512_0_0_1024) bitsLt_bf16_f32
theorem rvOut_at (P b t) (l : Fin 512) : rvOut P (ix3 b t l) = P (ix3 b t ⟨1024 + l.val, by omega⟩) := by
  pointwise [rvOut]

def nkOut (P : FVec Ideal S4x8448x8448 .f32) : FVec Ideal S4x8448x512 .bf16 :=
  truncf .bf16 (extractStridedSlice S4x8448x512 ![0, 0, 2560] P slices_S4x8448x8448_S4x8448x512_0_0_2560) bitsLt_bf16_f32
theorem nkOut_at (P b t) (l : Fin 512) : nkOut P (ix3 b t l) = P (ix3 b t ⟨2560 + l.val, by omega⟩) := by
  pointwise [nkOut]

def nvOut (P : FVec Ideal S4x8448x8448 .f32) : FVec Ideal S4x8448x512 .bf16 :=
  truncf .bf16 (extractStridedSlice S4x8448x512 ![0, 0, 3072] P slices_S4x8448x8448_S4x8448x512_0_0_3072) bitsLt_bf16_f32
theorem nvOut_at (P b t) (l : Fin 512) : nvOut P (ix3 b t l) = P (ix3 b t ⟨3072 + l.val, by omega⟩) := by
  pointwise [nvOut]

def gvOut (P : FVec Ideal S4x8448x8448 .f32) : FVec Ideal S4x8448x128 .bf16 :=
  truncf .bf16 (extractStridedSlice S4x8448x128 ![0, 0, 4736] P slices_S4x8448x8448_S4x8448x128_0_0_4736) bitsLt_bf16_f32
theorem gvOut_at (P b t) (l : Fin 128) : gvOut P (ix3 b t l) = P (ix3 b t ⟨4736 + l.val, by omega⟩) := by
  pointwise [gvOut]

def rgCut (P : FVec Ideal S4x8448x8448 .f32) : FVec Ideal S4x8448x512 .f32 :=
  extractStridedSlice S4x8448x512 ![0, 0, 1536] P slices_S4x8448x8448_S4x8448x512_0_0_1536
theorem rgCut_at (P b t) (l : Fin 512) : rgCut P (ix3 b t l) = P (ix3 b t ⟨1536 + l.val, by omega⟩) := by
  pointwise [rgCut]

def ngCut (P : FVec Ideal S4x8448x8448 .f32) : FVec Ideal S4x8448x512 .f32 :=
  extractStridedSlice S4x8448x512 ![0, 0, 3584] P slices_S4x8448x8448_S4x8448x512_0_0_3584
theorem ngCut_at (P b t) (l : Fin 512) : ngCut P (ix3 b t l) = P (ix3 b t ⟨3584 + l.val, by omega⟩) := by
  pointwise [ngCut]

def ggCut (P : FVec Ideal S4x8448x8448 .f32) : FVec Ideal S4x8448x512 .f32 :=
  extractStridedSlice S4x8448x512 ![0, 0, 4864] P slices_S4x8448x8448_S4x8448x512_0_0_4864
theorem ggCut_at (P b t) (l : Fin 512) : ggCut P (ix3 b t l) = P (ix3 b t ⟨4864 + l.val, by omega⟩) := by
  pointwise [ggCut]

/-- A number times its logistic, entry by entry. -/
def gate (v : FVec Ideal S4x8448x512 .f32) : FVec Ideal S4x8448x512 .bf16 :=
  truncf .bf16 (mulf v (Host.divf one512 (addf one512 (Host.exp (Host.negf v))))) bitsLt_bf16_f32
theorem gate_at (v b t) (l : Fin 512) : gate v (ix3 b t l) =
    v (ix3 b t l) * Ideal.div 1 (1 + Ideal.exp (-v (ix3 b t l))) := by
  pointwise [gate, one512]

def nqOut (P : FVec Ideal S4x8448x8448 .f32) : FVec Ideal S4x8448x512 .bf16 :=
  truncf .bf16 (mulf (extractStridedSlice S4x8448x512 ![0, 0, 2048] P slices_S4x8448x8448_S4x8448x512_0_0_2048) eighth512) bitsLt_bf16_f32
theorem nqOut_at (P b t) (l : Fin 512) : nqOut P (ix3 b t l) =
    P (ix3 b t ⟨2048 + l.val, by omega⟩) * Ideal.ofBits FTy.f32 1040187392#32 := by
  pointwise [nqOut, eighth512]

def mgOut (P : FVec Ideal S4x8448x8448 .f32) : FVec Ideal S4x8448x3072 .bf16 :=
  truncf .bf16 (Host.divf (broadcastInDim S4x8448x3072 ![] bcast_S_S4x8448x3072 (constant S_ .f32 0x3F800000#32))
    (addf (broadcastInDim S4x8448x3072 ![] bcast_S_S4x8448x3072 (constant S_ .f32 0x3F800000#32)) (Host.exp (Host.negf
      (extractStridedSlice S4x8448x3072 ![0, 0, 5376] P slices_S4x8448x8448_S4x8448x3072_0_0_5376))))) bitsLt_bf16_f32
theorem mgOut_at (P b t) (l : Fin 3072) : mgOut P (ix3 b t l) =
    Ideal.div 1 (1 + Ideal.exp (-P (ix3 b t ⟨5376 + l.val, by omega⟩))) := by
  pointwise [mgOut]

/-- The turned heads. -/
def gqTurned (x : FVec Ideal S4x8448x4x2x64 .f32) (c s : FVec Ideal S8448x1x2x2x32 .f32) : FVec Ideal S4x8448x4x2x64 .f32 :=
  gqTurn (gqLow x) (gqHigh x) (gqTab0 c) (gqTab0 s) (gqTab1 c) (gqTab1 s)
def gkTurned (x : FVec Ideal S4x8448x1x2x64 .f32) (c s : FVec Ideal S8448x1x2x2x32 .f32) : FVec Ideal S4x8448x1x2x64 .f32 :=
  gkTurn (gkLow x) (gkHigh x) (gkTab0 c) (gkTab0 s) (gkTab1 c) (gkTab1 s)

def scaled (v : FVec Ideal S4x8448x512 .f32) : FVec Ideal S4x8448x512 .bf16 :=
  truncf .bf16 (mulf v eighth512) bitsLt_bf16_f32
theorem scaled_at (v b t) (l : Fin 512) : scaled v (ix3 b t l) =
    v (ix3 b t l) * Ideal.ofBits FTy.f32 1040187392#32 := by
  pointwise [scaled, eighth512]
def kept (v : FVec Ideal S4x8448x128 .f32) : FVec Ideal S4x8448x128 .bf16 := truncf .bf16 v bitsLt_bf16_f32
theorem kept_at (v b t) (l : Fin 128) : kept v (ix3 b t l) = v (ix3 b t l) := by
  pointwise [kept]

def gqOut (P : FVec Ideal S4x8448x8448 .f32) (g : FVec Ideal S1x128 .f32) (c s : FVec Ideal S8448x128 .f32) :
    FVec Ideal S4x8448x512 .bf16 :=
  scaled (gqCols (gqTurned (gqNorm (gqHeads (wide P)) (gain g)) (table c) (table s)))
def gkOut (P : FVec Ideal S4x8448x8448 .f32) (g : FVec Ideal S1x128 .f32) (c s : FVec Ideal S8448x128 .f32) :
    FVec Ideal S4x8448x128 .bf16 :=
  kept (gkCols (gkTurned (gkNorm (gkHeads (narrow P)) (gain g)) (table c) (table s)))

/-- The product on a device's arguments. -/
def whole (m : (ℓ : Loc nD τ sig) → Buf (Elt Ideal) ℓ) (c : Dev nD) : FVec Ideal S4x8448x8448 .f32 :=
  full (m ((c.tc : Thread nD τ).loc main_arg0)) (m ((c.tc : Thread nD τ).loc main_arg1))
    (m ((c.tc : Thread nD τ).loc main_arg2)) (m ((c.tc : Thread nD τ).loc main_arg3))

/-- The reference's arrays after its run. -/
theorem run_outs (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v188) = rqOut (whole m c)
      ∧ r.2.mem ((c.tc : Thread nD τ).loc main_v189) = rkOut (whole m c)
      ∧ r.2.mem ((c.tc : Thread nD τ).loc main_v190) = rvOut (whole m c)
      ∧ r.2.mem ((c.tc : Thread nD τ).loc main_v191) = gate (rgCut (whole m c))
      ∧ r.2.mem ((c.tc : Thread nD τ).loc main_v192) = nqOut (whole m c)
      ∧ r.2.mem ((c.tc : Thread nD τ).loc main_v193) = nkOut (whole m c)
      ∧ r.2.mem ((c.tc : Thread nD τ).loc main_v194) = nvOut (whole m c)
      ∧ r.2.mem ((c.tc : Thread nD τ).loc main_v195) = gate (ngCut (whole m c))
      ∧ r.2.mem ((c.tc : Thread nD τ).loc main_v196) = gqOut (whole m c) (m ((c.tc : Thread nD τ).loc main_arg6)) (m ((c.tc : Thread nD τ).loc main_arg4)) (m ((c.tc : Thread nD τ).loc main_arg5))
      ∧ r.2.mem ((c.tc : Thread nD τ).loc main_v197) = gkOut (whole m c) (m ((c.tc : Thread nD τ).loc main_arg7)) (m ((c.tc : Thread nD τ).loc main_arg4)) (m ((c.tc : Thread nD τ).loc main_arg5))
      ∧ r.2.mem ((c.tc : Thread nD τ).loc main_v198) = gvOut (whole m c)
      ∧ r.2.mem ((c.tc : Thread nD τ).loc main_v199) = gate (ggCut (whole m c))
      ∧ r.2.mem ((c.tc : Thread nD τ).loc main_v200) = mgOut (whole m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (run m ρ).mono (fun _ h c => by
    obtain ⟨h0, h1, h2, h3, h4, h5, h6, h7, h8, h9, h10, h11, h12, hs⟩ := h c
    exact ⟨h0, h1, h2, h3, h4, h5, h6, h7, h8, h9, h10, h11, h12, hs⟩)

end Cert.Reference2Ideal.Value
end
-- ==== Proof.InTie.lean ====
module
public import proofs.«01_k».proof.Proof.InReal
public import proofs.«01_k».proof.Proof.InRef
@[expose] public section
set_option maxRecDepth 16384
noncomputable section
/-! The reference's arrays, entry by entry, in the numbers the kernel computes. -/
namespace Cert.Reference2Ideal.Value
open Cert.Reference2Ideal Cert.Reference2Ideal.Gen Idealize.ShloMosaic Idealize.ShloMosaic.TcCoe
open Cert.InProj

/-- The row of the modulation a token takes. -/
def rowOf (b : Fin 4) (T : Fin 8448) : Fin 8 := if T.val < 8192 then ⟨b.val, by omega⟩ else 4

/-- The reference's product, at a token and a column. -/
theorem full_at (A0 : FVec Ideal S4x8448x1024 .f32) (A1 : FVec Ideal S8x1x3072 .f32) (A2 : FVec Ideal S1x1024 .f32)
    (A3 : FVec Ideal S1024x8448 .bf16) (b : Fin 4) (T : Fin 8448) (j : Fin 8448) :
    full A0 A1 A2 A3 (ix3 b T j) = prod (hrow (fun k => A0 (ix3 b T k)) (fun k => A2 (ix2 0 k))
      (fun k => A1 (ix3 (rowOf b T) 0 k))) (fun k j => A3 (ix2 k j)) j := by
  unfold full prod
  rw [product_at]
  refine Finset.sum_congr rfl (fun k _ => ?_)
  congr 1
  rw [joined_at]
  unfold hrow rowOf
  by_cases h : T.val < 8192
  · rw [dif_pos h, if_pos h, latMod_at, latNorm_at, latRow_at, latRow_at]
    simp only [latTok_at]
  · have e : (⟨8192 + (T.val - 8192), by omega⟩ : Fin 8448) = T := Fin.ext (by show 8192 + (T.val - 8192) = T.val; omega)
    rw [dif_neg h, if_neg h, ctxMod_at, ctxNorm_at, ctxRow_at, ctxRow_at]
    simp only [ctxTok_at, e]

/-- The reference's normalised heads of the queries. -/
theorem gqX_at (P : FVec Ideal S4x8448x8448 .f32) (g : FVec Ideal S1x128 .f32) (b : Fin 4) (T : Fin 8448) (n : Fin 4) (h : Fin 2)
    (d : Fin 64) : gqNorm (gqHeads (wide P)) (gain g) (ix5 b T n h d) =
      headNorm (lanes (fun j => P (ix3 b T j)) (4096 + n.val * 128) (by omega)) (fun l => g (ix2 0 l)) h d := by
  have e : ∀ y : Fin 64, gqHeads (wide P) (ix5 b T n h y) =
      lanes (fun j => P (ix3 b T j)) (4096 + n.val * 128) (by omega) (col h y) := by
    intro y
    rw [gqHeads_at, wide_at]
    unfold lanes
    exact congrArg (fun i => P (ix3 b T i)) (Fin.ext (by
      show 4096 + (n.val * 128 + y.val / 32 * 64 + h.val * 32 + y.val % 32) =
        4096 + n.val * 128 + (y.val / 32 * 64 + h.val * 32 + y.val % 32)
      omega))
  rw [gqNorm_at, gain_at]
  simp only [e]
  rfl

/-- The reference's normalised heads of the keys. -/
theorem gkX_at (P : FVec Ideal S4x8448x8448 .f32) (g : FVec Ideal S1x128 .f32) (b : Fin 4) (T : Fin 8448) (h : Fin 2)
    (d : Fin 64) : gkNorm (gkHeads (narrow P)) (gain g) (ix5 b T 0 h d) =
      headNorm (lanes (fun j => P (ix3 b T j)) 4608 (by omega)) (fun l => g (ix2 0 l)) h d := by
  have e : ∀ y : Fin 64, gkHeads (narrow P) (ix5 b T 0 h y) =
      lanes (fun j => P (ix3 b T j)) 4608 (by omega) (col h y) := by
    intro y
    rw [gkHeads_at, narrow_at]
    rfl
  rw [gkNorm_at, gain_at]
  simp only [e]
  rfl

/-- A table at a head's dimension, by the half the dimension lies in. -/
theorem table_low (A : FVec Ideal S8448x128 .f32) (T : Fin 8448) (h : Fin 2) (d : Fin 64) (hd : d.val < 32) :
    table A (ix5 T 0 h 0 ⟨d.val, hd⟩) = A (ix2 T (col h d)) := by
  rw [table_at]
  exact congrArg (fun i => A (ix2 T i)) (Fin.ext (by
    show 0 * 64 + h.val * 32 + d.val = d.val / 32 * 64 + h.val * 32 + d.val % 32
    omega))
theorem table_high (A : FVec Ideal S8448x128 .f32) (T : Fin 8448) (h : Fin 2) (d : Fin 64) (hd : ¬ d.val < 32) :
    table A (ix5 T 0 h 1 ⟨d.val - 32, by omega⟩) = A (ix2 T (col h d)) := by
  rw [table_at]
  exact congrArg (fun i => A (ix2 T i)) (Fin.ext (by
    show 1 * 64 + h.val * 32 + (d.val - 32) = d.val / 32 * 64 + h.val * 32 + d.val % 32
    omega))

theorem high_back (d : Fin 64) (hd : ¬ d.val < 32) : (⟨32 + (d.val - 32), by omega⟩ : Fin 64) = d :=
  Fin.ext (by show 32 + (d.val - 32) = d.val; omega)

theorem gqTurned_at (P : FVec Ideal S4x8448x8448 .f32) (g : FVec Ideal S1x128 .f32) (c s : FVec Ideal S8448x128 .f32) (b : Fin 4)
    (T : Fin 8448) (n : Fin 4) (hP : ∀ j, ∃ r : ℝ, P (ix3 b T j) = (r : EReal)) (h : Fin 2) (d : Fin 64) :
    gqTurned (gqNorm (gqHeads (wide P)) (gain g)) (table c) (table s) (ix5 b T n h d) =
      rope (lanes (fun j => P (ix3 b T j)) (4096 + n.val * 128) (by omega)) (fun l => g (ix2 0 l))
        (fun l => c (ix2 T l)) (fun l => s (ix2 T l)) (col h d) := by
  rw [rope_eq (lanes (fun j => P (ix3 b T j)) (4096 + n.val * 128) (by omega)) _ _ _ (fun _ => hP _) h d]
  unfold gqTurned
  rw [gqTurn_at]
  by_cases hd : d.val < 32
  · rw [dif_pos hd, dif_pos hd, gqLow_at, gqHigh_at, gqTab0_at, gqTab0_at, table_low c T h d hd, table_low s T h d hd,
      gqX_at, gqX_at]
  · rw [dif_neg hd, dif_neg hd, gqLow_at, gqHigh_at, gqTab1_at, gqTab1_at, table_high c T h d hd, table_high s T h d hd,
      gqX_at, gqX_at, high_back d hd]

theorem gkTurned_at (P : FVec Ideal S4x8448x8448 .f32) (g : FVec Ideal S1x128 .f32) (c s : FVec Ideal S8448x128 .f32) (b : Fin 4)
    (T : Fin 8448) (hP : ∀ j, ∃ r : ℝ, P (ix3 b T j) = (r : EReal)) (h : Fin 2) (d : Fin 64) :
    gkTurned (gkNorm (gkHeads (narrow P)) (gain g)) (table c) (table s) (ix5 b T 0 h d) =
      rope (lanes (fun j => P (ix3 b T j)) 4608 (by omega)) (fun l => g (ix2 0 l))
        (fun l => c (ix2 T l)) (fun l => s (ix2 T l)) (col h d) := by
  rw [rope_eq (lanes (fun j => P (ix3 b T j)) 4608 (by omega)) _ _ _ (fun _ => hP _) h d]
  unfold gkTurned
  rw [gkTurn_at]
  by_cases hd : d.val < 32
  · rw [dif_pos hd, dif_pos hd, gkLow_at, gkHigh_at, gkTab0_at, gkTab0_at, table_low c T h d hd, table_low s T h d hd,
      gkX_at, gkX_at]
  · rw [dif_neg hd, dif_neg hd, gkLow_at, gkHigh_at, gkTab1_at, gkTab1_at, table_high c T h d hd, table_high s T h d hd,
      gkX_at, gkX_at, high_back d hd]

/-- The queries' heads, turned, at a lane. -/
theorem gqOut_at (P : FVec Ideal S4x8448x8448 .f32) (g : FVec Ideal S1x128 .f32) (c s : FVec Ideal S8448x128 .f32) (b : Fin 4)
    (T : Fin 8448) (hP : ∀ j, ∃ r : ℝ, P (ix3 b T j) = (r : EReal)) (l : Fin 512) : gqOut P g c s (ix3 b T l) =
      rope (lanes (fun j => P (ix3 b T j)) (4096 + l.val / 128 * 128) (by omega)) (fun l => g (ix2 0 l))
        (fun l => c (ix2 T l)) (fun l => s (ix2 T l)) ⟨l.val % 128, by omega⟩ * eighth := by
  unfold gqOut eighth
  rw [scaled_at, gqCols_at, gqTurned_at P g c s b T _ hP]
  congr 2
  exact Fin.ext (by
    show (l.val / 64 % 2 * 32 + l.val % 32) / 32 * 64 + l.val / 32 % 2 * 32 + (l.val / 64 % 2 * 32 + l.val % 32) % 32 = l.val % 128
    omega)

/-- The keys' heads, turned, at a lane. -/
theorem gkOut_at (P : FVec Ideal S4x8448x8448 .f32) (g : FVec Ideal S1x128 .f32) (c s : FVec Ideal S8448x128 .f32) (b : Fin 4)
    (T : Fin 8448) (hP : ∀ j, ∃ r : ℝ, P (ix3 b T j) = (r : EReal)) (l : Fin 128) : gkOut P g c s (ix3 b T l) =
      rope (lanes (fun j => P (ix3 b T j)) 4608 (by omega)) (fun l => g (ix2 0 l))
        (fun l => c (ix2 T l)) (fun l => s (ix2 T l)) l := by
  unfold gkOut
  rw [kept_at, gkCols_at, gkTurned_at P g c s b T hP]
  congr 1
  exact Fin.ext (by
    show (l.val / 64 * 32 + l.val % 32) / 32 * 64 + l.val / 32 % 2 * 32 + (l.val / 64 * 32 + l.val % 32) % 32 = l.val
    omega)

end Cert.Reference2Ideal.Value
end
-- ==== Proof.InClaim.lean ====
module
public import proofs.«01_k».proof.Defs
public import proofs.«01_k».proof.Proof.Gen.Reference2Ideal
public import proofs.«01_k».proof.Proof.InArray
public import proofs.«01_k».proof.Proof.InTie
public import proofs.«01_k».proof.Proof.InFinite
public import Idealize.ShloMosaic.Adequacy
public import Idealize.ShloMosaic.Init
@[expose] public section
set_option maxRecDepth 16384
noncomputable section
/-! The input projection's two programs end with equal arrays. -/
namespace Cert.Proof
open Idealize.ShloMosaic Idealize.ShloMosaic.TcCoe Idealize.SL.Sem Cert.InProj

/-- An index of a three-dimensional array, by its coordinates. -/
theorem ix3_self {a b c : ℕ} (i : (⟨3, ![a, b, c]⟩ : Shape).Idx) : i = ix3 (i 0) (i 1) (i 2) := by
  funext x
  fin_cases x <;> rfl

section
open Cert.Kernel2Ideal Cert.Kernel2Ideal.Value Cert.Kernel2Ideal.Gen
variable (m : (ℓ : Loc nD τ sig) → Buf (Elt Ideal) ℓ) (c : Dev nD)

/-- The reference's product is the kernel's row. -/
theorem in_row (A0 : FVec Ideal Cert.Reference2Ideal.S4x8448x1024 .f32) (A1 : FVec Ideal Cert.Reference2Ideal.S8x1x3072 .f32)
    (A2 : FVec Ideal Cert.Reference2Ideal.S1x1024 .f32) (A3 : FVec Ideal Cert.Reference2Ideal.S1024x8448 .bf16)
    (e0 : A0 = m ((c : Thread nD τ).loc main_arg0)) (e1 : A1 = m ((c : Thread nD τ).loc main_arg1))
    (e2 : A2 = m ((c : Thread nD τ).loc main_arg2)) (e3 : A3 = m ((c : Thread nD τ).loc main_arg3))
    (b : Fin 4) (T : Fin 8448) (j : Fin 8448) :
    Cert.Reference2Ideal.Value.full A0 A1 A2 A3 (ix3 b T j) = mrow m c b T j := by
  rw [Cert.Reference2Ideal.Value.full_at, e0, e1, e2, e3]
  rfl

/-- The row of numbers is of numbers. -/
theorem row_real (h0 : ∀ i, (m ((c : Thread nD τ).loc main_arg0) i : EReal) = ((m ((c : Thread nD τ).loc main_arg0) i : EReal).toReal : EReal))
    (h1 : ∀ i, (m ((c : Thread nD τ).loc main_arg1) i : EReal) = ((m ((c : Thread nD τ).loc main_arg1) i : EReal).toReal : EReal))
    (h2 : ∀ i, (m ((c : Thread nD τ).loc main_arg2) i : EReal) = ((m ((c : Thread nD τ).loc main_arg2) i : EReal).toReal : EReal))
    (h3 : ∀ i, (m ((c : Thread nD τ).loc main_arg3) i : EReal) = ((m ((c : Thread nD τ).loc main_arg3) i : EReal).toReal : EReal))
    (b : Fin 4) (T : Fin 8448) (j : Fin 8448) : ∃ r : ℝ, mrow m c b T j = (r : EReal) := by
  refine prod_real _ (fun k => ?_) _ (fun k j => ⟨_, h3 (ix2 k j)⟩) j
  obtain ⟨r, hr⟩ := hrow_real (fun k => (m ((c : Thread nD τ).loc main_arg0) (ix3 b T k) : EReal).toReal)
    (fun k => (m ((c : Thread nD τ).loc main_arg2) (ix2 0 k) : EReal).toReal)
    (fun k => (m ((c : Thread nD τ).loc main_arg1) (ix3 (modRow b T) 0 k) : EReal).toReal) k
  refine ⟨r, ?_⟩
  rw [← hr]
  congr 1
  · exact funext fun k => h0 (ix3 b T k)
  · exact funext fun k => h2 (ix2 0 k)
  · exact funext fun k => h1 (ix3 (modRow b T) 0 k)

end

section
open Cert.Kernel2Ideal.Value Cert.Kernel2Ideal.Gen Cert.Reference2Ideal.Value

/-- The reference's thirteen arrays, made of a product that is the kernel's row, are the kernel's thirteen arrays. -/
theorem arrays_in (m : (ℓ : Loc Cert.Kernel2Ideal.nD Cert.Kernel2Ideal.τ Cert.Kernel2Ideal.sig) → Buf (Elt Ideal) ℓ)
    (c : Dev Cert.Kernel2Ideal.nD) (P : FVec Ideal Cert.Reference2Ideal.S4x8448x8448 .f32)
    (A4 A5 : FVec Ideal Cert.Reference2Ideal.S8448x128 .f32) (G6 G7 : FVec Ideal Cert.Reference2Ideal.S1x128 .f32)
    (hr : ∀ b T j, P (ix3 b T j) = mrow m c b T j) (hP : ∀ b T j, ∃ r : ℝ, P (ix3 b T j) = (r : EReal))
    (e4 : A4 = m ((c : Thread Cert.Kernel2Ideal.nD Cert.Kernel2Ideal.τ).loc Cert.Kernel2Ideal.main_arg4))
    (e5 : A5 = m ((c : Thread Cert.Kernel2Ideal.nD Cert.Kernel2Ideal.τ).loc Cert.Kernel2Ideal.main_arg5))
    (e6 : G6 = m ((c : Thread Cert.Kernel2Ideal.nD Cert.Kernel2Ideal.τ).loc Cert.Kernel2Ideal.main_arg6))
    (e7 : G7 = m ((c : Thread Cert.Kernel2Ideal.nD Cert.Kernel2Ideal.τ).loc Cert.Kernel2Ideal.main_arg7)) :
    (∀ (b : Fin 4) (T : Fin 8448) (l : Fin 512), rqOut P (ix3 b T l) = (dats m 0 c).arrAt 8 Cert.Kernel2Ideal.cfg0.N (ix3 b T l)) ∧
    (∀ (b : Fin 4) (T : Fin 8448) (l : Fin 512), rkOut P (ix3 b T l) = (dats m 0 c).arrAt 9 Cert.Kernel2Ideal.cfg0.N (ix3 b T l)) ∧
    (∀ (b : Fin 4) (T : Fin 8448) (l : Fin 512), rvOut P (ix3 b T l) = (dats m 0 c).arrAt 10 Cert.Kernel2Ideal.cfg0.N (ix3 b T l)) ∧
    (∀ (b : Fin 4) (T : Fin 8448) (l : Fin 512), gate (rgCut P) (ix3 b T l) = (dats m 0 c).arrAt 11 Cert.Kernel2Ideal.cfg0.N (ix3 b T l)) ∧
    (∀ (b : Fin 4) (T : Fin 8448) (l : Fin 512), nqOut P (ix3 b T l) = (dats m 0 c).arrAt 12 Cert.Kernel2Ideal.cfg0.N (ix3 b T l)) ∧
    (∀ (b : Fin 4) (T : Fin 8448) (l : Fin 512), nkOut P (ix3 b T l) = (dats m 0 c).arrAt 13 Cert.Kernel2Ideal.cfg0.N (ix3 b T l)) ∧
    (∀ (b : Fin 4) (T : Fin 8448) (l : Fin 512), nvOut P (ix3 b T l) = (dats m 0 c).arrAt 14 Cert.Kernel2Ideal.cfg0.N (ix3 b T l)) ∧
    (∀ (b : Fin 4) (T : Fin 8448) (l : Fin 512), gate (ngCut P) (ix3 b T l) = (dats m 0 c).arrAt 15 Cert.Kernel2Ideal.cfg0.N (ix3 b T l)) ∧
    (∀ (b : Fin 4) (T : Fin 8448) (l : Fin 512), gqOut P G6 A4 A5 (ix3 b T l) = (dats m 0 c).arrAt 16 Cert.Kernel2Ideal.cfg0.N (ix3 b T l)) ∧
    (∀ (b : Fin 4) (T : Fin 8448) (l : Fin 128), gkOut P G7 A4 A5 (ix3 b T l) = (dats m 0 c).arrAt 17 Cert.Kernel2Ideal.cfg0.N (ix3 b T l)) ∧
    (∀ (b : Fin 4) (T : Fin 8448) (l : Fin 128), gvOut P (ix3 b T l) = (dats m 0 c).arrAt 18 Cert.Kernel2Ideal.cfg0.N (ix3 b T l)) ∧
    (∀ (b : Fin 4) (T : Fin 8448) (l : Fin 512), gate (ggCut P) (ix3 b T l) = (dats m 0 c).arrAt 19 Cert.Kernel2Ideal.cfg0.N (ix3 b T l)) ∧
    (∀ (b : Fin 4) (T : Fin 8448) (l : Fin 3072), mgOut P (ix3 b T l) = (dats m 0 c).arrAt 20 Cert.Kernel2Ideal.cfg0.N (ix3 b T l)) := by
  have hf : ∀ b T, (fun j => P (ix3 b T j)) = mrow m c b T := fun b T => funext (hr b T)
  refine ⟨?_, ?_, ?_, ?_, ?_, ?_, ?_, ?_, ?_, ?_, ?_, ?_, ?_⟩
  · intro b T l
    rw [rqOut_at, hr]
    exact (arr8 m c b T l).symm
  · intro b T l
    rw [rkOut_at, hr]
    exact (arr9 m c b T l).symm
  · intro b T l
    rw [rvOut_at, hr]
    exact (arr10 m c b T l).symm
  · intro b T l
    rw [gate_at, rgCut_at, hr, silu_eq]
    exact (arr11 m c b T l).symm
  · intro b T l
    rw [nqOut_at, hr]
    exact (arr12 m c b T l).symm
  · intro b T l
    rw [nkOut_at, hr]
    exact (arr13 m c b T l).symm
  · intro b T l
    rw [nvOut_at, hr]
    exact (arr14 m c b T l).symm
  · intro b T l
    rw [gate_at, ngCut_at, hr, silu_eq]
    exact (arr15 m c b T l).symm
  · intro b T l
    rw [gqOut_at _ _ _ _ b T (hP b T), hf, e4, e5, e6]
    exact (arr16 m c b T l).symm
  · intro b T l
    rw [gkOut_at _ _ _ _ b T (hP b T), hf, e4, e5, e7]
    exact (arr17 m c b T l).symm
  · intro b T l
    rw [gvOut_at, hr]
    exact (arr18 m c b T l).symm
  · intro b T l
    rw [gate_at, ggCut_at, hr, silu_eq]
    exact (arr19 m c b T l).symm
  · intro b T l
    rw [mgOut_at, hr, sigm_eq]
    exact (arr20 m c b T l).symm

/-- The two programs end with equal results. -/
theorem algebraicIn : Cert.algebraic_Kernel2Ideal_Reference2Ideal_pre_finite_in
    (hKernel2Ideal := Cert.Kernel2Ideal.Gen.facts) (hReference2Ideal := Cert.Reference2Ideal.Gen.facts)
    (hPre_finite_in := preFactsIn) := by
  intro m g m' g' hpre hag
  refine ⟨fun c => (dats m 0 c).arrAt 8 Cert.Kernel2Ideal.cfg0.N, fun c => (dats m 0 c).arrAt 9 Cert.Kernel2Ideal.cfg0.N,
    fun c => (dats m 0 c).arrAt 10 Cert.Kernel2Ideal.cfg0.N, fun c => (dats m 0 c).arrAt 11 Cert.Kernel2Ideal.cfg0.N,
    fun c => (dats m 0 c).arrAt 12 Cert.Kernel2Ideal.cfg0.N, fun c => (dats m 0 c).arrAt 13 Cert.Kernel2Ideal.cfg0.N,
    fun c => (dats m 0 c).arrAt 14 Cert.Kernel2Ideal.cfg0.N, fun c => (dats m 0 c).arrAt 15 Cert.Kernel2Ideal.cfg0.N,
    fun c => (dats m 0 c).arrAt 16 Cert.Kernel2Ideal.cfg0.N, fun c => (dats m 0 c).arrAt 17 Cert.Kernel2Ideal.cfg0.N,
    fun c => (dats m 0 c).arrAt 18 Cert.Kernel2Ideal.cfg0.N, fun c => (dats m 0 c).arrAt 19 Cert.Kernel2Ideal.cfg0.N,
    fun c => (dats m 0 c).arrAt 20 Cert.Kernel2Ideal.cfg0.N, Cert.Kernel2Ideal.Value.run_blocks m g, ?_⟩
  refine (θ_run Cert.Reference2Ideal.defs _ _).mono (fun r h c => ?_) (run_outs m' g')
  obtain ⟨e0, e1, e2, e3, e4, e5, e6, e7⟩ := hag c
  haveI := preFactsIn
  obtain ⟨r0, r1, r2, r3⟩ := realsIn _ _ _ _ _ _ _ _ (hpre c)
  obtain ⟨h0, h1, h2, h3, h4, h5, h6, h7, h8, h9, h10, h11, h12, hs⟩ := h c
  have hr : ∀ b T j, whole m' c (ix3 b T j) = mrow m c b T j := in_row m c _ _ _ _ e0 e1 e2 e3
  have hP : ∀ b T j, ∃ r : ℝ, whole m' c (ix3 b T j) = (r : EReal) := fun b T j => by
    rw [hr]
    exact row_real m c r0 r1 r2 r3 b T j
  obtain ⟨k0, k1, k2, k3, k4, k5, k6, k7, k8, k9, k10, k11, k12⟩ := arrays_in m c (whole m' c) _ _ _ _ hr hP e4 e5 e6 e7
  exact ⟨h0.trans (funext fun i => (congrArg _ (ix3_self i)).trans ((k0 _ _ _).trans (congrArg _ (ix3_self i).symm))),
    h1.trans (funext fun i => (congrArg _ (ix3_self i)).trans ((k1 _ _ _).trans (congrArg _ (ix3_self i).symm))),
    h2.trans (funext fun i => (congrArg _ (ix3_self i)).trans ((k2 _ _ _).trans (congrArg _ (ix3_self i).symm))),
    h3.trans (funext fun i => (congrArg _ (ix3_self i)).trans ((k3 _ _ _).trans (congrArg _ (ix3_self i).symm))),
    h4.trans (funext fun i => (congrArg _ (ix3_self i)).trans ((k4 _ _ _).trans (congrArg _ (ix3_self i).symm))),
    h5.trans (funext fun i => (congrArg _ (ix3_self i)).trans ((k5 _ _ _).trans (congrArg _ (ix3_self i).symm))),
    h6.trans (funext fun i => (congrArg _ (ix3_self i)).trans ((k6 _ _ _).trans (congrArg _ (ix3_self i).symm))),
    h7.trans (funext fun i => (congrArg _ (ix3_self i)).trans ((k7 _ _ _).trans (congrArg _ (ix3_self i).symm))),
    h8.trans (funext fun i => (congrArg _ (ix3_self i)).trans ((k8 _ _ _).trans (congrArg _ (ix3_self i).symm))),
    h9.trans (funext fun i => (congrArg _ (ix3_self i)).trans ((k9 _ _ _).trans (congrArg _ (ix3_self i).symm))),
    h10.trans (funext fun i => (congrArg _ (ix3_self i)).trans ((k10 _ _ _).trans (congrArg _ (ix3_self i).symm))),
    h11.trans (funext fun i => (congrArg _ (ix3_self i)).trans ((k11 _ _ _).trans (congrArg _ (ix3_self i).symm))),
    h12.trans (funext fun i => (congrArg _ (ix3_self i)).trans ((k12 _ _ _).trans (congrArg _ (ix3_self i).symm))), hs⟩

end
end Cert.Proof
end
-- ==== Proof.MgSpec.lean ====
module
public import Idealize.ShloMosaic.Lib.Pointwise
@[expose] public section
noncomputable section
/-! What the merge of the three branches computes, number by number: one token's retention row normalised head by head,
the three branches weighted by their gates, the output projection, and the gated sum with the token. -/
namespace Cert.Merge
open Idealize.ShloMosaic

/-- A head's mean, and its lanes with the mean taken off and divided by the deviation. -/
def hmean (t : Fin 128 → EReal) : EReal := Ideal.div (∑ j, t j) (Ideal.ofBits FTy.f32 1124073472#32)
def hnorm (t : Fin 128 → EReal) (d : Fin 128) : EReal :=
  (t d - hmean t) * Ideal.rsqrt (Ideal.div (∑ j, (t j - hmean t) * (t j - hmean t)) (Ideal.ofBits FTy.f32 1124073472#32) +
    Ideal.ofBits FTy.f32 897988541#32)

/-- The retention's row normalised by heads, times the gain and the gate. -/
def retRow (o g z : Fin 512 → EReal) (l : Fin 512) : EReal :=
  hnorm (fun d => o ⟨l.val / 128 * 128 + d.val, by omega⟩) ⟨l.val % 128, by omega⟩ * g l * z l

/-- The three branches' products with their weights, weighted by the merge's gates. -/
def mixRow (a b c : Fin 512 → EReal) (mg : Fin 3072 → EReal) (wa wb wc : Fin 512 → Fin 1024 → EReal) (k : Fin 1024) : EReal :=
  mg ⟨k.val, by omega⟩ * (∑ l, a l * wa l k) + mg ⟨1024 + k.val, by omega⟩ * (∑ l, b l * wb l k) +
    mg ⟨2048 + k.val, by omega⟩ * (∑ l, c l * wc l k)

/-- The token plus the gated output projection. -/
def sumRow (x : Fin 1024 → EReal) (md : Fin 3072 → EReal) (h : Fin 1024 → EReal) (wo : Fin 1024 → Fin 1024 → EReal)
    (j : Fin 1024) : EReal := x j + md ⟨2048 + j.val, by omega⟩ * ∑ k, h k * wo k j

/-- A token's row after the merge, from its rows of the arguments. -/
def outRow (x : Fin 1024 → EReal) (md : Fin 3072 → EReal) (o0 o1 z g b c : Fin 512 → EReal) (mg : Fin 3072 → EReal)
    (wa wb wc : Fin 512 → Fin 1024 → EReal) (wo : Fin 1024 → Fin 1024 → EReal) : Fin 1024 → EReal :=
  sumRow x md (mixRow (retRow (fun l => o0 l + o1 l) g z) b c mg wa wb wc) wo

/-- A row normalised by its mean square, times its gain. -/
def rmsRow (x g : Fin 1024 → EReal) (k : Fin 1024) : EReal :=
  x k * Ideal.rsqrt (Ideal.div (∑ j, x j * x j) (Ideal.ofBits FTy.f32 1149239296#32) + Ideal.ofBits FTy.f32 897988541#32) * g k

end Cert.Merge
end
-- ==== Proof.MgRows.lean ====
module
public import proofs.«01_k».proof.Proof.Gen.Kernel3Ideal.Frame
public import proofs.«01_k».proof.Proof.MgSpec
@[expose] public section
set_option maxRecDepth 16384
noncomputable section
/-! The merge's stored values at an index. -/
namespace Cert.Kernel3Ideal.Value
open Cert.Kernel3Ideal Cert.Kernel3Ideal.Gen Idealize.ShloMosaic Idealize.ShloMosaic.TcCoe
open Cert.Merge

/-- The sum of the two directions. -/
theorem pay2_at (v0 v2 : Vec Ideal S1x1x256x512 .f32) (r : Fin 256) (l : Fin 512) :
    k0_pay2 v0 v2 (ix2 r l) = v0 (ix4 0 0 r l) + v2 (ix4 0 0 r l) := by
  pointwise [k0_pay2]

theorem pay3_at (v0 v2 : Vec Ideal S1x1x256x512 .f32) (r : Fin 256) (d : Fin 128) :
    k0_pay3 v0 v2 (ix2 r d) = hnorm (fun d => k0_pay2 v0 v2 (ix2 r ⟨d.val, by omega⟩)) d := by
  unfold k0_pay3
  generalize k0_pay2 v0 v2 = H
  pointwise []
  rfl

theorem pay4_at (v0 v2 : Vec Ideal S1x1x256x512 .f32) (r : Fin 256) (d : Fin 128) :
    k0_pay4 v0 v2 (ix2 r d) = hnorm (fun d => k0_pay2 v0 v2 (ix2 r ⟨128 + d.val, by omega⟩)) d := by
  unfold k0_pay4
  generalize k0_pay2 v0 v2 = H
  pointwise []
  rfl

theorem pay5_at (v0 v2 : Vec Ideal S1x1x256x512 .f32) (r : Fin 256) (d : Fin 128) :
    k0_pay5 v0 v2 (ix2 r d) = k0_pay2 v0 v2 (ix2 r ⟨256 + d.val, by omega⟩) := by
  unfold k0_pay5
  generalize k0_pay2 v0 v2 = H
  pointwise []

theorem pay6_at (o : FVec Ideal S256x512 .f32) (a b c : FVec Ideal S256x128 .f32) (g : Vec Ideal S1x512 .f32)
    (z : Vec Ideal S1x256x512 .bf16) (r : Fin 256) (l : Fin 512) : k0_pay6 o a b c g z (ix2 r l) =
      (if h : l.val < 128 then a (ix2 r ⟨l.val, h⟩) else if h : l.val - 128 < 128 then b (ix2 r ⟨l.val - 128, h⟩)
        else if h : l.val - 128 - 128 < 128 then hnorm (fun d => c (ix2 r d)) ⟨l.val - 128 - 128, h⟩
        else hnorm (fun d => o (ix2 r ⟨384 + d.val, by omega⟩)) ⟨l.val - 128 - 128 - 128, by omega⟩) *
        g (ix2 0 l) * z (ix3 0 r l) := by
  pointwise [k0_pay6]
  rfl

/-- A head's lane, its row cut out of all the heads' lanes. -/
theorem hnorm_head (H : Fin 512 → EReal) (f : Fin 128 → EReal) (e : Fin 128) (l : Fin 512) (he : e.val = l.val % 128)
    (h : ∀ d : Fin 128, f d = H ⟨l.val / 128 * 128 + d.val, by omega⟩) :
    hnorm f e = hnorm (fun d => H ⟨l.val / 128 * 128 + d.val, by omega⟩) ⟨l.val % 128, by omega⟩ := by
  exact (congrArg (fun x => hnorm x e) (funext h)).trans (congrArg (hnorm _) (Fin.ext he))

/-- The retention's row, from the sum of its two directions. -/
theorem ret_at (v0 v2 : Vec Ideal S1x1x256x512 .f32) (g : Vec Ideal S1x512 .f32) (z : Vec Ideal S1x256x512 .bf16)
    (r : Fin 256) (l : Fin 512) :
    k0_pay6 (k0_pay2 v0 v2) (k0_pay3 v0 v2) (k0_pay4 v0 v2) (k0_pay5 v0 v2) g z (ix2 r l) =
      retRow (fun l => v0 (ix4 0 0 r l) + v2 (ix4 0 0 r l)) (fun l => g (ix2 0 l)) (fun l => z (ix3 0 r l)) l := by
  rw [pay6_at]
  unfold retRow
  congr 2
  rw [show (fun l => v0 (ix4 0 0 r l) + v2 (ix4 0 0 r l)) = fun l => k0_pay2 v0 v2 (ix2 r l) from
    funext fun l => (pay2_at v0 v2 r l).symm]
  split
  · rw [pay3_at]
    refine hnorm_head (fun l => k0_pay2 v0 v2 (ix2 r l)) _ _ l ?_ fun d => ?_
    · show l.val = l.val % 128; omega
    · exact congrArg (fun x => k0_pay2 v0 v2 (ix2 r x)) (Fin.ext (show d.val = l.val / 128 * 128 + d.val by omega))
  split
  · rw [pay4_at]
    refine hnorm_head (fun l => k0_pay2 v0 v2 (ix2 r l)) _ _ l ?_ fun d => ?_
    · show l.val - 128 = l.val % 128; omega
    · exact congrArg (fun x => k0_pay2 v0 v2 (ix2 r x)) (Fin.ext (show 128 + d.val = l.val / 128 * 128 + d.val by omega))
  split
  · refine hnorm_head (fun l => k0_pay2 v0 v2 (ix2 r l)) _ _ l ?_ fun d => ?_
    · show l.val - 128 - 128 = l.val % 128; omega
    · rw [pay5_at]
      exact congrArg (fun x => k0_pay2 v0 v2 (ix2 r x)) (Fin.ext (show 256 + d.val = l.val / 128 * 128 + d.val by omega))
  · refine hnorm_head (fun l => k0_pay2 v0 v2 (ix2 r l)) _ _ l ?_ fun d => ?_
    · show l.val - 128 - 128 - 128 = l.val % 128; omega
    · exact congrArg (fun x => k0_pay2 v0 v2 (ix2 r x)) (Fin.ext (show 384 + d.val = l.val / 128 * 128 + d.val by omega))

theorem pay7_at (a : FVec Ideal S256x512 .bf16) (m0 : Vec Ideal S1x256x1024 .bf16) (w0 : Vec Ideal S512x1024 .bf16)
    (m1 : Vec Ideal S1x256x1024 .bf16) (b : Vec Ideal S1x256x512 .bf16) (w1 : Vec Ideal S512x1024 .bf16)
    (m2 : Vec Ideal S1x256x1024 .bf16) (c : Vec Ideal S1x256x512 .bf16) (w2 : Vec Ideal S512x1024 .bf16)
    (wo : Vec Ideal S1024x1024 .bf16) (r : Fin 256) (j : Fin 1024) :
    k0_pay7 a m0 w0 m1 b w1 m2 c w2 wo (ix2 r j) = ∑ k : Fin 1024,
      (m0 (ix3 0 r k) * (∑ l : Fin 512, a (ix2 r l) * w0 (ix2 l k)) + m1 (ix3 0 r k) * (∑ l : Fin 512, b (ix3 0 r l) * w1 (ix2 l k)) +
        m2 (ix3 0 r k) * (∑ l : Fin 512, c (ix3 0 r l) * w2 (ix2 l k))) * wo (ix2 k j) := by
  pointwise [k0_pay7]

theorem pay8_at (v : Vec Ideal S1x1x3072 .f32) (j : Fin 1024) : k0_pay8 v (ix2 0 j) = v (ix3 0 0 ⟨2048 + j.val, by omega⟩) := by
  pointwise [k0_pay8]

theorem pay1_at (p : FVec Ideal S256x1024 .f32) (g : FVec Ideal S1x1024 .f32) (x : Vec Ideal S1x256x1024 .f32)
    (r : Fin 256) (j : Fin 1024) : k0_pay1 p g x (ix3 0 r j) = x (ix3 0 r j) + g (ix2 0 j) * p (ix2 r j) := by
  pointwise [k0_pay1]

end Cert.Kernel3Ideal.Value
end
-- ==== Proof.MgBlock.lean ====
module
public import proofs.«01_k».proof.Proof.MgRows
public import proofs.«01_k».proof.Proof.Gen.Kernel4Ideal.Frame
public import Idealize.ShloMosaic.Lib.Pipeline.ValueKit.Tiles
public import Idealize.ShloMosaic.Lib.Pipeline.Value
@[expose] public section
set_option maxRecDepth 16384
noncomputable section
/-! The merge's stored block at an index, from the blocks it loads: without the last normalisation, and with it. -/
namespace Cert.Kernel3Ideal.Value
open Cert.Kernel3Ideal Cert.Kernel3Ideal.Gen Idealize.ShloMosaic Idealize.ShloMosaic.TcCoe
open Cert.Merge

variable (x0 : Vec Ideal S1x256x1024 .f32) (x1 : Vec Ideal S1x1x3072 .f32) (x2 x3 : Vec Ideal S1x1x256x512 .f32)
  (x4 : Vec Ideal S1x256x512 .bf16) (x5 : Vec Ideal S1x512 .f32) (x6 x7 : Vec Ideal S1x256x512 .bf16)
  (x8 : Vec Ideal S1x256x3072 .bf16) (x9 x10 x11 : Vec Ideal S512x1024 .bf16) (x12 : Vec Ideal S1024x1024 .bf16)

/-- The block's row after the merge. -/
def brow (r : Fin 256) : Fin 1024 → EReal :=
  outRow (fun j => x0 (ix3 0 r j)) (fun j => x1 (ix3 0 0 j)) (fun l => x2 (ix4 0 0 r l)) (fun l => x3 (ix4 0 0 r l))
    (fun l => x4 (ix3 0 r l)) (fun l => x5 (ix2 0 l)) (fun l => x6 (ix3 0 r l)) (fun l => x7 (ix3 0 r l))
    (fun l => x8 (ix3 0 r l)) (fun l k => x9 (ix2 l k)) (fun l k => x10 (ix2 l k)) (fun l k => x11 (ix2 l k))
    (fun k j => x12 (ix2 k j))

/-- A gate loaded out of the three. -/
theorem gate_ld (off : Fin 3 → ℕ) (inb : ∀ a, off a + (![1, 256, 1024] : Fin 3 → ℕ) a ≤ S1x256x3072.size a) (o : ℕ)
    (h0 : off 0 = 0) (h1 : off 1 = 0) (h2 : off 2 = o) (r : Fin 256) (k : Fin 1024) (hb : o + k.val < 3072) :
    View.ld x8 (Rect.unit (s := S1x256x3072) off ![1, 256, 1024] inb) (ix3 0 r k) = x8 (ix3 0 r ⟨o + k.val, hb⟩) := by
  refine View.ld_unit_apply_of x8 off _ inb (ix3 0 r k) (ix3 0 r ⟨o + k.val, hb⟩) ?_
  intro a
  fin_cases a
  · show 0 = off 0 + 0; omega
  · show r.val = off 1 + r.val; omega
  · show o + k.val = off 2 + k.val; omega

/-- The merged branches' product with the output weights. -/
def proj : FVec Ideal S256x1024 .f32 :=
  k0_pay7 (k0_pay6 (k0_pay2 x2 x3) (k0_pay3 x2 x3) (k0_pay4 x2 x3) (k0_pay5 x2 x3) x5 x4) (View.ld x8 r0_3) x9
    (View.ld x8 r0_5) x6 x10 (View.ld x8 r0_6) x7 x11 x12

theorem row_at (r : Fin 256) (j : Fin 1024) :
    x0 (ix3 0 r j) + k0_pay8 x1 (ix2 0 j) * proj x2 x3 x4 x5 x6 x7 x8 x9 x10 x11 x12 (ix2 r j) =
      brow x0 x1 x2 x3 x4 x5 x6 x7 x8 x9 x10 x11 x12 r j := by
  unfold proj brow outRow sumRow mixRow
  rw [pay8_at, pay7_at]
  congr 2
  refine Finset.sum_congr rfl fun k _ => ?_
  rw [gate_ld x8 _ _ 0 rfl rfl rfl r k (by omega), gate_ld x8 _ _ 1024 rfl rfl rfl r k (by omega),
    gate_ld x8 _ _ 2048 rfl rfl rfl r k (by omega)]
  simp only [ret_at, Nat.zero_add]

theorem out14_at (x13 : Vec Ideal S1x1024 .f32) (r : Fin 256) (j : Fin 1024) :
    out0_14 x0 x1 x2 x3 x4 x5 x6 x7 x8 x9 x10 x11 x12 x13 (ix3 0 r j) =
      brow x0 x1 x2 x3 x4 x5 x6 x7 x8 x9 x10 x11 x12 r j := by
  unfold out0_14
  rw [View.canon_unit_zero (by decide), pay1_at, View.ld_unit_zero (by decide) _ x0, View.ld_unit_zero (by decide) _ x1,
    View.ld_unit_zero (by decide) _ x2, View.ld_unit_zero (by decide) _ x3, View.ld_unit_zero (by decide) _ x4,
    View.ld_unit_zero (by decide) _ x5, View.ld_unit_zero (by decide) _ x6, View.ld_unit_zero (by decide) _ x7,
    View.ld_unit_zero (by decide) _ x9, View.ld_unit_zero (by decide) _ x10, View.ld_unit_zero (by decide) _ x11,
    View.ld_unit_zero (by decide) _ x12]
  exact row_at ..

end Cert.Kernel3Ideal.Value

namespace Cert.Kernel4Ideal.Value
open Cert.Kernel4Ideal Cert.Kernel4Ideal.Gen Idealize.ShloMosaic Idealize.ShloMosaic.TcCoe
open Cert.Merge

/-- The last call's row is normalised as it is stored. -/
theorem pay1_at (p : FVec Ideal S256x1024 .f32) (g : FVec Ideal S1x1024 .f32) (x : Vec Ideal S1x256x1024 .f32)
    (w : Vec Ideal S1x1024 .f32) (r : Fin 256) (j : Fin 1024) : k0_pay1 p g x w (ix3 0 r j) =
      rmsRow (fun j => x (ix3 0 r j) + g (ix2 0 j) * p (ix2 r j)) (fun j => w (ix2 0 j)) j := by
  pointwise [k0_pay1]
  rfl

variable (x0 : Vec Ideal S1x256x1024 .f32) (x1 : Vec Ideal S1x1x3072 .f32) (x2 x3 : Vec Ideal S1x1x256x512 .f32)
  (x4 : Vec Ideal S1x256x512 .bf16) (x5 : Vec Ideal S1x512 .f32) (x6 x7 : Vec Ideal S1x256x512 .bf16)
  (x8 : Vec Ideal S1x256x3072 .bf16) (x9 x10 x11 : Vec Ideal S512x1024 .bf16) (x12 : Vec Ideal S1024x1024 .bf16)

/-- What the last call stores is made of the same values as the other calls store. -/
theorem proj_eq : k0_pay7 (k0_pay6 (k0_pay2 x2 x3) (k0_pay3 x2 x3) (k0_pay4 x2 x3) (k0_pay5 x2 x3) x5 x4) (View.ld x8 r0_3) x9
    (View.ld x8 r0_5) x6 x10 (View.ld x8 r0_6) x7 x11 x12 = Cert.Kernel3Ideal.Value.proj x2 x3 x4 x5 x6 x7 x8 x9 x10 x11 x12 := rfl

theorem gate_eq : k0_pay8 x1 = Cert.Kernel3Ideal.Gen.k0_pay8 x1 := rfl

theorem out14_at (x13 : Vec Ideal S1x1024 .f32) (r : Fin 256) (j : Fin 1024) :
    out0_14 x0 x1 x2 x3 x4 x5 x6 x7 x8 x9 x10 x11 x12 x13 (ix3 0 r j) =
      rmsRow (Cert.Kernel3Ideal.Value.brow x0 x1 x2 x3 x4 x5 x6 x7 x8 x9 x10 x11 x12 r) (fun j => x13 (ix2 0 j)) j := by
  unfold out0_14
  rw [View.canon_unit_zero (by decide), pay1_at, View.ld_unit_zero (by decide) _ x0, View.ld_unit_zero (by decide) _ x1,
    View.ld_unit_zero (by decide) _ x2, View.ld_unit_zero (by decide) _ x3, View.ld_unit_zero (by decide) _ x4,
    View.ld_unit_zero (by decide) _ x5, View.ld_unit_zero (by decide) _ x6, View.ld_unit_zero (by decide) _ x7,
    View.ld_unit_zero (by decide) _ x9, View.ld_unit_zero (by decide) _ x10, View.ld_unit_zero (by decide) _ x11,
    View.ld_unit_zero (by decide) _ x12, View.ld_unit_zero (by decide) _ x13, proj_eq, gate_eq]
  exact congrArg (fun f => rmsRow f _ j) (funext fun j =>
    Cert.Kernel3Ideal.Value.row_at x0 x1 x2 x3 x4 x5 x6 x7 x8 x9 x10 x11 x12 r j)

end Cert.Kernel4Ideal.Value
end
-- ==== Proof.MgRef.lean ====
module
public import proofs.«01_k».proof.Proof.Gen.Reference3Ideal.Run
public import proofs.«01_k».proof.Proof.Gen.Reference4Ideal.Run
public import proofs.«01_k».proof.Proof.MgSpec
@[expose] public section
set_option maxRecDepth 16384
noncomputable section
/-! What the merge's reference computes, one array after the other, each at an index. -/
namespace Cert.Reference3Ideal.Value
open Cert.Reference3Ideal Cert.Reference3Ideal.Gen Idealize.ShloMosaic Idealize.ShloMosaic.TcCoe
open Cert.Merge

/-- The two directions' sum, its lanes apart by heads. -/
def heads (o : FVec Ideal S2x4x8448x512 .f32) : FVec Ideal S4x8448x4x128 .f32 :=
  shapeCast _ (addf (shapeCast _ (extractStridedSlice S1x4x8448x512 ![0, 0, 0, 0] o slices_S2x4x8448x512_S1x4x8448x512_0_0_0_0)
      shapeCasts_S1x4x8448x512_S4x8448x512)
    (shapeCast _ (extractStridedSlice S1x4x8448x512 ![1, 0, 0, 0] o slices_S2x4x8448x512_S1x4x8448x512_1_0_0_0)
      shapeCasts_S1x4x8448x512_S4x8448x512)) shapeCasts_S4x8448x512_S4x8448x4x128

/-- Every head's mean. -/
def means (x : FVec Ideal S4x8448x4x128 .f32) : FVec Ideal S4x8448x4x1 .f32 :=
  Host.divf (broadcastInDim S4x8448x4x1 ![0, 1, 2] bcast_S4x8448x4_S4x8448x4x1_0_1_2 (Host.reduceAdd x
    (constant S_ .f32 0x00000000#32) reducesTo_S4x8448x4x128_S4x8448x4_d3 h_S_))
    (broadcastInDim S4x8448x4x1 ![] bcast_S_S4x8448x4x1 (constant S_ .f32 0x43000000#32))

/-- Every head's lanes with the mean taken off. -/
def devs (x : FVec Ideal S4x8448x4x128 .f32) : FVec Ideal S4x8448x4x128 .f32 :=
  subf x (broadcastInDim S4x8448x4x128 ![0, 1, 2, 3] bcast_S4x8448x4x1_S4x8448x4x128_0_1_2_3 (means x))

/-- And divided by the head's deviation, which is found from the same lanes. -/
def scaled (x y : FVec Ideal S4x8448x4x128 .f32) : FVec Ideal S4x8448x4x128 .f32 :=
  mulf x (broadcastInDim S4x8448x4x128 ![0, 1, 2, 3] bcast_S4x8448x4x1_S4x8448x4x128_0_1_2_3 (Host.rsqrt (addf (means y)
    (broadcastInDim S4x8448x4x1 ![] bcast_S_S4x8448x4x1 (constant S_ .f32 0x358637BD#32)))))

/-- The retention's row, with its gain and its gate. -/
def gained (x : FVec Ideal S4x8448x4x128 .f32) (g : FVec Ideal S1x512 .f32) (z : FVec Ideal S4x8448x512 .bf16) :
    FVec Ideal S4x8448x512 .f32 :=
  mulf (mulf (shapeCast _ x shapeCasts_S4x8448x4x128_S4x8448x512) (broadcastInDim S4x8448x512 ![0, 1, 2]
    bcast_S1x1x512_S4x8448x512_0_1_2 (broadcastInDim S1x1x512 ![2] bcast_S512_S1x1x512_2 (shapeCast _ g shapeCasts_S1x512_S512))))
    (extf .f32 z bitsLt_bf16_f32)

/-- A branch's product with its weights. -/
def branch (x : FVec Ideal S4x8448x512 .f32) (w : FVec Ideal S512x1024 .bf16) : FVec Ideal S4x8448x1024 .f32 :=
  Host.dotGeneral dot_S4x8448x512_S512x1024_S4x8448x1024_2_0_01_1_n_n none x (extf .f32 w bitsLt_bf16_f32)

/-- The three products weighted by their gates. -/
def mixed (mg : FVec Ideal S4x8448x3072 .bf16) (a b c : FVec Ideal S4x8448x1024 .f32) : FVec Ideal S4x8448x1024 .f32 :=
  addf (addf (mulf (extractStridedSlice S4x8448x1024 ![0, 0, 0] (extf .f32 mg bitsLt_bf16_f32) slices_S4x8448x3072_S4x8448x1024_0_0_0) a)
    (mulf (extractStridedSlice S4x8448x1024 ![0, 0, 1024] (extf .f32 mg bitsLt_bf16_f32) slices_S4x8448x3072_S4x8448x1024_0_0_1024) b))
    (mulf (extractStridedSlice S4x8448x1024 ![0, 0, 2048] (extf .f32 mg bitsLt_bf16_f32) slices_S4x8448x3072_S4x8448x1024_0_0_2048) c)

/-- The output projection. -/
def projected (x : FVec Ideal S4x8448x1024 .f32) (w : FVec Ideal S1024x1024 .bf16) : FVec Ideal S4x8448x1024 .f32 :=
  Host.dotGeneral dot_S4x8448x1024_S1024x1024_S4x8448x1024_2_0_01_1_n_n none x (extf .f32 w bitsLt_bf16_f32)

/-- The latent tokens, plus the projection gated by their batch's row. -/
def latents (x p : FVec Ideal S4x8448x1024 .f32) (md : FVec Ideal S8x1x3072 .f32) : FVec Ideal S4x8192x1024 .f32 :=
  addf (extractStridedSlice S4x8192x1024 ![0, 0, 0] x slices_S4x8448x1024_S4x8192x1024_0_0_0)
    (mulf (broadcastInDim S4x8192x1024 ![0, 1, 2] bcast_S4x1x1024_S4x8192x1024_0_1_2 (extractStridedSlice S4x1x1024 ![0, 0, 2048]
      (extractStridedSlice S4x1x3072 ![0, 0, 0] md slices_S8x1x3072_S4x1x3072_0_0_0) slices_S4x1x3072_S4x1x1024_0_0_2048))
      (extractStridedSlice S4x8192x1024 ![0, 0, 0] p slices_S4x8448x1024_S4x8192x1024_0_0_0))

/-- The context's, plus the projection gated by the fifth row. -/
def context (x p : FVec Ideal S4x8448x1024 .f32) (md : FVec Ideal S8x1x3072 .f32) : FVec Ideal S4x256x1024 .f32 :=
  addf (extractStridedSlice S4x256x1024 ![0, 8192, 0] x slices_S4x8448x1024_S4x256x1024_0_8192_0)
    (mulf (broadcastInDim S4x256x1024 ![0, 1, 2] bcast_S1x1x1024_S4x256x1024_0_1_2 (broadcastInDim S1x1x1024 ![1, 2]
      bcast_S1x1024_S1x1x1024_1_2 (extractStridedSlice S1x1024 ![0, 2048] (shapeCast _ (extractStridedSlice S1x1x3072 ![4, 0, 0] md
        slices_S8x1x3072_S1x1x3072_4_0_0) shapeCasts_S1x1x3072_S1x3072) slices_S1x3072_S1x1024_0_2048)))
      (extractStridedSlice S4x256x1024 ![0, 8192, 0] p slices_S4x8448x1024_S4x256x1024_0_8192_0))

/-- The two beside each other. -/
def joined (x : FVec Ideal S4x8192x1024 .f32) (y : FVec Ideal S4x256x1024 .f32) : FVec Ideal S4x8448x1024 .f32 :=
  concatenate S4x8448x1024 1 [⟨S4x8192x1024, x⟩, ⟨S4x256x1024, y⟩] concatenates_S4x8192x1024_S4x256x1024_S4x8448x1024_d1

/-- The merged branches' projection, from the arguments. -/
def full (o : FVec Ideal S2x4x8448x512 .f32) (z : FVec Ideal S4x8448x512 .bf16) (g : FVec Ideal S1x512 .f32)
    (b c : FVec Ideal S4x8448x512 .bf16) (mg : FVec Ideal S4x8448x3072 .bf16) (wa wb wc : FVec Ideal S512x1024 .bf16)
    (wo : FVec Ideal S1024x1024 .bf16) : FVec Ideal S4x8448x1024 .f32 :=
  projected (mixed mg (branch (gained (scaled (devs (heads o)) (mulf (devs (heads o)) (devs (heads o)))) g z) wa)
    (branch (extf .f32 b bitsLt_bf16_f32) wb) (branch (extf .f32 c bitsLt_bf16_f32) wc)) wo

theorem heads_at (o b t) (h : Fin 4) (d : Fin 128) : heads o (ix4 b t h d) =
    o (ix4 0 b t ⟨h.val * 128 + d.val, by omega⟩) + o (ix4 1 b t ⟨h.val * 128 + d.val, by omega⟩) := by
  pointwise [heads]

theorem means_at (x b t h) : means x (ix4 b t h 0) = hmean (fun d => x (ix4 b t h d)) := by
  pointwise [means]
  rfl

theorem devs_at (x b t h d) : devs x (ix4 b t h d) = x (ix4 b t h d) - hmean (fun d => x (ix4 b t h d)) := by
  unfold devs
  generalize hm : means x = M
  pointwise []
  rw [← hm, means_at]

theorem scaled_at (x y b t h d) : scaled x y (ix4 b t h d) =
    x (ix4 b t h d) * Ideal.rsqrt (hmean (fun d => y (ix4 b t h d)) + Ideal.ofBits FTy.f32 897988541#32) := by
  unfold scaled
  generalize hm : means y = M
  pointwise []
  rw [← hm, means_at]

theorem gained_at (x g z b t l) : gained x g z (ix3 b t l) =
    x (ix4 b t ⟨l.val / 128, by omega⟩ ⟨l.val % 128, by omega⟩) * g (ix2 0 l) * z (ix3 b t l) := by
  pointwise [gained]

theorem branch_at (x w b t k) : branch x w (ix3 b t k) = ∑ l, x (ix3 b t l) * w (ix2 l k) := by
  pointwise [branch]

theorem mixed_at (mg p q s b t k) : mixed mg p q s (ix3 b t k) = mg (ix3 b t ⟨k.val, by omega⟩) * p (ix3 b t k) +
    mg (ix3 b t ⟨1024 + k.val, by omega⟩) * q (ix3 b t k) + mg (ix3 b t ⟨2048 + k.val, by omega⟩) * s (ix3 b t k) := by
  pointwise [mixed]

theorem projected_at (x w b t j) : projected x w (ix3 b t j) = ∑ k, x (ix3 b t k) * w (ix2 k j) := by
  pointwise [projected]

theorem latents_at (x p md) (b : Fin 4) (t : Fin 8192) (k : Fin 1024) : latents x p md (ix3 b t k) =
    x (ix3 b ⟨t.val, by omega⟩ k) + md (ix3 ⟨b.val, by omega⟩ 0 ⟨2048 + k.val, by omega⟩) * p (ix3 b ⟨t.val, by omega⟩ k) := by
  pointwise [latents]

theorem context_at (x p md) (b : Fin 4) (t : Fin 256) (k : Fin 1024) : context x p md (ix3 b t k) =
    x (ix3 b ⟨8192 + t.val, by omega⟩ k) + md (ix3 4 0 ⟨2048 + k.val, by omega⟩) * p (ix3 b ⟨8192 + t.val, by omega⟩ k) := by
  pointwise [context]

theorem joined_at (x y b t k) : joined x y (ix3 b t k) =
    if h : t.val < 8192 then x (ix3 b ⟨t.val, h⟩ k) else y (ix3 b ⟨t.val - 8192, by omega⟩ k) := by
  pointwise [joined]

/-- The retention's row at a lane. -/
theorem ret_at (o z g b t l) :
    gained (scaled (devs (heads o)) (mulf (devs (heads o)) (devs (heads o)))) g z (ix3 b t l) =
      retRow (fun l => o (ix4 0 b t l) + o (ix4 1 b t l)) (fun l => g (ix2 0 l)) (fun l => z (ix3 b t l)) l := by
  have hd : ∀ h d, devs (heads o) (ix4 b t h d) = heads o (ix4 b t h d) - hmean (fun d => heads o (ix4 b t h d)) := devs_at _ b t
  have hs : ∀ h, (fun d => mulf (devs (heads o)) (devs (heads o)) (ix4 b t h d)) =
      fun d => devs (heads o) (ix4 b t h d) * devs (heads o) (ix4 b t h d) := fun _ => rfl
  rw [gained_at, scaled_at, hs]
  simp only [hd, heads_at]
  rfl

theorem full_at (o z g b' c mg wa wb wc wo) (b : Fin 4) (t : Fin 8448) (j : Fin 1024) :
    full o z g b' c mg wa wb wc wo (ix3 b t j) = ∑ k, mixRow (retRow (fun l => o (ix4 0 b t l) + o (ix4 1 b t l))
      (fun l => g (ix2 0 l)) (fun l => z (ix3 b t l))) (fun l => b' (ix3 b t l)) (fun l => c (ix3 b t l))
      (fun l => mg (ix3 b t l)) (fun l k => wa (ix2 l k)) (fun l k => wb (ix2 l k)) (fun l k => wc (ix2 l k)) k * wo (ix2 k j) := by
  unfold full
  rw [projected_at]
  refine Finset.sum_congr rfl fun k _ => ?_
  rw [mixed_at, branch_at, branch_at, branch_at]
  simp only [ret_at]
  rfl

variable (m : (ℓ : Loc nD τ sig) → Buf (Elt Ideal) ℓ) (ρ : Dev nD → PrngReg) (c : Dev nD)

/-- The reference's result from the launched arrays. -/
theorem result_eq : res_main_v70 m c = joined
    (latents (m ((c.tc : Thread nD τ).loc main_arg0)) (full (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11)))
      (m ((c.tc : Thread nD τ).loc main_arg1)))
    (context (m ((c.tc : Thread nD τ).loc main_arg0)) (full (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11)))
      (m ((c.tc : Thread nD τ).loc main_arg1))) := rfl

/-- The modulation's row of a token: its batch's for a latent one, the fifth for the context's. -/
def modRow (b : Fin 4) (T : ℕ) : Fin 8 := if T < 8192 then ⟨b.val, by omega⟩ else 4

/-- A token's row after the merge, in whole arrays. -/
def trow (x : FVec Ideal S4x8448x1024 .f32) (md : FVec Ideal S8x1x3072 .f32) (o : FVec Ideal S2x4x8448x512 .f32)
    (z : FVec Ideal S4x8448x512 .bf16) (g : FVec Ideal S1x512 .f32) (b' c : FVec Ideal S4x8448x512 .bf16)
    (mg : FVec Ideal S4x8448x3072 .bf16) (wa wb wc : FVec Ideal S512x1024 .bf16) (wo : FVec Ideal S1024x1024 .bf16)
    (b : Fin 4) (T : Fin 8448) : Fin 1024 → EReal :=
  outRow (fun j => x (ix3 b T j)) (fun j => md (ix3 (modRow b T.val) 0 j)) (fun l => o (ix4 0 b T l)) (fun l => o (ix4 1 b T l))
    (fun l => z (ix3 b T l)) (fun l => g (ix2 0 l)) (fun l => b' (ix3 b T l)) (fun l => c (ix3 b T l)) (fun l => mg (ix3 b T l))
    (fun l k => wa (ix2 l k)) (fun l k => wb (ix2 l k)) (fun l k => wc (ix2 l k)) (fun k j => wo (ix2 k j))

theorem latents_row (x md o z g b' c mg wa wb wc wo) (b : Fin 4) (t : Fin 8192) (j : Fin 1024) :
    latents x (full o z g b' c mg wa wb wc wo) md (ix3 b t j) =
      trow x md o z g b' c mg wa wb wc wo b ⟨t.val, by omega⟩ j := by
  rw [latents_at, full_at]
  unfold trow modRow
  rw [if_pos t.isLt]
  rfl

theorem context_row (x md o z g b' c mg wa wb wc wo) (b : Fin 4) (t : Fin 256) (j : Fin 1024) :
    context x (full o z g b' c mg wa wb wc wo) md (ix3 b t j) =
      trow x md o z g b' c mg wa wb wc wo b ⟨8192 + t.val, by omega⟩ j := by
  rw [context_at, full_at]
  unfold trow modRow
  rw [if_neg (show ¬8192 + t.val < 8192 by omega)]
  rfl

/-- The joined tokens at an index: the token's row. -/
theorem joined_row (x md o z g b' c mg wa wb wc wo) (b : Fin 4) (T : Fin 8448) (j : Fin 1024) :
    joined (latents x (full o z g b' c mg wa wb wc wo) md) (context x (full o z g b' c mg wa wb wc wo) md) (ix3 b T j) =
      trow x md o z g b' c mg wa wb wc wo b T j := by
  rw [joined_at]
  split
  · exact latents_row ..
  · rw [context_row]
    exact congrArg (fun T => trow x md o z g b' c mg wa wb wc wo b T j) (Fin.ext (show 8192 + (T.val - 8192) = T.val by omega))

end Cert.Reference3Ideal.Value

namespace Cert.Reference4Ideal.Value
open Cert.Reference4Ideal Cert.Reference4Ideal.Gen Idealize.ShloMosaic Idealize.ShloMosaic.TcCoe
open Cert.Merge

/-- The last normalisation. -/
def normed (x : FVec Ideal S4x8192x1024 .f32) (g : FVec Ideal S1x1024 .f32) : FVec Ideal S4x8192x1024 .f32 :=
  mulf (mulf x (broadcastInDim S4x8192x1024 ![0, 1, 2] bcast_S4x8192x1_S4x8192x1024_0_1_2 (Host.rsqrt (addf (Host.divf
    (broadcastInDim S4x8192x1 ![0, 1] bcast_S4x8192_S4x8192x1_0_1 (Host.reduceAdd (mulf x x) (constant S_ .f32 0x00000000#32)
      reducesTo_S4x8192x1024_S4x8192_d2 h_S_)) (broadcastInDim S4x8192x1 ![] bcast_S_S4x8192x1 (constant S_ .f32 0x44800000#32)))
    (broadcastInDim S4x8192x1 ![] bcast_S_S4x8192x1 (constant S_ .f32 0x358637BD#32))))))
    (broadcastInDim S4x8192x1024 ![0, 1, 2] bcast_S1x1x1024_S4x8192x1024_0_1_2
      (broadcastInDim S1x1x1024 ![2] bcast_S1024_S1x1x1024_2 (shapeCast _ g shapeCasts_S1x1024_S1024)))

theorem normed_at (x g b t k) : normed x g (ix3 b t k) = rmsRow (fun k => x (ix3 b t k)) (fun k => g (ix2 0 k)) k := by
  pointwise [normed]
  rfl

variable (m : (ℓ : Loc nD τ sig) → Buf (Elt Ideal) ℓ) (c : Dev nD)

/-- The last call's result is made of the same arrays as the other calls'. -/
theorem result_eq : res_main_v72 m c = normed (Cert.Reference3Ideal.Value.latents (m ((c.tc : Thread nD τ).loc main_arg0))
      (Cert.Reference3Ideal.Value.full (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11)))
      (m ((c.tc : Thread nD τ).loc main_arg1))) (m ((c.tc : Thread nD τ).loc main_arg12)) := rfl

end Cert.Reference4Ideal.Value
end
-- ==== Proof.MgTile.lean ====
module
public import proofs.«01_k».proof.Proof.MgBlock
public import proofs.«01_k».proof.Proof.MgRef
@[expose] public section
set_option maxRecDepth 16384
noncomputable section
/-! Blocks of 256 tokens in the arrays they are cut out of, and the merge's row of a block as the array's. -/
namespace Cert.Merge
open Idealize.ShloMosaic

/-- A block of tokens at an index, in an array of three dimensions. -/
theorem tile_at {N n : ℕ} {e : EltTy} (A : Vec Ideal ⟨3, ![4, N, n]⟩ e) (B : Vec Ideal ⟨3, ![1, 256, n]⟩ e)
    (emb : Shape.Idx ⟨3, ![1, 256, n]⟩ → Shape.Idx ⟨3, ![4, N, n]⟩) (ix : Fin 3 → ℕ) (b : Fin 4) (T : Fin N) (l : Fin n)
    (h : ∀ x, B x = A (emb x)) (he : ∀ x a, (emb x a).val = ix a * (![1, 256, n] : Fin 3 → ℕ) a + 1 * (x a).val)
    (hi : ix 0 = b.val ∧ ix 1 = T.val / 256 ∧ ix 2 = 0) : B (ix3 0 ⟨T.val % 256, by omega⟩ l) = A (ix3 b T l) := by
  obtain ⟨i0, i1, i2⟩ := hi
  rw [h]
  congr 1
  funext a
  apply Fin.ext
  rw [he, Nat.one_mul]
  fin_cases a
  · show ix 0 * 1 + 0 = b.val; omega
  · show ix 1 * 256 + T.val % 256 = T.val; omega
  · show ix 2 * n + l.val = l.val; rw [i2]; omega

/-- A block of tokens of one of the two directions. -/
theorem tile_dir {N n : ℕ} {e : EltTy} (A : Vec Ideal ⟨4, ![2, 4, N, n]⟩ e) (B : Vec Ideal ⟨4, ![1, 1, 256, n]⟩ e)
    (emb : Shape.Idx ⟨4, ![1, 1, 256, n]⟩ → Shape.Idx ⟨4, ![2, 4, N, n]⟩) (ix : Fin 4 → ℕ) (d : Fin 2) (b : Fin 4) (T : Fin N)
    (l : Fin n) (h : ∀ x, B x = A (emb x))
    (he : ∀ x a, (emb x a).val = ix a * (![1, 1, 256, n] : Fin 4 → ℕ) a + 1 * (x a).val)
    (hi : ix 0 = d.val ∧ ix 1 = b.val ∧ ix 2 = T.val / 256 ∧ ix 3 = 0) :
    B (ix4 0 0 ⟨T.val % 256, by omega⟩ l) = A (ix4 d b T l) := by
  obtain ⟨i0, i1, i2, i3⟩ := hi
  rw [h]
  congr 1
  funext a
  apply Fin.ext
  rw [he, Nat.one_mul]
  fin_cases a
  · show ix 0 * 1 + 0 = d.val; omega
  · show ix 1 * 1 + 0 = b.val; omega
  · show ix 2 * 256 + T.val % 256 = T.val; omega
  · show ix 3 * n + l.val = l.val; rw [i3]; omega

/-- A row of the modulation. -/
theorem tile_mod {e : EltTy} (A : Vec Ideal ⟨3, ![8, 1, 3072]⟩ e) (B : Vec Ideal ⟨3, ![1, 1, 3072]⟩ e)
    (emb : Shape.Idx ⟨3, ![1, 1, 3072]⟩ → Shape.Idx ⟨3, ![8, 1, 3072]⟩) (ix : Fin 3 → ℕ) (b : Fin 8) (k : Fin 3072)
    (h : ∀ x, B x = A (emb x)) (he : ∀ x a, (emb x a).val = ix a * (![1, 1, 3072] : Fin 3 → ℕ) a + 1 * (x a).val)
    (hi : ix 0 = b.val ∧ ix 1 = 0 ∧ ix 2 = 0) : B (ix3 0 0 k) = A (ix3 b 0 k) := by
  obtain ⟨i0, i1, i2⟩ := hi
  rw [h]
  congr 1
  funext a
  apply Fin.ext
  rw [he, Nat.one_mul]
  fin_cases a
  · show ix 0 * 1 + 0 = b.val; omega
  · show ix 1 * 1 + 0 = 0; omega
  · show ix 2 * 3072 + k.val = k.val; omega

/-- A window that stages a whole array at every point holds the array. -/
theorem tile_all {s0 s1 : ℕ} {e : EltTy} (A B : Vec Ideal ⟨2, ![s0, s1]⟩ e)
    (emb : Shape.Idx ⟨2, ![s0, s1]⟩ → Shape.Idx ⟨2, ![s0, s1]⟩) (h : ∀ x, B x = A (emb x))
    (he : ∀ x a, (emb x a).val = 0 * (![s0, s1] : Fin 2 → ℕ) a + 1 * (x a).val) : B = A := by
  funext x
  rw [h]
  congr 1
  funext a
  apply Fin.ext
  rw [he]
  omega

section
open Cert.Kernel3Ideal
variable (x0 : Vec Ideal S1x256x1024 .f32) (x1 : Vec Ideal S1x1x3072 .f32) (x2 x3 : Vec Ideal S1x1x256x512 .f32)
  (x4 : Vec Ideal S1x256x512 .bf16) (x5 : Vec Ideal S1x512 .f32) (x6 x7 : Vec Ideal S1x256x512 .bf16)
  (x8 : Vec Ideal S1x256x3072 .bf16) (x9 x10 x11 : Vec Ideal S512x1024 .bf16) (x12 : Vec Ideal S1024x1024 .bf16)
  (A0 : Vec Ideal S4x8448x1024 .f32) (A1 : Vec Ideal S8x1x3072 .f32) (A2 : Vec Ideal S2x4x8448x512 .f32)
  (A3 : Vec Ideal S4x8448x512 .bf16) (A4 : Vec Ideal S1x512 .f32) (A5 A6 : Vec Ideal S4x8448x512 .bf16)
  (A7 : Vec Ideal S4x8448x3072 .bf16) (A8 A9 A10 : Vec Ideal S512x1024 .bf16) (A11 : Vec Ideal S1024x1024 .bf16)

/-- The merge's row of a block is its row of the arrays the block is cut out of. -/
theorem brow_trow (r : Fin 256) (b : Fin 4) (T : Fin 8448) (h0 : ∀ k, x0 (ix3 0 r k) = A0 (ix3 b T k))
    (h1 : ∀ k, x1 (ix3 0 0 k) = A1 (ix3 (Cert.Reference3Ideal.Value.modRow b T.val) 0 k))
    (h2 : ∀ k, x2 (ix4 0 0 r k) = A2 (ix4 0 b T k)) (h3 : ∀ k, x3 (ix4 0 0 r k) = A2 (ix4 1 b T k))
    (h4 : ∀ k, x4 (ix3 0 r k) = A3 (ix3 b T k)) (h5 : x5 = A4) (h6 : ∀ k, x6 (ix3 0 r k) = A5 (ix3 b T k))
    (h7 : ∀ k, x7 (ix3 0 r k) = A6 (ix3 b T k)) (h8 : ∀ k, x8 (ix3 0 r k) = A7 (ix3 b T k)) (h9 : x9 = A8)
    (h10 : x10 = A9) (h11 : x11 = A10) (h12 : x12 = A11) :
    Cert.Kernel3Ideal.Value.brow x0 x1 x2 x3 x4 x5 x6 x7 x8 x9 x10 x11 x12 r =
      Cert.Reference3Ideal.Value.trow A0 A1 A2 A3 A4 A5 A6 A7 A8 A9 A10 A11 b T := by
  subst h5 h9 h10 h11 h12
  unfold Cert.Kernel3Ideal.Value.brow Cert.Reference3Ideal.Value.trow
  simp only [h0, h1, h2, h3, h4, h6, h7, h8]

end
end Cert.Merge
end
-- ==== Proof.MgArray.lean ====
module
public import proofs.«01_k».proof.Proof.MgTile
@[expose] public section
set_option maxRecDepth 16384
noncomputable section
/-! The merge's array after the run, index by index. -/
namespace Cert.Kernel3Ideal.Value
open Cert.Kernel3Ideal Cert.Kernel3Ideal.Gen Idealize.ShloMosaic Idealize.ShloMosaic.TcCoe Idealize.SL.Sem
open Cert.Merge
open Cert.Reference3Ideal.Value (modRow trow)

/-- The point that works on a token. -/
def pt (b : Fin 4) (T : Fin 8448) : Fin cfg0.N := ⟨b.val * 33 + T.val / 256, by rw [show cfg0.N = 132 from N_0]; omega⟩

/-- The blocks each point works on: the tokens', the modulation's, and the two directions'. -/
theorem index0 : ∀ t : Fin cfg0.N, win0_0.index t (0 : Fin 3) = t.val / 33 ∧ win0_0.index t (1 : Fin 3) = t.val % 33 ∧
    win0_0.index t (2 : Fin 3) = 0 := (by decide +kernel : ∀ t : Fin grid0.N, _)
theorem index1 : ∀ t : Fin cfg0.N, win0_1.index t (0 : Fin 3) = (if t.val % 33 < 32 then t.val / 33 else 4) ∧
    win0_1.index t (1 : Fin 3) = 0 ∧ win0_1.index t (2 : Fin 3) = 0 := (by decide +kernel : ∀ t : Fin grid0.N, _)
theorem index2 : ∀ t : Fin cfg0.N, win0_2.index t (0 : Fin 4) = 0 ∧ win0_2.index t (1 : Fin 4) = t.val / 33 ∧
    win0_2.index t (2 : Fin 4) = t.val % 33 ∧ win0_2.index t (3 : Fin 4) = 0 := (by decide +kernel : ∀ t : Fin grid0.N, _)
theorem index3 : ∀ t : Fin cfg0.N, win0_3.index t (0 : Fin 4) = 1 ∧ win0_3.index t (1 : Fin 4) = t.val / 33 ∧
    win0_3.index t (2 : Fin 4) = t.val % 33 ∧ win0_3.index t (3 : Fin 4) = 0 := (by decide +kernel : ∀ t : Fin grid0.N, _)

section
variable (b : Fin 4) (T : Fin 8448)

/-- The point of a token works on the token's block. -/
theorem index0_pt : win0_0.index (pt b T) (0 : Fin 3) = b.val ∧ win0_0.index (pt b T) (1 : Fin 3) = T.val / 256 ∧
    win0_0.index (pt b T) (2 : Fin 3) = 0 := by
  obtain ⟨e0, e1, e2⟩ := index0 (pt b T)
  have ht : (pt b T).val = b.val * 33 + T.val / 256 := rfl
  refine ⟨?_, ?_, e2⟩ <;> omega
theorem index1_pt : win0_1.index (pt b T) (0 : Fin 3) = (modRow b T.val).val ∧ win0_1.index (pt b T) (1 : Fin 3) = 0 ∧
    win0_1.index (pt b T) (2 : Fin 3) = 0 := by
  obtain ⟨e0, e1, e2⟩ := index1 (pt b T)
  have ht : (pt b T).val = b.val * 33 + T.val / 256 := rfl
  refine ⟨?_, e1, e2⟩
  rw [e0]
  unfold modRow
  by_cases hT : T.val < 8192
  · rw [if_pos hT, if_pos (by omega)]
    show _ = b.val
    omega
  · rw [if_neg hT, if_neg (by omega)]
    rfl
theorem index2_pt : win0_2.index (pt b T) (0 : Fin 4) = (0 : Fin 2).val ∧ win0_2.index (pt b T) (1 : Fin 4) = b.val ∧
    win0_2.index (pt b T) (2 : Fin 4) = T.val / 256 ∧ win0_2.index (pt b T) (3 : Fin 4) = 0 := by
  obtain ⟨e0, e1, e2, e3⟩ := index2 (pt b T)
  have ht : (pt b T).val = b.val * 33 + T.val / 256 := rfl
  refine ⟨e0, ?_, ?_, e3⟩ <;> omega
theorem index3_pt : win0_3.index (pt b T) (0 : Fin 4) = (1 : Fin 2).val ∧ win0_3.index (pt b T) (1 : Fin 4) = b.val ∧
    win0_3.index (pt b T) (2 : Fin 4) = T.val / 256 ∧ win0_3.index (pt b T) (3 : Fin 4) = 0 := by
  obtain ⟨e0, e1, e2, e3⟩ := index3 (pt b T)
  have ht : (pt b T).val = b.val * 33 + T.val / 256 := rfl
  refine ⟨e0, ?_, ?_, e3⟩ <;> omega
end

variable (m : (ℓ : Loc nD τ sig) → Buf (Elt Ideal) ℓ) (ρ : Dev nD → PrngReg) (c : Dev nD)

/-- A token's row after the merge, in the launched arrays. -/
abbrev mrow (b : Fin 4) (T : Fin 8448) : Fin 1024 → EReal :=
  trow (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11)) b T

/-- The row of the block at the token's point is the token's. -/
theorem brow_eq (b : Fin 4) (T : Fin 8448) :
    brow (iblk m c 0 (pt b T)) (iblk m c 1 (pt b T)) (iblk m c 2 (pt b T)) (iblk m c 3 (pt b T)) (iblk m c 4 (pt b T))
      (iblk m c 5 (pt b T)) (iblk m c 6 (pt b T)) (iblk m c 7 (pt b T)) (iblk m c 8 (pt b T)) (iblk m c 9 (pt b T))
      (iblk m c 10 (pt b T)) (iblk m c 11 (pt b T)) (iblk m c 12 (pt b T)) ⟨T.val % 256, by omega⟩ = mrow m c b T := by
  refine brow_trow _ _ _ _ _ _ _ _ _ _ _ _ _ _ _ _ _ _ _ _ _ _ _ _ _ _ b T ?_ ?_ ?_ ?_ ?_ ?_ ?_ ?_ ?_ ?_ ?_ ?_ ?_
  · exact fun k => tile_at (V m c main_arg0) (iblk m c 0 (pt b T)) ((cfg0.win 0).blk (pt b T)).view.emb
      (win0_0.index (pt b T)) b T k (fun _ => rfl) (fun _ _ => rfl) (index0_pt b T)
  · exact fun k => tile_mod (V m c main_arg1) (iblk m c 1 (pt b T)) ((cfg0.win 1).blk (pt b T)).view.emb
      (win0_1.index (pt b T)) (modRow b T.val) k (fun _ => rfl) (fun _ _ => rfl) (index1_pt b T)
  · exact fun k => tile_dir (V m c main_arg2) (iblk m c 2 (pt b T)) ((cfg0.win 2).blk (pt b T)).view.emb
      (win0_2.index (pt b T)) 0 b T k (fun _ => rfl) (fun _ _ => rfl) (index2_pt b T)
  · exact fun k => tile_dir (V m c main_arg2) (iblk m c 3 (pt b T)) ((cfg0.win 3).blk (pt b T)).view.emb
      (win0_3.index (pt b T)) 1 b T k (fun _ => rfl) (fun _ _ => rfl) (index3_pt b T)
  · exact fun k => tile_at (V m c main_arg3) (iblk m c 4 (pt b T)) ((cfg0.win 4).blk (pt b T)).view.emb
      (win0_0.index (pt b T)) b T k (fun _ => rfl) (fun _ _ => rfl) (index0_pt b T)
  · exact tile_all (V m c main_arg4) _ ((cfg0.win 5).blk (pt b T)).view.emb (fun _ => rfl) (fun x a => by fin_cases a <;> rfl)
  · exact fun k => tile_at (V m c main_arg5) (iblk m c 6 (pt b T)) ((cfg0.win 6).blk (pt b T)).view.emb
      (win0_0.index (pt b T)) b T k (fun _ => rfl) (fun _ _ => rfl) (index0_pt b T)
  · exact fun k => tile_at (V m c main_arg6) (iblk m c 7 (pt b T)) ((cfg0.win 7).blk (pt b T)).view.emb
      (win0_0.index (pt b T)) b T k (fun _ => rfl) (fun _ _ => rfl) (index0_pt b T)
  · exact fun k => tile_at (V m c main_arg7) (iblk m c 8 (pt b T)) ((cfg0.win 8).blk (pt b T)).view.emb
      (win0_0.index (pt b T)) b T k (fun _ => rfl) (fun _ _ => rfl) (index0_pt b T)
  · exact tile_all (V m c main_arg8) _ ((cfg0.win 9).blk (pt b T)).view.emb (fun _ => rfl) (fun x a => by fin_cases a <;> rfl)
  · exact tile_all (V m c main_arg9) _ ((cfg0.win 10).blk (pt b T)).view.emb (fun _ => rfl) (fun x a => by fin_cases a <;> rfl)
  · exact tile_all (V m c main_arg10) _ ((cfg0.win 11).blk (pt b T)).view.emb (fun _ => rfl) (fun x a => by fin_cases a <;> rfl)
  · exact tile_all (V m c main_arg11) _ ((cfg0.win 12).blk (pt b T)).view.emb (fun _ => rfl) (fun x a => by fin_cases a <;> rfl)

/-- Two points write apart. -/
theorem point_inj : ∀ t t' : Fin cfg0.N, win0_14.index t = win0_14.index t' → t = t' :=
  (by decide +kernel : ∀ t t' : Fin grid0.N, win0_14.index t = win0_14.index t' → t = t')

/-- A point's block of the array, read back, is what the point stored. -/
theorem read14 (t : Fin cfg0.N) : ((cfg0.win 14).blk t).view.read (Elt Ideal) ((dats m 0 c).arrAt 14 cfg0.N) =
    out0_14 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) :=
  ((dats m 0 c).read_blk_arrAt_eq_flushed 14
    (fun t t' _ _ hne => (cfg0.win 14).disjoint_blk fun h => hne (point_inj t t' h)) cfg0.N t t.isLt (flush0_14 t)).trans
    (congrArg ((cfg0.win 14).cut (grid0.coords t)) (after0_14 m c t))

/-- The array at an index: the token's row. -/
theorem arr14 (b : Fin 4) (T : Fin 8448) (j : Fin 1024) : (dats m 0 c).arrAt 14 cfg0.N (ix3 b T j) = mrow m c b T j := by
  refine (tile_at ((dats m 0 c).arrAt 14 cfg0.N) _ ((cfg0.win 14).blk (pt b T)).view.emb (win0_0.index (pt b T)) b T j
    (fun x => (congrFun (read14 m c (pt b T)) x).symm) (fun _ _ => rfl) (index0_pt b T)).symm.trans ?_
  rw [out14_at, brow_eq]

/-- The run leaves the array, and the arguments as they were. -/
theorem run_out : θ_run defs (onTc (τ := τ) (main (F := Ideal))) ⟨m, fun _ => 0, ρ⟩ fun r => ∀ c : Dev nD,
    r.2.mem ((c.tc : Thread nD τ).loc main_v0) = (dats m 0 c).arrAt 14 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) := by
  refine (θ_run defs _ _).mono (fun r h c => ?_) (run_main m ρ)
  have k : ∀ w, (cfg0.win w).isOut = false → r.2.mem _ = _ := fun w hw =>
    ((h c).1 w).trans (((dats m 0 c).arrAt_in w hw _).trans (A_eq m c w))
  exact ⟨(h c).1 14, k 0 rfl, k 1 rfl, k 3 rfl, k 4 rfl, k 5 rfl, k 6 rfl, k 7 rfl, k 8 rfl, k 9 rfl, k 10 rfl, k 11 rfl,
    k 12 rfl, k 13 rfl⟩

end Cert.Kernel3Ideal.Value
end
-- ==== Proof.MgLast.lean ====
module
public import proofs.«01_k».proof.Proof.MgTile
@[expose] public section
set_option maxRecDepth 16384
noncomputable section
/-! The array of the merge's last call after the run, index by index: the latent tokens alone, normalised. -/
namespace Cert.Kernel4Ideal.Value
open Cert.Kernel4Ideal Cert.Kernel4Ideal.Gen Idealize.ShloMosaic Idealize.ShloMosaic.TcCoe Idealize.SL.Sem
open Cert.Merge
open Cert.Reference3Ideal.Value (modRow trow)

/-- A latent token among all the tokens. -/
def tok (T : Fin 8192) : Fin 8448 := ⟨T.val, by omega⟩

/-- The point that works on a token. -/
def pt (b : Fin 4) (T : Fin 8192) : Fin cfg0.N := ⟨b.val * 32 + T.val / 256, by rw [show cfg0.N = 128 from N_0]; omega⟩

/-- The blocks each point works on: the tokens', the modulation's, and the two directions'. -/
theorem index0 : ∀ t : Fin cfg0.N, win0_0.index t (0 : Fin 3) = t.val / 32 ∧ win0_0.index t (1 : Fin 3) = t.val % 32 ∧
    win0_0.index t (2 : Fin 3) = 0 := (by decide +kernel : ∀ t : Fin grid0.N, _)
theorem index1 : ∀ t : Fin cfg0.N, win0_1.index t (0 : Fin 3) = t.val / 32 ∧
    win0_1.index t (1 : Fin 3) = 0 ∧ win0_1.index t (2 : Fin 3) = 0 := (by decide +kernel : ∀ t : Fin grid0.N, _)
theorem index2 : ∀ t : Fin cfg0.N, win0_2.index t (0 : Fin 4) = 0 ∧ win0_2.index t (1 : Fin 4) = t.val / 32 ∧
    win0_2.index t (2 : Fin 4) = t.val % 32 ∧ win0_2.index t (3 : Fin 4) = 0 := (by decide +kernel : ∀ t : Fin grid0.N, _)
theorem index3 : ∀ t : Fin cfg0.N, win0_3.index t (0 : Fin 4) = 1 ∧ win0_3.index t (1 : Fin 4) = t.val / 32 ∧
    win0_3.index t (2 : Fin 4) = t.val % 32 ∧ win0_3.index t (3 : Fin 4) = 0 := (by decide +kernel : ∀ t : Fin grid0.N, _)

section
variable (b : Fin 4) (T : Fin 8192)

/-- The point of a token works on the token's block. -/
theorem index0_pt : win0_0.index (pt b T) (0 : Fin 3) = b.val ∧ win0_0.index (pt b T) (1 : Fin 3) = T.val / 256 ∧
    win0_0.index (pt b T) (2 : Fin 3) = 0 := by
  obtain ⟨e0, e1, e2⟩ := index0 (pt b T)
  have ht : (pt b T).val = b.val * 32 + T.val / 256 := rfl
  refine ⟨?_, ?_, e2⟩ <;> omega
theorem index1_pt : win0_1.index (pt b T) (0 : Fin 3) = (modRow b T.val).val ∧ win0_1.index (pt b T) (1 : Fin 3) = 0 ∧
    win0_1.index (pt b T) (2 : Fin 3) = 0 := by
  obtain ⟨e0, e1, e2⟩ := index1 (pt b T)
  have ht : (pt b T).val = b.val * 32 + T.val / 256 := rfl
  refine ⟨?_, e1, e2⟩
  unfold modRow
  rw [e0, if_pos T.isLt]
  show _ = b.val
  omega
theorem index2_pt : win0_2.index (pt b T) (0 : Fin 4) = (0 : Fin 2).val ∧ win0_2.index (pt b T) (1 : Fin 4) = b.val ∧
    win0_2.index (pt b T) (2 : Fin 4) = T.val / 256 ∧ win0_2.index (pt b T) (3 : Fin 4) = 0 := by
  obtain ⟨e0, e1, e2, e3⟩ := index2 (pt b T)
  have ht : (pt b T).val = b.val * 32 + T.val / 256 := rfl
  refine ⟨e0, ?_, ?_, e3⟩ <;> omega
theorem index3_pt : win0_3.index (pt b T) (0 : Fin 4) = (1 : Fin 2).val ∧ win0_3.index (pt b T) (1 : Fin 4) = b.val ∧
    win0_3.index (pt b T) (2 : Fin 4) = T.val / 256 ∧ win0_3.index (pt b T) (3 : Fin 4) = 0 := by
  obtain ⟨e0, e1, e2, e3⟩ := index3 (pt b T)
  have ht : (pt b T).val = b.val * 32 + T.val / 256 := rfl
  refine ⟨e0, ?_, ?_, e3⟩ <;> omega
end

variable (m : (ℓ : Loc nD τ sig) → Buf (Elt Ideal) ℓ) (ρ : Dev nD → PrngReg) (c : Dev nD)

/-- A token's row after the merge, in the launched arrays. -/
abbrev mrow (b : Fin 4) (T : Fin 8192) : Fin 1024 → EReal :=
  trow (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11)) b (tok T)

/-- The row of the block at the token's point is the token's. -/
theorem brow_eq (b : Fin 4) (T : Fin 8192) :
    Cert.Kernel3Ideal.Value.brow (iblk m c 0 (pt b T)) (iblk m c 1 (pt b T)) (iblk m c 2 (pt b T)) (iblk m c 3 (pt b T)) (iblk m c 4 (pt b T))
      (iblk m c 5 (pt b T)) (iblk m c 6 (pt b T)) (iblk m c 7 (pt b T)) (iblk m c 8 (pt b T)) (iblk m c 9 (pt b T))
      (iblk m c 10 (pt b T)) (iblk m c 11 (pt b T)) (iblk m c 12 (pt b T)) ⟨T.val % 256, by omega⟩ = mrow m c b T := by
  refine brow_trow _ _ _ _ _ _ _ _ _ _ _ _ _ _ _ _ _ _ _ _ _ _ _ _ _ _ b (tok T) ?_ ?_ ?_ ?_ ?_ ?_ ?_ ?_ ?_ ?_ ?_ ?_ ?_
  · exact fun k => tile_at (V m c main_arg0) (iblk m c 0 (pt b T)) ((cfg0.win 0).blk (pt b T)).view.emb
      (win0_0.index (pt b T)) b (tok T) k (fun _ => rfl) (fun _ _ => rfl) (index0_pt b T)
  · exact fun k => tile_mod (V m c main_arg1) (iblk m c 1 (pt b T)) ((cfg0.win 1).blk (pt b T)).view.emb
      (win0_1.index (pt b T)) (modRow b T.val) k (fun _ => rfl) (fun _ _ => rfl) (index1_pt b T)
  · exact fun k => tile_dir (V m c main_arg2) (iblk m c 2 (pt b T)) ((cfg0.win 2).blk (pt b T)).view.emb
      (win0_2.index (pt b T)) 0 b (tok T) k (fun _ => rfl) (fun _ _ => rfl) (index2_pt b T)
  · exact fun k => tile_dir (V m c main_arg2) (iblk m c 3 (pt b T)) ((cfg0.win 3).blk (pt b T)).view.emb
      (win0_3.index (pt b T)) 1 b (tok T) k (fun _ => rfl) (fun _ _ => rfl) (index3_pt b T)
  · exact fun k => tile_at (V m c main_arg3) (iblk m c 4 (pt b T)) ((cfg0.win 4).blk (pt b T)).view.emb
      (win0_0.index (pt b T)) b (tok T) k (fun _ => rfl) (fun _ _ => rfl) (index0_pt b T)
  · exact tile_all (V m c main_arg4) _ ((cfg0.win 5).blk (pt b T)).view.emb (fun _ => rfl) (fun x a => by fin_cases a <;> rfl)
  · exact fun k => tile_at (V m c main_arg5) (iblk m c 6 (pt b T)) ((cfg0.win 6).blk (pt b T)).view.emb
      (win0_0.index (pt b T)) b (tok T) k (fun _ => rfl) (fun _ _ => rfl) (index0_pt b T)
  · exact fun k => tile_at (V m c main_arg6) (iblk m c 7 (pt b T)) ((cfg0.win 7).blk (pt b T)).view.emb
      (win0_0.index (pt b T)) b (tok T) k (fun _ => rfl) (fun _ _ => rfl) (index0_pt b T)
  · exact fun k => tile_at (V m c main_arg7) (iblk m c 8 (pt b T)) ((cfg0.win 8).blk (pt b T)).view.emb
      (win0_0.index (pt b T)) b (tok T) k (fun _ => rfl) (fun _ _ => rfl) (index0_pt b T)
  · exact tile_all (V m c main_arg8) _ ((cfg0.win 9).blk (pt b T)).view.emb (fun _ => rfl) (fun x a => by fin_cases a <;> rfl)
  · exact tile_all (V m c main_arg9) _ ((cfg0.win 10).blk (pt b T)).view.emb (fun _ => rfl) (fun x a => by fin_cases a <;> rfl)
  · exact tile_all (V m c main_arg10) _ ((cfg0.win 11).blk (pt b T)).view.emb (fun _ => rfl) (fun x a => by fin_cases a <;> rfl)
  · exact tile_all (V m c main_arg11) _ ((cfg0.win 12).blk (pt b T)).view.emb (fun _ => rfl) (fun x a => by fin_cases a <;> rfl)

/-- Two points write apart. -/
theorem point_inj : ∀ t t' : Fin cfg0.N, win0_14.index t = win0_14.index t' → t = t' :=
  (by decide +kernel : ∀ t t' : Fin grid0.N, win0_14.index t = win0_14.index t' → t = t')

/-- A point's block of the array, read back, is what the point stored. -/
theorem read14 (t : Fin cfg0.N) : ((cfg0.win 14).blk t).view.read (Elt Ideal) ((dats m 0 c).arrAt 14 cfg0.N) =
    out0_14 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) :=
  ((dats m 0 c).read_blk_arrAt_eq_flushed 14
    (fun t t' _ _ hne => (cfg0.win 14).disjoint_blk fun h => hne (point_inj t t' h)) cfg0.N t t.isLt (flush0_14 t)).trans
    (congrArg ((cfg0.win 14).cut (grid0.coords t)) (after0_14 m c t))

/-- The array at an index: the token's row, normalised. -/
theorem arr14 (b : Fin 4) (T : Fin 8192) (j : Fin 1024) : (dats m 0 c).arrAt 14 cfg0.N (ix3 b T j) =
    rmsRow (mrow m c b T) (fun j => m ((c : Thread nD τ).loc main_arg12) (ix2 0 j)) j := by
  refine (tile_at ((dats m 0 c).arrAt 14 cfg0.N) _ ((cfg0.win 14).blk (pt b T)).view.emb (win0_0.index (pt b T)) b T j
    (fun x => (congrFun (read14 m c (pt b T)) x).symm) (fun _ _ => rfl) (index0_pt b T)).symm.trans ?_
  rw [out14_at, brow_eq, tile_all (V m c main_arg12) (iblk m c 13 (pt b T)) ((cfg0.win 13).blk (pt b T)).view.emb
    (fun _ => rfl) (fun x a => by fin_cases a <;> rfl)]

/-- The run leaves the array, and the arguments as they were. -/
theorem run_out : θ_run defs (onTc (τ := τ) (main (F := Ideal))) ⟨m, fun _ => 0, ρ⟩ fun r => ∀ c : Dev nD,
    r.2.mem ((c.tc : Thread nD τ).loc main_v0) = (dats m 0 c).arrAt 14 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) := by
  refine (θ_run defs _ _).mono (fun r h c => ?_) (run_main m ρ)
  have k : ∀ w, (cfg0.win w).isOut = false → r.2.mem _ = _ := fun w hw =>
    ((h c).1 w).trans (((dats m 0 c).arrAt_in w hw _).trans (A_eq m c w))
  exact ⟨(h c).1 14, k 0 rfl, k 1 rfl, k 3 rfl, k 4 rfl, k 5 rfl, k 6 rfl, k 7 rfl, k 8 rfl, k 9 rfl, k 10 rfl, k 11 rfl,
    k 12 rfl, k 13 rfl⟩

end Cert.Kernel4Ideal.Value
end
-- ==== Proof.MgClaim.lean ====
module
public import proofs.«01_k».proof.Defs
public import proofs.«01_k».proof.Proof.Gen.Reference3Ideal
public import proofs.«01_k».proof.Proof.Gen.Reference4Ideal
public import proofs.«01_k».proof.Proof.MgArray
public import proofs.«01_k».proof.Proof.MgLast
public import Idealize.ShloMosaic.Adequacy
public import Idealize.ShloMosaic.Init
@[expose] public section
set_option maxRecDepth 16384
noncomputable section
/-! The merge's programs end with equal arrays, in every layer's call and in the last one. -/
namespace Cert.Merge
open Idealize.ShloMosaic Idealize.ShloMosaic.TcCoe Idealize.SL.Sem

/-- Two arrays that agree at every three coordinates are equal. -/
theorem ext3 {a b c : ℕ} {e : EltTy} (A B : Vec Ideal ⟨3, ![a, b, c]⟩ e) (h : ∀ x y z, A (ix3 x y z) = B (ix3 x y z)) : A = B := by
  funext i
  rw [show i = ix3 (i 0) (i 1) (i 2) from funext fun x => by fin_cases x <;> rfl]
  exact h _ _ _

/-- The merge and its plain mathematics end with equal results. -/
theorem algebraicMerge : Cert.algebraic_Kernel3Ideal_Reference3Ideal (hKernel3Ideal := Cert.Kernel3Ideal.Gen.facts)
    (hReference3Ideal := Cert.Reference3Ideal.Gen.facts) := by
  intro m g m' g' _ hag
  refine ⟨fun c => (Cert.Kernel3Ideal.Gen.dats m 0 c).arrAt 14 Cert.Kernel3Ideal.cfg0.N, Cert.Kernel3Ideal.Value.run_out m g, ?_⟩
  refine (θ_run Cert.Reference3Ideal.defs _ _).mono (fun r h c => ?_) (Cert.Reference3Ideal.Value.run m' g')
  obtain ⟨e0, e1, e2, e3, e4, e5, e6, e7, e8, e9, e10, e11, -⟩ := hag c
  refine ⟨(h c).1.trans (ext3 _ _ fun b T j => ?_), (h c).2⟩
  rw [Cert.Reference3Ideal.Value.result_eq, Cert.Reference3Ideal.Value.joined_row, e0, e1, e2, e3, e4, e5, e6, e7, e8, e9, e10, e11]
  exact (Cert.Kernel3Ideal.Value.arr14 m c b T j).symm

/-- So do they in the last layer's call, which keeps the latent tokens and normalises them. -/
theorem algebraicLast : Cert.algebraic_Kernel4Ideal_Reference4Ideal (hKernel4Ideal := Cert.Kernel4Ideal.Gen.facts)
    (hReference4Ideal := Cert.Reference4Ideal.Gen.facts) := by
  intro m g m' g' _ hag
  refine ⟨fun c => (Cert.Kernel4Ideal.Gen.dats m 0 c).arrAt 14 Cert.Kernel4Ideal.cfg0.N, Cert.Kernel4Ideal.Value.run_out m g, ?_⟩
  refine (θ_run Cert.Reference4Ideal.defs _ _).mono (fun r h c => ?_) (Cert.Reference4Ideal.Value.run m' g')
  obtain ⟨e0, e1, e2, e3, e4, e5, e6, e7, e8, e9, e10, e11, e12⟩ := hag c
  refine ⟨(h c).1.trans (ext3 _ _ fun b T j => ?_), (h c).2⟩
  rw [Cert.Reference4Ideal.Value.result_eq, Cert.Reference4Ideal.Value.normed_at, e0, e1, e2, e3, e4, e5, e6, e7, e8, e9, e10, e11, e12]
  simp only [Cert.Reference3Ideal.Value.latents_row]
  exact (Cert.Kernel4Ideal.Value.arr14 m c b T j).symm

end Cert.Merge
end
-- ==== Proof.AdClaim.lean ====
module
public import proofs.«01_k».proof.Defs
public import proofs.«01_k».proof.Proof.Gen.Kernel5Ideal.Value
public import proofs.«01_k».proof.Proof.Gen.Reference5Ideal.Run
public import proofs.«01_k».proof.Proof.MgClaim
public import proofs.«01_k».proof.Proof.InReal
public import Idealize.ShloMosaic.Lib.Pointwise
@[expose] public section
set_option maxRecDepth 16384
noncomputable section
/-! The modulation of all the layers: the silu of the rows times each layer's weights, plus its bias. -/
namespace Cert.Ada
open Idealize.ShloMosaic Idealize.ShloMosaic.TcCoe Idealize.SL.Sem
open Cert.InProj (silu)

/-- One entry of the modulation. -/
def entry (c w : Fin 1024 → EReal) (b : EReal) : EReal := (∑ k, silu (c k) * w k) + b

/-- An index of an array whose last axis is cut in blocks of 1024 is its block's index moved. -/
theorem emb_at {n : ℕ} (emb : Shape.Idx ⟨3, ![1, n, 1024]⟩ → Shape.Idx ⟨3, ![4, n, 3072]⟩) (ix : Fin 3 → ℕ)
    (l : Fin 4) (r : Fin n) (j : Fin 3072)
    (he : ∀ x a, (emb x a).val = ix a * (![1, n, 1024] : Fin 3 → ℕ) a + 1 * (x a).val)
    (hi : ix 0 = l.val ∧ ix 1 = 0 ∧ ix 2 = j.val / 1024) : emb (ix3 0 r ⟨j.val % 1024, by omega⟩) = ix3 l r j := by
  obtain ⟨i0, i1, i2⟩ := hi
  funext a
  apply Fin.ext
  rw [he, Nat.one_mul]
  fin_cases a
  · show ix 0 * 1 + 0 = l.val; omega
  · show ix 1 * n + r.val = r.val; rw [i1]; omega
  · show ix 2 * 1024 + j.val % 1024 = j.val; omega

end Cert.Ada

namespace Cert.Kernel5Ideal.Value
open Cert.Kernel5Ideal Cert.Kernel5Ideal.Gen Idealize.ShloMosaic Idealize.ShloMosaic.TcCoe Idealize.SL.Sem
open Cert.Ada
open Cert.InProj (silu)

theorem pay1_at (x : Vec Ideal S8x1024 .f32) (w : Vec Ideal S1x1024x1024 .f32) (b : Vec Ideal S1x1x1024 .f32)
    (r : Fin 8) (j : Fin 1024) :
    k0_pay1 x w b (ix3 0 r j) = entry (fun k => x (ix2 r k)) (fun k => w (ix3 0 k j)) (b (ix3 0 0 j)) := by
  pointwise [k0_pay1]
  simp only [entry, silu]

variable (m : (ℓ : Loc nD τ sig) → Buf (Elt Ideal) ℓ) (c : Dev nD)

/-- The bias as the call finds it: a row of one for every layer. -/
theorem bias_at (l : Fin 4) (j : Fin 3072) :
    (V m c main_v0 : Vec Ideal S4x1x3072 .f32) (ix3 l 0 j) = (m ((c : Thread nD τ).loc main_arg2) : Vec Ideal S4x3072 .f32) (ix2 l j) := by
  have h : (V m c main_v0 : Vec Ideal S4x1x3072 .f32) = shapeCast S4x1x3072 (m ((c : Thread nD τ).loc main_arg2) : Vec Ideal S4x3072 .f32) shapeCasts_S4x3072_S4x1x3072 := rfl
  rw [h]
  pointwise []

/-- The point that works on a layer's column. -/
def pt (l : Fin 4) (j : Fin 3072) : Fin cfg0.N := ⟨l.val * 3 + j.val / 1024, by rw [show cfg0.N = 12 from N_0]; omega⟩

/-- The blocks each point works on: all the rows, and its layer's columns of weights, bias and result. -/
theorem index0 : ∀ t : Fin cfg0.N, win0_0.index t (0 : Fin 2) = 0 ∧ win0_0.index t (1 : Fin 2) = 0 :=
  (by decide +kernel : ∀ t : Fin grid0.N, _)
theorem index1 : ∀ t : Fin cfg0.N, win0_1.index t (0 : Fin 3) = t.val / 3 ∧ win0_1.index t (1 : Fin 3) = 0 ∧
    win0_1.index t (2 : Fin 3) = t.val % 3 := (by decide +kernel : ∀ t : Fin grid0.N, _)
theorem index2 : ∀ t : Fin cfg0.N, win0_2.index t (0 : Fin 3) = t.val / 3 ∧ win0_2.index t (1 : Fin 3) = 0 ∧
    win0_2.index t (2 : Fin 3) = t.val % 3 := (by decide +kernel : ∀ t : Fin grid0.N, _)
theorem index3 : ∀ t : Fin cfg0.N, win0_3.index t (0 : Fin 3) = t.val / 3 ∧ win0_3.index t (1 : Fin 3) = 0 ∧
    win0_3.index t (2 : Fin 3) = t.val % 3 := (by decide +kernel : ∀ t : Fin grid0.N, _)

/-- The point of a layer's column, by its coordinates. -/
theorem of_pt (l : Fin 4) (j : Fin 3072) {ix : Fin 3 → ℕ}
    (h : ix 0 = (pt l j).val / 3 ∧ ix 1 = 0 ∧ ix 2 = (pt l j).val % 3) : ix 0 = l.val ∧ ix 1 = 0 ∧ ix 2 = j.val / 1024 := by
  obtain ⟨e0, e1, e2⟩ := h
  have ht : (pt l j).val = l.val * 3 + j.val / 1024 := rfl
  refine ⟨?_, e1, ?_⟩ <;> omega

/-- The rows every point works on are the call's. -/
theorem rows_at (t : Fin cfg0.N) (r : Fin 8) (k : Fin 1024) :
    (iblk m c 0 t : Vec Ideal S8x1024 .f32) (ix2 r k) = m ((c : Thread nD τ).loc main_arg0) (ix2 r k) := by
  refine Eq.trans (congrArg (V m c main_arg0 : Vec Ideal S8x1024 .f32)
    (show ((cfg0.win 0).blk t).view.emb (ix2 r k) = ix2 r k from funext fun a => Fin.ext ?_)) (congrFun (V_main_arg0 m c) _)
  obtain ⟨e0, e1⟩ := index0 t
  fin_cases a
  · show win0_0.index t (0 : Fin 2) * 8 + 1 * r.val = r.val; omega
  · show win0_0.index t (1 : Fin 2) * 1024 + 1 * k.val = k.val; omega

/-- The weights a point works on, and the biases. -/
theorem weights_at (l : Fin 4) (k : Fin 1024) (j : Fin 3072) :
    (iblk m c 1 (pt l j) : Vec Ideal S1x1024x1024 .f32) (ix3 0 k ⟨j.val % 1024, by omega⟩) =
      m ((c : Thread nD τ).loc main_arg1) (ix3 l k j) :=
  Eq.trans (congrArg (V m c main_arg1 : Vec Ideal S4x1024x3072 .f32)
    (emb_at ((cfg0.win 1).blk (pt l j)).view.emb (win0_1.index (pt l j)) l k j (fun _ _ => rfl) (of_pt l j (index1 _))))
    (congrFun (V_main_arg1 m c) _)

theorem biases_at (l : Fin 4) (j : Fin 3072) :
    (iblk m c 2 (pt l j) : Vec Ideal S1x1x1024 .f32) (ix3 0 0 ⟨j.val % 1024, by omega⟩) =
      m ((c : Thread nD τ).loc main_arg2) (ix2 l j) :=
  Eq.trans (congrArg (V m c (Pipeline.arrRef spec0 2))
    (emb_at ((cfg0.win 2).blk (pt l j)).view.emb (win0_2.index (pt l j)) l 0 j (fun _ _ => rfl) (of_pt l j (index2 _))))
    (bias_at m c l j)

/-- What a point computes of its blocks. -/
theorem out3_at (x0 : Vec Ideal S8x1024 .f32) (x1 : Vec Ideal S1x1024x1024 .f32) (x2 : Vec Ideal S1x1x1024 .f32) (r : Fin 8)
    (j : Fin 1024) : out0_3 x0 x1 x2 (ix3 0 r j) =
      entry (fun k => x0 (ix2 r k)) (fun k => x1 (ix3 0 k j)) (x2 (ix3 0 0 j)) := by
  unfold out0_3
  rw [View.canon_unit_zero (by decide), View.ld_unit_zero (by decide), View.ld_unit_zero (by decide),
    View.ld_unit_zero (by decide)]
  exact pay1_at x0 x1 x2 r j

/-- The whole array after the run. -/
theorem arr3 (l : Fin 4) (r : Fin 8) (j : Fin 3072) : ((dats m 0 c).arrAt 3 cfg0.N : Vec Ideal S4x8x3072 .f32) (ix3 l r j) =
    entry (fun k => m ((c : Thread nD τ).loc main_arg0) (ix2 r k)) (fun k => m ((c : Thread nD τ).loc main_arg1) (ix3 l k j))
      (m ((c : Thread nD τ).loc main_arg2) (ix2 l j)) := by
  refine Eq.trans (congrArg ((dats m 0 c).arrAt 3 cfg0.N : Vec Ideal S4x8x3072 .f32)
    (emb_at ((cfg0.win 3).blk (pt l j)).view.emb (win0_3.index (pt l j)) l r j (fun _ _ => rfl) (of_pt l j (index3 _))).symm) ?_
  refine (congrFun ((blocks3 m c (pt l j) (flush0_3 (pt l j))).trans (flushed3 m c (pt l j))) _).trans ?_
  refine (out3_at _ _ _ r _).trans ?_
  simp only [rows_at, weights_at, biases_at]

end Cert.Kernel5Ideal.Value

namespace Cert.Reference5Ideal.Value
open Cert.Reference5Ideal Cert.Reference5Ideal.Gen Idealize.ShloMosaic Idealize.ShloMosaic.TcCoe
open Cert.Ada
open Cert.InProj (silu)

/-- The rows' silu. -/
def act (x : FVec Ideal S8x1024 .f32) : FVec Ideal S8x1024 .f32 :=
  mulf x (Host.divf (broadcastInDim S8x1024 ![] bcast_S_S8x1024 (constant S_ .f32 0x3F800000#32)) (addf (broadcastInDim S8x1024 ![] bcast_S_S8x1024 (constant S_ .f32 0x3F800000#32)) (Host.exp (Host.negf x))))

/-- The modulation. -/
def mods (x : FVec Ideal S8x1024 .f32) (w : FVec Ideal S4x1024x3072 .f32) (b : FVec Ideal S4x3072 .f32) : FVec Ideal S4x8x3072 .f32 :=
  addf (transpose S4x8x3072 [0, 2, 1] (Host.dotGeneral dot_S4x1024x3072_S8x1024_S4x3072x8_1_1_02_0_n_n none w x) transposes_S4x3072x8_S4x8x3072_0_2_1) (broadcastInDim S4x8x3072 ![0, 1, 2] bcast_S4x1x3072_S4x8x3072_0_1_2 (broadcastInDim S4x1x3072 ![0, 2] bcast_S4x3072_S4x1x3072_0_2 b))

theorem act_at (x r k) : act x (ix2 r k) = silu (x (ix2 r k)) := by
  pointwise [act]
  exact Cert.InProj.silu_eq _

theorem mods_at (x w b l r j) : mods x w b (ix3 l r j) = (∑ k, w (ix3 l k j) * x (ix2 r k)) + b (ix2 l j) := by
  pointwise [mods]

end Cert.Reference5Ideal.Value

namespace Cert.Ada
open Idealize.ShloMosaic Idealize.ShloMosaic.TcCoe Idealize.SL.Sem

/-- The modulation and its plain mathematics end with equal results. -/
theorem algebraicAda : Cert.algebraic_Kernel5Ideal_Reference5Ideal (hKernel5Ideal := Cert.Kernel5Ideal.Gen.facts)
    (hReference5Ideal := Cert.Reference5Ideal.Gen.facts) := by
  intro m g m' g' _ hag
  refine ⟨fun c => (Cert.Kernel5Ideal.Gen.dats m 0 c).arrAt 3 Cert.Kernel5Ideal.cfg0.N, Cert.Kernel5Ideal.Value.run_blocks m g, ?_⟩
  refine (θ_run Cert.Reference5Ideal.defs _ _).mono (fun r h c => ?_) (Cert.Reference5Ideal.Value.run m' g')
  obtain ⟨e0, e1, e2⟩ := hag c
  refine ⟨(h c).1.trans (Cert.Merge.ext3 (a := 4) (b := 8) (c := 3072) (e := .f32) _ _ fun l r j => ?_), (h c).2⟩
  refine Eq.trans (b := Cert.Reference5Ideal.Value.mods (Cert.Reference5Ideal.Value.act (m' ((c.tc : Thread Cert.Reference5Ideal.nD Cert.Reference5Ideal.τ).loc Cert.Reference5Ideal.main_arg0)))
    (m' ((c.tc : Thread Cert.Reference5Ideal.nD Cert.Reference5Ideal.τ).loc Cert.Reference5Ideal.main_arg1))
    (m' ((c.tc : Thread Cert.Reference5Ideal.nD Cert.Reference5Ideal.τ).loc Cert.Reference5Ideal.main_arg2)) (ix3 l r j)) rfl ?_
  rw [Cert.Reference5Ideal.Value.mods_at, e0, e1, e2]
  refine Eq.trans ?_ (Cert.Kernel5Ideal.Value.arr3 m c l r j).symm
  simp only [Cert.Reference5Ideal.Value.act_at, entry]
  congr 1
  exact Finset.sum_congr rfl fun k _ => mul_comm _ _

end Cert.Ada
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Finite
public import proofs.«01_k».proof.Proof.InFinite
public import proofs.«01_k».proof.Proof.InClaim
public import proofs.«01_k».proof.Proof.MgClaim
public import proofs.«01_k».proof.Proof.AdClaim
public import proofs.«01_k».proof.Proof.Tie
public import Idealize.ShloMosaic.Adequacy
public import Idealize.ShloMosaic.Init

@[expose] public section

noncomputable section

/-! The claims, assembled. -/

namespace Cert.Proof

open Idealize.ShloMosaic Idealize.ShloMosaic.TcCoe Idealize.SL.Sem Cert.Online

/-- The kernel runs and leaves its arguments and its semaphores as they were. -/
theorem frameK : Cert.quiescent_Kernel (hKernel := Cert.Kernel.Gen.facts) := fun m ρ _ => Cert.Kernel.Gen.frame m ρ

/-- So does the kernel on extended reals. -/
theorem frameKI : Cert.quiescent_KernelIdeal (hKernelIdeal := Cert.KernelIdeal.Gen.facts) :=
  fun m ρ _ => Cert.KernelIdeal.Gen.frame m ρ

/-- So does the kernel on extended reals, from numbers. -/
theorem frameKI_pre : Cert.quiescent_KernelIdeal_pre_finite_qk (hKernelIdeal := Cert.KernelIdeal.Gen.facts)
    (hPre_finite_qk := preFacts) :=
  fun m ρ _ => Cert.KernelIdeal.Gen.frame m ρ

/-- So does the reference on extended reals. -/
theorem frameRI : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- So does the reference on extended reals, from numbers. -/
theorem frameRI_pre : Cert.quiescent_ReferenceIdeal_pre_finite_qk (hReferenceIdeal := Cert.ReferenceIdeal.Gen.facts)
    (hPre_finite_qk := preFacts) :=
  fun m ρ _ => frameRI m ρ trivial

/-- The kernel's array is the reference's, for queries and keys that are numbers. -/
theorem arrays_eq (m : (ℓ : Loc Cert.KernelIdeal.nD Cert.KernelIdeal.τ Cert.KernelIdeal.sig) → Buf (Elt Ideal) ℓ)
    (c : Dev Cert.KernelIdeal.nD)
    (hq : ∀ i, (m ((c : Thread Cert.KernelIdeal.nD Cert.KernelIdeal.τ).loc Cert.KernelIdeal.main_arg0) i : EReal)
      = ((m ((c : Thread Cert.KernelIdeal.nD Cert.KernelIdeal.τ).loc Cert.KernelIdeal.main_arg0) i : EReal).toReal : EReal))
    (hk : ∀ i, (m ((c : Thread Cert.KernelIdeal.nD Cert.KernelIdeal.τ).loc Cert.KernelIdeal.main_arg1) i : EReal)
      = ((m ((c : Thread Cert.KernelIdeal.nD Cert.KernelIdeal.τ).loc Cert.KernelIdeal.main_arg1) i : EReal).toReal : EReal))
    (A0 : Vec Ideal Cert.ReferenceIdeal.S4x8448x512 .bf16) (A1 A2 : Vec Ideal Cert.ReferenceIdeal.S4x8448x128 .bf16)
    (A3 : Vec Ideal Cert.ReferenceIdeal.S4x8448x512 .bf16)
    (e0 : A0 = m ((c : Thread Cert.KernelIdeal.nD Cert.KernelIdeal.τ).loc Cert.KernelIdeal.main_arg0))
    (e1 : A1 = m ((c : Thread Cert.KernelIdeal.nD Cert.KernelIdeal.τ).loc Cert.KernelIdeal.main_arg1))
    (e2 : A2 = m ((c : Thread Cert.KernelIdeal.nD Cert.KernelIdeal.τ).loc Cert.KernelIdeal.main_arg2))
    (e3 : A3 = m ((c : Thread Cert.KernelIdeal.nD Cert.KernelIdeal.τ).loc Cert.KernelIdeal.main_arg3))
    (b : Fin 4) (T : Fin 8448) (l : Fin 512) :
    Cert.ReferenceIdeal.Value.gated (Cert.ReferenceIdeal.Value.columns (Cert.ReferenceIdeal.Value.joined
      (Cert.ReferenceIdeal.Value.lat (Cert.ReferenceIdeal.Value.qHeads A0) (Cert.ReferenceIdeal.Value.kHeads A1)
        (Cert.ReferenceIdeal.Value.vHeads A2))
      (Cert.ReferenceIdeal.Value.ctx (Cert.ReferenceIdeal.Value.qHeads A0) (Cert.ReferenceIdeal.Value.kHeads A1)
        (Cert.ReferenceIdeal.Value.vHeads A2)))) A3 (ix3 b T l)
      = (Cert.KernelIdeal.Gen.dats m 0 c).arrAt 4 Cert.KernelIdeal.cfg0.N (ix3 b T l) := by
  obtain ⟨Q, hQ⟩ : ∃ Q : Fin 4 → ℕ → ℕ → ℝ, ∀ (b : Fin 4) (t : Fin 8448) (l : Fin 512),
      A0 (ix3 b t l) = ((Q b t.val l.val : ℝ) : EReal) := by
    refine ⟨fun b t l => if h : t < 8448 ∧ l < 512 then (A0 (ix3 b ⟨t, h.1⟩ ⟨l, h.2⟩) : EReal).toReal else 0, ?_⟩
    intro b t l
    dsimp only
    rw [dif_pos ⟨t.isLt, l.isLt⟩, e0]
    exact hq _
  obtain ⟨K, hK⟩ : ∃ K : Fin 4 → ℕ → Fin 128 → ℝ, ∀ (b : Fin 4) (t : Fin 8448) (x : Fin 128),
      A1 (ix3 b t x) = ((K b t.val x : ℝ) : EReal) := by
    refine ⟨fun b t x => if h : t < 8448 then (A1 (ix3 b ⟨t, h⟩ x) : EReal).toReal else 0, ?_⟩
    intro b t x
    dsimp only
    rw [dif_pos t.isLt, e1]
    exact hk _
  obtain ⟨W, hW⟩ : ∃ W : Fin 4 → Fin 128 → ℕ → EReal, ∀ (b : Fin 4) (t : Fin 8448) (x : Fin 128),
      A2 (ix3 b t x) = W b x t.val := by
    refine ⟨fun b x t => if h : t < 8448 then A2 (ix3 b ⟨t, h⟩ x) else 0, ?_⟩
    intro b t x
    dsimp only
    rw [dif_pos t.isLt]
  rw [Attn.tie A0 A1 A2 A3 Q K W hQ hK hW b T l]
  rw [Cert.KernelIdeal.Value.final_at m c Q K W (fun b t l => (congrFun e0 _).symm.trans (hQ b t l))
    (fun b t x => (congrFun e1 _).symm.trans (hK b t x)) (fun b t x => (congrFun e2 _).symm.trans (hW b t x)) b T l, e3]

/-- The two programs end with equal results. -/
theorem algebraic : Cert.algebraic_KernelIdeal_ReferenceIdeal_pre_finite_qk
    (hKernelIdeal := Cert.KernelIdeal.Gen.facts) (hReferenceIdeal := Cert.ReferenceIdeal.Gen.facts)
    (hPre_finite_qk := preFacts) := by
  intro m g m' g' hpre hag
  refine ⟨fun c => (Cert.KernelIdeal.Gen.dats m 0 c).arrAt 4 Cert.KernelIdeal.cfg0.N,
    Cert.KernelIdeal.Value.run_blocks m g, ?_⟩
  refine (θ_run Cert.ReferenceIdeal.defs _ _).mono (fun r h c => ⟨(h c).1.trans ?_, (h c).2⟩)
    (Cert.ReferenceIdeal.Value.run (F := Ideal) m' g')
  obtain ⟨e0, e1, e2, e3⟩ := hag c
  haveI := preFacts
  obtain ⟨hq, hk⟩ := reals _ _ _ _ (hpre c)
  rw [Cert.ReferenceIdeal.Value.res_eq]
  funext i
  rw [ix3_self i]
  exact arrays_eq m c hq hk _ _ _ _ e0 e1 e2 e3 (i 0) (i 1) (i 2)

/-- The input projection runs and leaves its arguments and its semaphores as they were. -/
theorem frameK2 : Cert.quiescent_Kernel2 (hKernel2 := Cert.Kernel2.Gen.facts) := fun m ρ _ => Cert.Kernel2.Gen.frame m ρ

/-- So does the input projection on extended reals. -/
theorem frameKI2 : Cert.quiescent_Kernel2Ideal (hKernel2Ideal := Cert.Kernel2Ideal.Gen.facts) :=
  fun m ρ _ => Cert.Kernel2Ideal.Gen.frame m ρ

/-- So does the input projection on extended reals, from numbers. -/
theorem frameKI2_pre : Cert.quiescent_Kernel2Ideal_pre_finite_in (hKernel2Ideal := Cert.Kernel2Ideal.Gen.facts)
    (hPre_finite_in := preFactsIn) :=
  fun m ρ _ => Cert.Kernel2Ideal.Gen.frame m ρ

/-- So does the input projection's reference on extended reals. -/
theorem frameRI2 : Cert.quiescent_Reference2Ideal (hReference2Ideal := Cert.Reference2Ideal.Gen.facts) :=
  fun m ρ _ => (θ_run Cert.Reference2Ideal.defs _ _).mono
    (fun r h => ⟨fun c => (h c).2.2.2.2.2.2.2.2.2.2.2.2.2, Idealize.ShloMosaic.sem_eq_zero_of_no_sems (by decide) r.2⟩)
    (Cert.Reference2Ideal.Value.run_outs m ρ)

/-- So does the input projection's reference on extended reals, from numbers. -/
theorem frameRI2_pre : Cert.quiescent_Reference2Ideal_pre_finite_in (hReference2Ideal := Cert.Reference2Ideal.Gen.facts)
    (hPre_finite_in := preFactsIn) :=
  fun m ρ _ => frameRI2 m ρ trivial

/-- The merge runs to completion and keeps its arguments. -/
theorem frameK3 : Cert.quiescent_Kernel3 (hKernel3 := Cert.Kernel3.Gen.facts) := fun m ρ _ => Cert.Kernel3.Gen.frame m ρ

/-- So does the merge on extended reals. -/
theorem frameKI3 : Cert.quiescent_Kernel3Ideal (hKernel3Ideal := Cert.Kernel3Ideal.Gen.facts) :=
  fun m ρ _ => Cert.Kernel3Ideal.Gen.frame m ρ

/-- So does the merge's reference on extended reals. -/
theorem frameRI3 : Cert.quiescent_Reference3Ideal (hReference3Ideal := Cert.Reference3Ideal.Gen.facts) :=
  fun m ρ _ => (θ_run Cert.Reference3Ideal.defs _ _).mono
    (fun r h => ⟨fun c => (h c).2, Idealize.ShloMosaic.sem_eq_zero_of_no_sems (by decide) r.2⟩)
    (Cert.Reference3Ideal.Value.run m ρ)

/-- The merge's last call runs to completion and keeps its arguments. -/
theorem frameK4 : Cert.quiescent_Kernel4 (hKernel4 := Cert.Kernel4.Gen.facts) := fun m ρ _ => Cert.Kernel4.Gen.frame m ρ

/-- So does the merge's last call on extended reals. -/
theorem frameKI4 : Cert.quiescent_Kernel4Ideal (hKernel4Ideal := Cert.Kernel4Ideal.Gen.facts) :=
  fun m ρ _ => Cert.Kernel4Ideal.Gen.frame m ρ

/-- So does the last call's reference on extended reals. -/
theorem frameRI4 : Cert.quiescent_Reference4Ideal (hReference4Ideal := Cert.Reference4Ideal.Gen.facts) :=
  fun m ρ _ => (θ_run Cert.Reference4Ideal.defs _ _).mono
    (fun r h => ⟨fun c => (h c).2, Idealize.ShloMosaic.sem_eq_zero_of_no_sems (by decide) r.2⟩)
    (Cert.Reference4Ideal.Value.run m ρ)

/-- The modulation runs to completion and keeps its arguments. -/
theorem frameK5 : Cert.quiescent_Kernel5 (hKernel5 := Cert.Kernel5.Gen.facts) := fun m ρ _ => Cert.Kernel5.Gen.frame m ρ

/-- So does the modulation on extended reals. -/
theorem frameKI5 : Cert.quiescent_Kernel5Ideal (hKernel5Ideal := Cert.Kernel5Ideal.Gen.facts) :=
  fun m ρ _ => Cert.Kernel5Ideal.Gen.frame m ρ

/-- So does the modulation's reference on extended reals. -/
theorem frameRI5 : Cert.quiescent_Reference5Ideal (hReference5Ideal := Cert.Reference5Ideal.Gen.facts) :=
  fun m ρ _ => (θ_run Cert.Reference5Ideal.defs _ _).mono
    (fun r h => ⟨fun c => (h c).2, Idealize.ShloMosaic.sem_eq_zero_of_no_sems (by decide) r.2⟩)
    (Cert.Reference5Ideal.Value.run m ρ)

/-- Every claim of the certificate. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    preFacts, preFactsIn,
    frameK, frameKI, frameKI_pre, frameRI, frameRI_pre, frameK2, frameKI2, frameKI2_pre, frameRI2, frameRI2_pre,
    frameK3, frameKI3, frameRI3, frameK4, frameKI4, frameRI4, frameK5, frameKI5, frameRI5,
    trivial, algebraic, trivial, algebraicIn, trivial, Cert.Merge.algebraicMerge, trivial, Cert.Merge.algebraicLast,
    trivial, Cert.Ada.algebraicAda⟩

end Cert.Proof

end
